-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S512x1024 : Shape := ⟨2, ![512, 1024]⟩
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  dot_S2048x512_S512x128_S2048x128_1_0_0_1_n_n_wf : DotDims.WF S2048x512 S512x128 S2048x128 [1] [0] [0] [1] [] []

variable [Facts]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def fn {F : FTy → Type} [FloatOps F] (main_arg0 : FVec F S2048x512 .f32) (main_arg1 : FVec F S512x128 .f32) (main_arg2 : IVec S2048x1 32) (main_arg3 : FVec F S8x512x1024 .f32) (main_arg4 : FVec F S512x1024 .f32) : IVec S2048x128 1 :=
  let main_v0 : FVec F S2048x128 .f32 := (fun l r => Host.dotGeneral dot_S2048x512_S512x128_S2048x128_1_0_0_1_n_n none l r) main_arg0 main_arg1
  let main_v1 : FVec F S2048x128 .f32 := Host.absf main_v0
  let main_cst : FVec F S_ .f32 := constant S_ .f32 0x7F800000#32
  let main_v2 : FVec F S2048x128 .f32 := broadcastInDim S2048x128 ![] bcast_S_S2048x128 main_cst
  let main_v3 : IVec S2048x128 1 := cmpf .olt main_v1 main_v2
  main_v3
-- ==== Pre_finite_scores_ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  dot_S2048x512_S512x128_S2048x128_1_0_0_1_n_n_wf : DotDims.WF S2048x512 S512x128 S2048x128 [1] [0] [0] [1] [] []

variable [Facts]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def fn {F : FTy → Type} [FloatOps F] (main_arg0 : FVec F S2048x512 .f32) (main_arg1 : FVec F S512x128 .f32) (main_arg2 : IVec S2048x1 32) (main_arg3 : FVec F S128x512x1024 .f32) (main_arg4 : FVec F S512x1024 .f32) : IVec S2048x128 1 :=
  let main_v0 : FVec F S2048x128 .f32 := (fun l r => Host.dotGeneral dot_S2048x512_S512x128_S2048x128_1_0_0_1_n_n none l r) main_arg0 main_arg1
  let main_v1 : FVec F S2048x128 .f32 := Host.absf main_v0
  let main_cst : FVec F S_ .f32 := constant S_ .f32 0x7F800000#32
  let main_v2 : FVec F S2048x128 .f32 := broadcastInDim S2048x128 ![] bcast_S_S2048x128 main_cst
  let main_v3 : IVec S2048x128 1 := cmpf .olt main_v1 main_v2
  main_v3
-- ==== Kernel.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S4x8x128x512 : Shape := ⟨4, ![4, 8, 128, 512]⟩
abbrev S4x8 : Shape := ⟨2, ![4, 8]⟩
abbrev S2048x128 : Shape := ⟨2, ![2048, 128]⟩
abbrev S2048 : Shape := ⟨1, ![2048]⟩
abbrev S_ : Shape := ⟨0, ![]⟩
abbrev S128x512 : Shape := ⟨2, ![128, 512]⟩
abbrev S128x1 : Shape := ⟨2, ![128, 1]⟩
abbrev S1x512x512 : Shape := ⟨3, ![1, 512, 512]⟩
abbrev S512x512 : Shape := ⟨2, ![512, 512]⟩
abbrev S1x1 : Shape := ⟨2, ![1, 1]⟩
abbrev S1x1x128x512 : Shape := ⟨4, ![1, 1, 128, 512]⟩
abbrev S128x1024 : Shape := ⟨2, ![128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S8x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x128, .f32⟩
  | .local _ .vmem, ⟨2, _⟩ => ⟨S2048x1, .i32⟩
  | .local _ .vmem, ⟨3, _⟩ => ⟨S8x512x1024, .f32⟩
  | .local _ .vmem, ⟨4, _⟩ => ⟨S512x1024, .f32⟩
  | .local _ .vmem, ⟨5, _⟩ => ⟨S2048x1024, .f32⟩
  | .local _ .vmem, ⟨6, _⟩ => ⟨S2048x1024, .bf16⟩
  | .local _ .vmem, ⟨7, _⟩ => ⟨S4x8x128x512, .bf16⟩
  | .local _ .vmem, ⟨8, _⟩ => ⟨S2048x1, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_90 : BitVec 32 := 1#32
  let v119 : BitVec 32 := Scalar.muli v92 c1_i32_90
  let v120 : BitVec 32 := Scalar.addi c0_i32_91 v119
  v120.toNat
def k0_dev2 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_93 : BitVec 32 := 1#32
  let v121 : BitVec 32 := Scalar.muli v62 c1_i32_93
  let v122 : BitVec 32 := Scalar.addi c0_i32_94 v121
  v122.toNat
def k0_off1 (d0 : Dev nD) (c7_i32_96 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v123 : BitVec 32 := Scalar.subi v32 c7_i32_96
  let c16_i32_97 : BitVec 32 := 16#32
  let c0_i32_98 : BitVec 32 := 0#32
  let v124 : BitVec 1 := Scalar.cmpi .eq c16_i32_97 c0_i32_98
  let c1_i32_99 : BitVec 32 := 1#32
  let v125 : BitVec 32 := Scalar.select v124 c1_i32_99 c16_i32_97
  let v126 : BitVec 32 := Scalar.remsi v123 v125
  let c0_i32_101 : BitVec 32 := 0#32
  let v128 : BitVec 1 := Scalar.cmpi .slt v126 c0_i32_101
  let c0_i32_102 : BitVec 32 := 0#32
  let v129 : BitVec 1 := Scalar.cmpi .slt v125 c0_i32_102
  let v130 : BitVec 1 := Scalar.xori v128 v129
  let c0_i32_100 : BitVec 32 := 0#32
  let v127 : BitVec 1 := Scalar.cmpi .ne v126 c0_i32_100
  let v131 : BitVec 1 := Scalar.andi v130 v127
  let v132 : BitVec 32 := Scalar.addi v126 v125
  let v133 : BitVec 32 := Scalar.select v131 v132 v126
  let c128_i32 : BitVec 32 := 128#32
  let v134 : BitVec 32 := Scalar.muli v133 c128_i32
  let v135 : Index := Scalar.indexCast v134
  let c0_103 : Index := 0#32
  ![v135.toNat, 0]
def k0_off2 (d0 : Dev nD) (c7_i32_96 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v123 : BitVec 32 := Scalar.subi v32 c7_i32_96
  let c16_i32_97 : BitVec 32 := 16#32
  let c0_i32_98 : BitVec 32 := 0#32
  let v124 : BitVec 1 := Scalar.cmpi .eq c16_i32_97 c0_i32_98
  let c1_i32_99 : BitVec 32 := 1#32
  let v125 : BitVec 32 := Scalar.select v124 c1_i32_99 c16_i32_97
  let v126 : BitVec 32 := Scalar.remsi v123 v125
  let c0_i32_101 : BitVec 32 := 0#32
  let v128 : BitVec 1 := Scalar.cmpi .slt v126 c0_i32_101
  let c0_i32_102 : BitVec 32 := 0#32
  let v129 : BitVec 1 := Scalar.cmpi .slt v125 c0_i32_102
  let v130 : BitVec 1 := Scalar.xori v128 v129
  let c0_i32_100 : BitVec 32 := 0#32
  let v127 : BitVec 1 := Scalar.cmpi .ne v126 c0_i32_100
  let v131 : BitVec 1 := Scalar.andi v130 v127
  let v132 : BitVec 32 := Scalar.addi v126 v125
  let v133 : BitVec 32 := Scalar.select v131 v132 v126
  let c128_i32 : BitVec 32 := 128#32
  let v134 : BitVec 32 := Scalar.muli v133 c128_i32
  let v138 : Index := Scalar.indexCast v134
  let c0_104 : Index := 0#32
  ![v138.toNat, 0]
def k0_off3 (d0 : Dev nD) (c7_i32_96 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v123 : BitVec 32 := Scalar.subi v32 c7_i32_96
  let c16_i32_97 : BitVec 32 := 16#32
  let c0_i32_98 : BitVec 32 := 0#32
  let v124 : BitVec 1 := Scalar.cmpi .eq c16_i32_97 c0_i32_98
  let c1_i32_99 : BitVec 32 := 1#32
  let v125 : BitVec 32 := Scalar.select v124 c1_i32_99 c16_i32_97
  let v126 : BitVec 32 := Scalar.remsi v123 v125
  let c0_i32_101 : BitVec 32 := 0#32
  let v128 : BitVec 1 := Scalar.cmpi .slt v126 c0_i32_101
  let c0_i32_102 : BitVec 32 := 0#32
  let v129 : BitVec 1 := Scalar.cmpi .slt v125 c0_i32_102
  let v130 : BitVec 1 := Scalar.xori v128 v129
  let c0_i32_100 : BitVec 32 := 0#32
  let v127 : BitVec 1 := Scalar.cmpi .ne v126 c0_i32_100
  let v131 : BitVec 1 := Scalar.andi v130 v127
  let v132 : BitVec 32 := Scalar.addi v126 v125
  let v133 : BitVec 32 := Scalar.select v131 v132 v126
  let c128_i32 : BitVec 32 := 128#32
  let v134 : BitVec 32 := Scalar.muli v133 c128_i32
  let v241 : Index := Scalar.indexCast v134
  let c0_156 : Index := 0#32
  ![v241.toNat, 0]
def k0_off4 (d0 : Dev nD) (c9_i32_157 : BitVec 32) (c0_i32_158 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v245 : BitVec 32 := Scalar.addi v32 c9_i32_157
  let v246 : BitVec 32 := Scalar.subi v245 c0_i32_158
  let c16_i32_159 : BitVec 32 := 16#32
  let c0_i32_160 : BitVec 32 := 0#32
  let v247 : BitVec 1 := Scalar.cmpi .eq c16_i32_159 c0_i32_160
  let c1_i32_161 : BitVec 32 := 1#32
  let v248 : BitVec 32 := Scalar.select v247 c1_i32_161 c16_i32_159
  let v249 : BitVec 32 := Scalar.remsi v246 v248
  let c0_i32_163 : BitVec 32 := 0#32
  let v251 : BitVec 1 := Scalar.cmpi .slt v249 c0_i32_163
  let c0_i32_164 : BitVec 32 := 0#32
  let v252 : BitVec 1 := Scalar.cmpi .slt v248 c0_i32_164
  let v253 : BitVec 1 := Scalar.xori v251 v252
  let c0_i32_162 : BitVec 32 := 0#32
  let v250 : BitVec 1 := Scalar.cmpi .ne v249 c0_i32_162
  let v254 : BitVec 1 := Scalar.andi v253 v250
  let v255 : BitVec 32 := Scalar.addi v249 v248
  let v256 : BitVec 32 := Scalar.select v254 v255 v249
  let c128_i32_165 : BitVec 32 := 128#32
  let v257 : BitVec 32 := Scalar.muli v256 c128_i32_165
  let c0_i32_176 : BitVec 32 := 0#32
  ![v257.toNat, 0]
def k0_dev3 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_172 : BitVec 32 := 1#32
  let v258 : BitVec 32 := Scalar.muli v62 c1_i32_172
  let v259 : BitVec 32 := Scalar.addi c0_i32_173 v258
  v259.toNat
def k0_off5 (d0 : Dev nD) (c7_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v267 : BitVec 32 := Scalar.addi v32 c7_i32_177
  let c16_i32_178 : BitVec 32 := 16#32
  let c0_i32_179 : BitVec 32 := 0#32
  let v268 : BitVec 1 := Scalar.cmpi .eq c16_i32_178 c0_i32_179
  let c1_i32_180 : BitVec 32 := 1#32
  let v269 : BitVec 32 := Scalar.select v268 c1_i32_180 c16_i32_178
  let v270 : BitVec 32 := Scalar.remsi v267 v269
  let c0_i32_182 : BitVec 32 := 0#32
  let v272 : BitVec 1 := Scalar.cmpi .slt v270 c0_i32_182
  let c0_i32_183 : BitVec 32 := 0#32
  let v273 : BitVec 1 := Scalar.cmpi .slt v269 c0_i32_183
  let v274 : BitVec 1 := Scalar.xori v272 v273
  let c0_i32_181 : BitVec 32 := 0#32
  let v271 : BitVec 1 := Scalar.cmpi .ne v270 c0_i32_181
  let v275 : BitVec 1 := Scalar.andi v274 v271
  let v276 : BitVec 32 := Scalar.addi v270 v269
  let v277 : BitVec 32 := Scalar.select v275 v276 v270
  let c128_i32_184 : BitVec 32 := 128#32
  let v278 : BitVec 32 := Scalar.muli v277 c128_i32_184
  let v279 : Index := Scalar.indexCast v278
  let c0_185 : Index := 0#32
  ![v279.toNat, 0]
def k0_off5_at (r : Fin 16) : BitVec 32 :=
  if r.val < 8 then
    if r.val < 4 then
      if r.val < 2 then
        if r.val < 1 then
          7#32
        else
          6#32
      else
        if r.val < 3 then
          0#32
        else
          1#32
    else
      if r.val < 6 then
        if r.val < 5 then
          4294967295#32
        else
          2#32
      else
        if r.val < 7 then
          4294967294#32
        else
          3#32
  else
    if r.val < 12 then
      if r.val < 10 then
        if r.val < 9 then
          4294967293#32
        else
          4#32
      else
        if r.val < 11 then
          4294967292#32
        else
          5#32
    else
      if r.val < 14 then
        if r.val < 13 then
          4294967291#32
        else
          4294967290#32
      else
        if r.val < 15 then
          8#32
        else
          4294967289#32
def k0_off6 (d0 : Dev nD) (c7_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v267 : BitVec 32 := Scalar.addi v32 c7_i32_177
  let c16_i32_178 : BitVec 32 := 16#32
  let c0_i32_179 : BitVec 32 := 0#32
  let v268 : BitVec 1 := Scalar.cmpi .eq c16_i32_178 c0_i32_179
  let c1_i32_180 : BitVec 32 := 1#32
  let v269 : BitVec 32 := Scalar.select v268 c1_i32_180 c16_i32_178
  let v270 : BitVec 32 := Scalar.remsi v267 v269
  let c0_i32_182 : BitVec 32 := 0#32
  let v272 : BitVec 1 := Scalar.cmpi .slt v270 c0_i32_182
  let c0_i32_183 : BitVec 32 := 0#32
  let v273 : BitVec 1 := Scalar.cmpi .slt v269 c0_i32_183
  let v274 : BitVec 1 := Scalar.xori v272 v273
  let c0_i32_181 : BitVec 32 := 0#32
  let v271 : BitVec 1 := Scalar.cmpi .ne v270 c0_i32_181
  let v275 : BitVec 1 := Scalar.andi v274 v271
  let v276 : BitVec 32 := Scalar.addi v270 v269
  let v277 : BitVec 32 := Scalar.select v275 v276 v270
  let c128_i32_184 : BitVec 32 := 128#32
  let v278 : BitVec 32 := Scalar.muli v277 c128_i32_184
  let v282 : Index := Scalar.indexCast v278
  let c0_186 : Index := 0#32
  ![v282.toNat, 0]
def k0_off7 (d0 : Dev nD) (c7_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v267 : BitVec 32 := Scalar.addi v32 c7_i32_177
  let c16_i32_178 : BitVec 32 := 16#32
  let c0_i32_179 : BitVec 32 := 0#32
  let v268 : BitVec 1 := Scalar.cmpi .eq c16_i32_178 c0_i32_179
  let c1_i32_180 : BitVec 32 := 1#32
  let v269 : BitVec 32 := Scalar.select v268 c1_i32_180 c16_i32_178
  let v270 : BitVec 32 := Scalar.remsi v267 v269
  let c0_i32_182 : BitVec 32 := 0#32
  let v272 : BitVec 1 := Scalar.cmpi .slt v270 c0_i32_182
  let c0_i32_183 : BitVec 32 := 0#32
  let v273 : BitVec 1 := Scalar.cmpi .slt v269 c0_i32_183
  let v274 : BitVec 1 := Scalar.xori v272 v273
  let c0_i32_181 : BitVec 32 := 0#32
  let v271 : BitVec 1 := Scalar.cmpi .ne v270 c0_i32_181
  let v275 : BitVec 1 := Scalar.andi v274 v271
  let v276 : BitVec 32 := Scalar.addi v270 v269
  let v277 : BitVec 32 := Scalar.select v275 v276 v270
  let c128_i32_184 : BitVec 32 := 128#32
  let v278 : BitVec 32 := Scalar.muli v277 c128_i32_184
  let v385 : Index := Scalar.indexCast v278
  let c512_244 : Index := 512#32
  ![v385.toNat, 512]
def k0_off8 (d0 : Dev nD) (c0_i32_246 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c7_i32_245 : BitVec 32 := 7#32
  let v389 : BitVec 32 := Scalar.addi v32 c7_i32_245
  let v390 : BitVec 32 := Scalar.addi v389 c0_i32_246
  let c16_i32_247 : BitVec 32 := 16#32
  let c0_i32_248 : BitVec 32 := 0#32
  let v391 : BitVec 1 := Scalar.cmpi .eq c16_i32_247 c0_i32_248
  let c1_i32_249 : BitVec 32 := 1#32
  let v392 : BitVec 32 := Scalar.select v391 c1_i32_249 c16_i32_247
  let v393 : BitVec 32 := Scalar.remsi v390 v392
  let c0_i32_251 : BitVec 32 := 0#32
  let v395 : BitVec 1 := Scalar.cmpi .slt v393 c0_i32_251
  let c0_i32_252 : BitVec 32 := 0#32
  let v396 : BitVec 1 := Scalar.cmpi .slt v392 c0_i32_252
  let v397 : BitVec 1 := Scalar.xori v395 v396
  let c0_i32_250 : BitVec 32 := 0#32
  let v394 : BitVec 1 := Scalar.cmpi .ne v393 c0_i32_250
  let v398 : BitVec 1 := Scalar.andi v397 v394
  let v399 : BitVec 32 := Scalar.addi v393 v392
  let v400 : BitVec 32 := Scalar.select v398 v399 v393
  let c128_i32_253 : BitVec 32 := 128#32
  let v401 : BitVec 32 := Scalar.muli v400 c128_i32_253
  let c512_i32 : BitVec 32 := 512#32
  ![v401.toNat, 512]
def k0_dev4 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_260 : BitVec 32 := 1#32
  let v402 : BitVec 32 := Scalar.muli v92 c1_i32_260
  let v403 : BitVec 32 := Scalar.addi c0_i32_261 v402
  v403.toNat
def k0_off9 (d0 : Dev nD) (c0_i32_334 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c6_i32_333 : BitVec 32 := 6#32
  let v533 : BitVec 32 := Scalar.subi v32 c6_i32_333
  let v534 : BitVec 32 := Scalar.addi v533 c0_i32_334
  let c16_i32_335 : BitVec 32 := 16#32
  let c0_i32_336 : BitVec 32 := 0#32
  let v535 : BitVec 1 := Scalar.cmpi .eq c16_i32_335 c0_i32_336
  let c1_i32_337 : BitVec 32 := 1#32
  let v536 : BitVec 32 := Scalar.select v535 c1_i32_337 c16_i32_335
  let v537 : BitVec 32 := Scalar.remsi v534 v536
  let c0_i32_339 : BitVec 32 := 0#32
  let v539 : BitVec 1 := Scalar.cmpi .slt v537 c0_i32_339
  let c0_i32_340 : BitVec 32 := 0#32
  let v540 : BitVec 1 := Scalar.cmpi .slt v536 c0_i32_340
  let v541 : BitVec 1 := Scalar.xori v539 v540
  let c0_i32_338 : BitVec 32 := 0#32
  let v538 : BitVec 1 := Scalar.cmpi .ne v537 c0_i32_338
  let v542 : BitVec 1 := Scalar.andi v541 v538
  let v543 : BitVec 32 := Scalar.addi v537 v536
  let v544 : BitVec 32 := Scalar.select v542 v543 v537
  let c128_i32_341 : BitVec 32 := 128#32
  let v545 : BitVec 32 := Scalar.muli v544 c128_i32_341
  let c0_i32_352 : BitVec 32 := 0#32
  ![v545.toNat, 0]
def k0_dev5 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_348 : BitVec 32 := 1#32
  let v546 : BitVec 32 := Scalar.muli v92 c1_i32_348
  let v547 : BitVec 32 := Scalar.addi c0_i32_349 v546
  v547.toNat
def k0_off10 (d0 : Dev nD) (c0_i32_423 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c6_i32_422 : BitVec 32 := 6#32
  let v677 : BitVec 32 := Scalar.addi v32 c6_i32_422
  let v678 : BitVec 32 := Scalar.subi v677 c0_i32_423
  let c16_i32_424 : BitVec 32 := 16#32
  let c0_i32_425 : BitVec 32 := 0#32
  let v679 : BitVec 1 := Scalar.cmpi .eq c16_i32_424 c0_i32_425
  let c1_i32_426 : BitVec 32 := 1#32
  let v680 : BitVec 32 := Scalar.select v679 c1_i32_426 c16_i32_424
  let v681 : BitVec 32 := Scalar.remsi v678 v680
  let c0_i32_428 : BitVec 32 := 0#32
  let v683 : BitVec 1 := Scalar.cmpi .slt v681 c0_i32_428
  let c0_i32_429 : BitVec 32 := 0#32
  let v684 : BitVec 1 := Scalar.cmpi .slt v680 c0_i32_429
  let v685 : BitVec 1 := Scalar.xori v683 v684
  let c0_i32_427 : BitVec 32 := 0#32
  let v682 : BitVec 1 := Scalar.cmpi .ne v681 c0_i32_427
  let v686 : BitVec 1 := Scalar.andi v685 v682
  let v687 : BitVec 32 := Scalar.addi v681 v680
  let v688 : BitVec 32 := Scalar.select v686 v687 v681
  let c128_i32_430 : BitVec 32 := 128#32
  let v689 : BitVec 32 := Scalar.muli v688 c128_i32_430
  let c512_i32_441 : BitVec 32 := 512#32
  ![v689.toNat, 512]
def k0_dev6 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_437 : BitVec 32 := 1#32
  let v690 : BitVec 32 := Scalar.muli v62 c1_i32_437
  let v691 : BitVec 32 := Scalar.addi c0_i32_438 v690
  v691.toNat
def k0_off11 (d0 : Dev nD) (c8_i32_442 : BitVec 32) (c0_i32_443 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v699 : BitVec 32 := Scalar.addi v32 c8_i32_442
  let v700 : BitVec 32 := Scalar.subi v699 c0_i32_443
  let c16_i32_444 : BitVec 32 := 16#32
  let c0_i32_445 : BitVec 32 := 0#32
  let v701 : BitVec 1 := Scalar.cmpi .eq c16_i32_444 c0_i32_445
  let c1_i32_446 : BitVec 32 := 1#32
  let v702 : BitVec 32 := Scalar.select v701 c1_i32_446 c16_i32_444
  let v703 : BitVec 32 := Scalar.remsi v700 v702
  let c0_i32_448 : BitVec 32 := 0#32
  let v705 : BitVec 1 := Scalar.cmpi .slt v703 c0_i32_448
  let c0_i32_449 : BitVec 32 := 0#32
  let v706 : BitVec 1 := Scalar.cmpi .slt v702 c0_i32_449
  let v707 : BitVec 1 := Scalar.xori v705 v706
  let c0_i32_447 : BitVec 32 := 0#32
  let v704 : BitVec 1 := Scalar.cmpi .ne v703 c0_i32_447
  let v708 : BitVec 1 := Scalar.andi v707 v704
  let v709 : BitVec 32 := Scalar.addi v703 v702
  let v710 : BitVec 32 := Scalar.select v708 v709 v703
  let c128_i32_450 : BitVec 32 := 128#32
  let v711 : BitVec 32 := Scalar.muli v710 c128_i32_450
  let v712 : Index := Scalar.indexCast v711
  let c0_451 : Index := 0#32
  ![v712.toNat, 0]
def k0_off12 (d0 : Dev nD) (c8_i32_442 : BitVec 32) (c0_i32_443 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v699 : BitVec 32 := Scalar.addi v32 c8_i32_442
  let v700 : BitVec 32 := Scalar.subi v699 c0_i32_443
  let c16_i32_444 : BitVec 32 := 16#32
  let c0_i32_445 : BitVec 32 := 0#32
  let v701 : BitVec 1 := Scalar.cmpi .eq c16_i32_444 c0_i32_445
  let c1_i32_446 : BitVec 32 := 1#32
  let v702 : BitVec 32 := Scalar.select v701 c1_i32_446 c16_i32_444
  let v703 : BitVec 32 := Scalar.remsi v700 v702
  let c0_i32_448 : BitVec 32 := 0#32
  let v705 : BitVec 1 := Scalar.cmpi .slt v703 c0_i32_448
  let c0_i32_449 : BitVec 32 := 0#32
  let v706 : BitVec 1 := Scalar.cmpi .slt v702 c0_i32_449
  let v707 : BitVec 1 := Scalar.xori v705 v706
  let c0_i32_447 : BitVec 32 := 0#32
  let v704 : BitVec 1 := Scalar.cmpi .ne v703 c0_i32_447
  let v708 : BitVec 1 := Scalar.andi v707 v704
  let v709 : BitVec 32 := Scalar.addi v703 v702
  let v710 : BitVec 32 := Scalar.select v708 v709 v703
  let c128_i32_450 : BitVec 32 := 128#32
  let v711 : BitVec 32 := Scalar.muli v710 c128_i32_450
  let v715 : Index := Scalar.indexCast v711
  let c0_452 : Index := 0#32
  ![v715.toNat, 0]
def k0_off13 (d0 : Dev nD) (c0_i32_443 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c8_i32_442 : BitVec 32 := 8#32
  let v699 : BitVec 32 := Scalar.addi v32 c8_i32_442
  let v700 : BitVec 32 := Scalar.subi v699 c0_i32_443
  let c16_i32_444 : BitVec 32 := 16#32
  let c0_i32_445 : BitVec 32 := 0#32
  let v701 : BitVec 1 := Scalar.cmpi .eq c16_i32_444 c0_i32_445
  let c1_i32_446 : BitVec 32 := 1#32
  let v702 : BitVec 32 := Scalar.select v701 c1_i32_446 c16_i32_444
  let v703 : BitVec 32 := Scalar.remsi v700 v702
  let c0_i32_448 : BitVec 32 := 0#32
  let v705 : BitVec 1 := Scalar.cmpi .slt v703 c0_i32_448
  let c0_i32_449 : BitVec 32 := 0#32
  let v706 : BitVec 1 := Scalar.cmpi .slt v702 c0_i32_449
  let v707 : BitVec 1 := Scalar.xori v705 v706
  let c0_i32_447 : BitVec 32 := 0#32
  let v704 : BitVec 1 := Scalar.cmpi .ne v703 c0_i32_447
  let v708 : BitVec 1 := Scalar.andi v707 v704
  let v709 : BitVec 32 := Scalar.addi v703 v702
  let v710 : BitVec 32 := Scalar.select v708 v709 v703
  let c128_i32_450 : BitVec 32 := 128#32
  let v711 : BitVec 32 := Scalar.muli v710 c128_i32_450
  let v818 : Index := Scalar.indexCast v711
  let c0_511 : Index := 0#32
  ![v818.toNat, 0]
def k0_off14 (d0 : Dev nD) (c5_i32_512 : BitVec 32) (c0_i32_513 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v822 : BitVec 32 := Scalar.subi v32 c5_i32_512
  let v823 : BitVec 32 := Scalar.addi v822 c0_i32_513
  let c16_i32_514 : BitVec 32 := 16#32
  let c0_i32_515 : BitVec 32 := 0#32
  let v824 : BitVec 1 := Scalar.cmpi .eq c16_i32_514 c0_i32_515
  let c1_i32_516 : BitVec 32 := 1#32
  let v825 : BitVec 32 := Scalar.select v824 c1_i32_516 c16_i32_514
  let v826 : BitVec 32 := Scalar.remsi v823 v825
  let c0_i32_518 : BitVec 32 := 0#32
  let v828 : BitVec 1 := Scalar.cmpi .slt v826 c0_i32_518
  let c0_i32_519 : BitVec 32 := 0#32
  let v829 : BitVec 1 := Scalar.cmpi .slt v825 c0_i32_519
  let v830 : BitVec 1 := Scalar.xori v828 v829
  let c0_i32_517 : BitVec 32 := 0#32
  let v827 : BitVec 1 := Scalar.cmpi .ne v826 c0_i32_517
  let v831 : BitVec 1 := Scalar.andi v830 v827
  let v832 : BitVec 32 := Scalar.addi v826 v825
  let v833 : BitVec 32 := Scalar.select v831 v832 v826
  let c128_i32_520 : BitVec 32 := 128#32
  let v834 : BitVec 32 := Scalar.muli v833 c128_i32_520
  let v835 : Index := Scalar.indexCast v834
  let c0_521 : Index := 0#32
  ![v835.toNat, 0]
def k0_off15 (d0 : Dev nD) (c5_i32_512 : BitVec 32) (c0_i32_513 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v822 : BitVec 32 := Scalar.subi v32 c5_i32_512
  let v823 : BitVec 32 := Scalar.addi v822 c0_i32_513
  let c16_i32_514 : BitVec 32 := 16#32
  let c0_i32_515 : BitVec 32 := 0#32
  let v824 : BitVec 1 := Scalar.cmpi .eq c16_i32_514 c0_i32_515
  let c1_i32_516 : BitVec 32 := 1#32
  let v825 : BitVec 32 := Scalar.select v824 c1_i32_516 c16_i32_514
  let v826 : BitVec 32 := Scalar.remsi v823 v825
  let c0_i32_518 : BitVec 32 := 0#32
  let v828 : BitVec 1 := Scalar.cmpi .slt v826 c0_i32_518
  let c0_i32_519 : BitVec 32 := 0#32
  let v829 : BitVec 1 := Scalar.cmpi .slt v825 c0_i32_519
  let v830 : BitVec 1 := Scalar.xori v828 v829
  let c0_i32_517 : BitVec 32 := 0#32
  let v827 : BitVec 1 := Scalar.cmpi .ne v826 c0_i32_517
  let v831 : BitVec 1 := Scalar.andi v830 v827
  let v832 : BitVec 32 := Scalar.addi v826 v825
  let v833 : BitVec 32 := Scalar.select v831 v832 v826
  let c128_i32_520 : BitVec 32 := 128#32
  let v834 : BitVec 32 := Scalar.muli v833 c128_i32_520
  let v838 : Index := Scalar.indexCast v834
  let c0_522 : Index := 0#32
  ![v838.toNat, 0]
def k0_off16 (d0 : Dev nD) (c0_i32_513 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c5_i32_512 : BitVec 32 := 5#32
  let v822 : BitVec 32 := Scalar.subi v32 c5_i32_512
  let v823 : BitVec 32 := Scalar.addi v822 c0_i32_513
  let c16_i32_514 : BitVec 32 := 16#32
  let c0_i32_515 : BitVec 32 := 0#32
  let v824 : BitVec 1 := Scalar.cmpi .eq c16_i32_514 c0_i32_515
  let c1_i32_516 : BitVec 32 := 1#32
  let v825 : BitVec 32 := Scalar.select v824 c1_i32_516 c16_i32_514
  let v826 : BitVec 32 := Scalar.remsi v823 v825
  let c0_i32_518 : BitVec 32 := 0#32
  let v828 : BitVec 1 := Scalar.cmpi .slt v826 c0_i32_518
  let c0_i32_519 : BitVec 32 := 0#32
  let v829 : BitVec 1 := Scalar.cmpi .slt v825 c0_i32_519
  let v830 : BitVec 1 := Scalar.xori v828 v829
  let c0_i32_517 : BitVec 32 := 0#32
  let v827 : BitVec 1 := Scalar.cmpi .ne v826 c0_i32_517
  let v831 : BitVec 1 := Scalar.andi v830 v827
  let v832 : BitVec 32 := Scalar.addi v826 v825
  let v833 : BitVec 32 := Scalar.select v831 v832 v826
  let c128_i32_520 : BitVec 32 := 128#32
  let v834 : BitVec 32 := Scalar.muli v833 c128_i32_520
  let v941 : Index := Scalar.indexCast v834
  let c0_581 : Index := 0#32
  ![v941.toNat, 0]
def k0_off17 (d0 : Dev nD) (c0_i32_583 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c8_i32_582 : BitVec 32 := 8#32
  let v945 : BitVec 32 := Scalar.subi v32 c8_i32_582
  let v946 : BitVec 32 := Scalar.addi v945 c0_i32_583
  let c16_i32_584 : BitVec 32 := 16#32
  let c0_i32_585 : BitVec 32 := 0#32
  let v947 : BitVec 1 := Scalar.cmpi .eq c16_i32_584 c0_i32_585
  let c1_i32_586 : BitVec 32 := 1#32
  let v948 : BitVec 32 := Scalar.select v947 c1_i32_586 c16_i32_584
  let v949 : BitVec 32 := Scalar.remsi v946 v948
  let c0_i32_588 : BitVec 32 := 0#32
  let v951 : BitVec 1 := Scalar.cmpi .slt v949 c0_i32_588
  let c0_i32_589 : BitVec 32 := 0#32
  let v952 : BitVec 1 := Scalar.cmpi .slt v948 c0_i32_589
  let v953 : BitVec 1 := Scalar.xori v951 v952
  let c0_i32_587 : BitVec 32 := 0#32
  let v950 : BitVec 1 := Scalar.cmpi .ne v949 c0_i32_587
  let v954 : BitVec 1 := Scalar.andi v953 v950
  let v955 : BitVec 32 := Scalar.addi v949 v948
  let v956 : BitVec 32 := Scalar.select v954 v955 v949
  let c128_i32_590 : BitVec 32 := 128#32
  let v957 : BitVec 32 := Scalar.muli v956 c128_i32_590
  let v1064 : Index := Scalar.indexCast v957
  let c512_651 : Index := 512#32
  ![v1064.toNat, 512]
def k0_off18 (d0 : Dev nD) (c0_i32_653 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c5_i32_652 : BitVec 32 := 5#32
  let v1068 : BitVec 32 := Scalar.addi v32 c5_i32_652
  let v1069 : BitVec 32 := Scalar.subi v1068 c0_i32_653
  let c16_i32_654 : BitVec 32 := 16#32
  let c0_i32_655 : BitVec 32 := 0#32
  let v1070 : BitVec 1 := Scalar.cmpi .eq c16_i32_654 c0_i32_655
  let c1_i32_656 : BitVec 32 := 1#32
  let v1071 : BitVec 32 := Scalar.select v1070 c1_i32_656 c16_i32_654
  let v1072 : BitVec 32 := Scalar.remsi v1069 v1071
  let c0_i32_658 : BitVec 32 := 0#32
  let v1074 : BitVec 1 := Scalar.cmpi .slt v1072 c0_i32_658
  let c0_i32_659 : BitVec 32 := 0#32
  let v1075 : BitVec 1 := Scalar.cmpi .slt v1071 c0_i32_659
  let v1076 : BitVec 1 := Scalar.xori v1074 v1075
  let c0_i32_657 : BitVec 32 := 0#32
  let v1073 : BitVec 1 := Scalar.cmpi .ne v1072 c0_i32_657
  let v1077 : BitVec 1 := Scalar.andi v1076 v1073
  let v1078 : BitVec 32 := Scalar.addi v1072 v1071
  let v1079 : BitVec 32 := Scalar.select v1077 v1078 v1072
  let c128_i32_660 : BitVec 32 := 128#32
  let v1080 : BitVec 32 := Scalar.muli v1079 c128_i32_660
  let v1187 : Index := Scalar.indexCast v1080
  let c512_721 : Index := 512#32
  ![v1187.toNat, 512]
def k0_dev7 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_763 : BitVec 32 := 1#32
  let v1233 : BitVec 32 := Scalar.muli v62 c1_i32_763
  let v1234 : BitVec 32 := Scalar.addi c0_i32_764 v1233
  v1234.toNat
def k0_dev8 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_809 : BitVec 32 := 1#32
  let v1284 : BitVec 32 := Scalar.muli v92 c1_i32_809
  let v1285 : BitVec 32 := Scalar.addi c0_i32_810 v1284
  v1285.toNat
def k0_dev9 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_855 : BitVec 32 := 1#32
  let v1335 : BitVec 32 := Scalar.muli v92 c1_i32_855
  let v1336 : BitVec 32 := Scalar.addi c0_i32_856 v1335
  v1336.toNat
def k0_dev10 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_901 : BitVec 32 := 1#32
  let v1386 : BitVec 32 := Scalar.muli v62 c1_i32_901
  let v1387 : BitVec 32 := Scalar.addi c0_i32_902 v1386
  v1387.toNat
def k0_dev11 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1227 : BitVec 32 := 1#32
  let v1929 : BitVec 32 := Scalar.muli v62 c1_i32_1227
  let v1930 : BitVec 32 := Scalar.addi c0_i32_1228 v1929
  v1930.toNat
def k0_dev12 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1273 : BitVec 32 := 1#32
  let v1980 : BitVec 32 := Scalar.muli v92 c1_i32_1273
  let v1981 : BitVec 32 := Scalar.addi c0_i32_1274 v1980
  v1981.toNat
def k0_dev13 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1319 : BitVec 32 := 1#32
  let v2031 : BitVec 32 := Scalar.muli v92 c1_i32_1319
  let v2032 : BitVec 32 := Scalar.addi c0_i32_1320 v2031
  v2032.toNat
def k0_dev14 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1365 : BitVec 32 := 1#32
  let v2082 : BitVec 32 := Scalar.muli v62 c1_i32_1365
  let v2083 : BitVec 32 := Scalar.addi c0_i32_1366 v2082
  v2083.toNat
def k0_dev15 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1691 : BitVec 32 := 1#32
  let v2625 : BitVec 32 := Scalar.muli v62 c1_i32_1691
  let v2626 : BitVec 32 := Scalar.addi c0_i32_1692 v2625
  v2626.toNat
def k0_dev16 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1737 : BitVec 32 := 1#32
  let v2676 : BitVec 32 := Scalar.muli v92 c1_i32_1737
  let v2677 : BitVec 32 := Scalar.addi c0_i32_1738 v2676
  v2677.toNat
def k0_dev17 (d0 : Dev nD) : Nat :=
  let c0_i32_1784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1783 : BitVec 32 := 1#32
  let v2727 : BitVec 32 := Scalar.muli v92 c1_i32_1783
  let v2728 : BitVec 32 := Scalar.addi c0_i32_1784 v2727
  v2728.toNat
def k0_dev18 (d0 : Dev nD) : Nat :=
  let c0_i32_1830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1829 : BitVec 32 := 1#32
  let v2778 : BitVec 32 := Scalar.muli v62 c1_i32_1829
  let v2779 : BitVec 32 := Scalar.addi c0_i32_1830 v2778
  v2779.toNat
def k0_dev19 (d0 : Dev nD) : Nat :=
  let c0_i32_2156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2155 : BitVec 32 := 1#32
  let v3321 : BitVec 32 := Scalar.muli v62 c1_i32_2155
  let v3322 : BitVec 32 := Scalar.addi c0_i32_2156 v3321
  v3322.toNat
def k0_dev20 (d0 : Dev nD) : Nat :=
  let c0_i32_2202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2201 : BitVec 32 := 1#32
  let v3372 : BitVec 32 := Scalar.muli v92 c1_i32_2201
  let v3373 : BitVec 32 := Scalar.addi c0_i32_2202 v3372
  v3373.toNat
def k0_dev21 (d0 : Dev nD) : Nat :=
  let c0_i32_2248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2247 : BitVec 32 := 1#32
  let v3423 : BitVec 32 := Scalar.muli v92 c1_i32_2247
  let v3424 : BitVec 32 := Scalar.addi c0_i32_2248 v3423
  v3424.toNat
def k0_dev22 (d0 : Dev nD) : Nat :=
  let c0_i32_2294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2293 : BitVec 32 := 1#32
  let v3474 : BitVec 32 := Scalar.muli v62 c1_i32_2293
  let v3475 : BitVec 32 := Scalar.addi c0_i32_2294 v3474
  v3475.toNat
def k0_dev23 (d0 : Dev nD) : Nat :=
  let c0_i32_2620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2619 : BitVec 32 := 1#32
  let v4017 : BitVec 32 := Scalar.muli v62 c1_i32_2619
  let v4018 : BitVec 32 := Scalar.addi c0_i32_2620 v4017
  v4018.toNat
def k0_dev24 (d0 : Dev nD) : Nat :=
  let c0_i32_2666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2665 : BitVec 32 := 1#32
  let v4068 : BitVec 32 := Scalar.muli v92 c1_i32_2665
  let v4069 : BitVec 32 := Scalar.addi c0_i32_2666 v4068
  v4069.toNat
def k0_dev25 (d0 : Dev nD) : Nat :=
  let c0_i32_2712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2711 : BitVec 32 := 1#32
  let v4119 : BitVec 32 := Scalar.muli v92 c1_i32_2711
  let v4120 : BitVec 32 := Scalar.addi c0_i32_2712 v4119
  v4120.toNat
def k0_dev26 (d0 : Dev nD) : Nat :=
  let c0_i32_2758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2757 : BitVec 32 := 1#32
  let v4170 : BitVec 32 := Scalar.muli v62 c1_i32_2757
  let v4171 : BitVec 32 := Scalar.addi c0_i32_2758 v4170
  v4171.toNat
def k0_dev27 (d0 : Dev nD) : Nat :=
  let c0_i32_3084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3083 : BitVec 32 := 1#32
  let v4713 : BitVec 32 := Scalar.muli v62 c1_i32_3083
  let v4714 : BitVec 32 := Scalar.addi c0_i32_3084 v4713
  v4714.toNat
def k0_dev28 (d0 : Dev nD) : Nat :=
  let c0_i32_3130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3129 : BitVec 32 := 1#32
  let v4764 : BitVec 32 := Scalar.muli v92 c1_i32_3129
  let v4765 : BitVec 32 := Scalar.addi c0_i32_3130 v4764
  v4765.toNat
def k0_dev29 (d0 : Dev nD) : Nat :=
  let c0_i32_3176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3175 : BitVec 32 := 1#32
  let v4815 : BitVec 32 := Scalar.muli v92 c1_i32_3175
  let v4816 : BitVec 32 := Scalar.addi c0_i32_3176 v4815
  v4816.toNat
def k0_dev30 (d0 : Dev nD) : Nat :=
  let c0_i32_3222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3221 : BitVec 32 := 1#32
  let v4866 : BitVec 32 := Scalar.muli v62 c1_i32_3221
  let v4867 : BitVec 32 := Scalar.addi c0_i32_3222 v4866
  v4867.toNat
def k0_dev31 (d0 : Dev nD) : Nat :=
  let c0_i32_3548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3547 : BitVec 32 := 1#32
  let v5409 : BitVec 32 := Scalar.muli v62 c1_i32_3547
  let v5410 : BitVec 32 := Scalar.addi c0_i32_3548 v5409
  v5410.toNat
def k0_dev32 (d0 : Dev nD) : Nat :=
  let c0_i32_3594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3593 : BitVec 32 := 1#32
  let v5460 : BitVec 32 := Scalar.muli v92 c1_i32_3593
  let v5461 : BitVec 32 := Scalar.addi c0_i32_3594 v5460
  v5461.toNat
def k0_dev33 (d0 : Dev nD) : Nat :=
  let c0_i32_3743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3742 : BitVec 32 := 1#32
  let v5637 : BitVec 32 := Scalar.muli v62 c1_i32_3742
  let v5638 : BitVec 32 := Scalar.addi c0_i32_3743 v5637
  v5638.toNat
def k0_off19 (d0 : Dev nD) (c0_i32_3712 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_3711 : BitVec 32 := 1#32
  let v5598 : BitVec 32 := Scalar.addi v32 c1_i32_3711
  let v5599 : BitVec 32 := Scalar.addi v5598 c0_i32_3712
  let c16_i32_3713 : BitVec 32 := 16#32
  let c0_i32_3714 : BitVec 32 := 0#32
  let v5600 : BitVec 1 := Scalar.cmpi .eq c16_i32_3713 c0_i32_3714
  let c1_i32_3715 : BitVec 32 := 1#32
  let v5601 : BitVec 32 := Scalar.select v5600 c1_i32_3715 c16_i32_3713
  let v5602 : BitVec 32 := Scalar.remsi v5599 v5601
  let c0_i32_3717 : BitVec 32 := 0#32
  let v5604 : BitVec 1 := Scalar.cmpi .slt v5602 c0_i32_3717
  let c0_i32_3718 : BitVec 32 := 0#32
  let v5605 : BitVec 1 := Scalar.cmpi .slt v5601 c0_i32_3718
  let v5606 : BitVec 1 := Scalar.xori v5604 v5605
  let c0_i32_3716 : BitVec 32 := 0#32
  let v5603 : BitVec 1 := Scalar.cmpi .ne v5602 c0_i32_3716
  let v5607 : BitVec 1 := Scalar.andi v5606 v5603
  let v5608 : BitVec 32 := Scalar.addi v5602 v5601
  let v5609 : BitVec 32 := Scalar.select v5607 v5608 v5602
  let c128_i32_3719 : BitVec 32 := 128#32
  let v5610 : BitVec 32 := Scalar.muli v5609 c128_i32_3719
  let c0_i32_3752 : BitVec 32 := 0#32
  ![v5610.toNat, 0]
def k0_dev34 (d0 : Dev nD) : Nat :=
  let c0_i32_3751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3750 : BitVec 32 := 1#32
  let v5645 : BitVec 32 := Scalar.muli v92 c1_i32_3750
  let v5646 : BitVec 32 := Scalar.addi c0_i32_3751 v5645
  v5646.toNat
def k0_off20 (d0 : Dev nD) (c0_i32_3721 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_3720 : BitVec 32 := 1#32
  let v5611 : BitVec 32 := Scalar.subi v32 c1_i32_3720
  let v5612 : BitVec 32 := Scalar.addi v5611 c0_i32_3721
  let c16_i32_3722 : BitVec 32 := 16#32
  let c0_i32_3723 : BitVec 32 := 0#32
  let v5613 : BitVec 1 := Scalar.cmpi .eq c16_i32_3722 c0_i32_3723
  let c1_i32_3724 : BitVec 32 := 1#32
  let v5614 : BitVec 32 := Scalar.select v5613 c1_i32_3724 c16_i32_3722
  let v5615 : BitVec 32 := Scalar.remsi v5612 v5614
  let c0_i32_3726 : BitVec 32 := 0#32
  let v5617 : BitVec 1 := Scalar.cmpi .slt v5615 c0_i32_3726
  let c0_i32_3727 : BitVec 32 := 0#32
  let v5618 : BitVec 1 := Scalar.cmpi .slt v5614 c0_i32_3727
  let v5619 : BitVec 1 := Scalar.xori v5617 v5618
  let c0_i32_3725 : BitVec 32 := 0#32
  let v5616 : BitVec 1 := Scalar.cmpi .ne v5615 c0_i32_3725
  let v5620 : BitVec 1 := Scalar.andi v5619 v5616
  let v5621 : BitVec 32 := Scalar.addi v5615 v5614
  let v5622 : BitVec 32 := Scalar.select v5620 v5621 v5615
  let c128_i32_3728 : BitVec 32 := 128#32
  let v5623 : BitVec 32 := Scalar.muli v5622 c128_i32_3728
  let c512_i32_3760 : BitVec 32 := 512#32
  ![v5623.toNat, 512]
def k0_dev35 (d0 : Dev nD) : Nat :=
  let c0_i32_3759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3758 : BitVec 32 := 1#32
  let v5653 : BitVec 32 := Scalar.muli v92 c1_i32_3758
  let v5654 : BitVec 32 := Scalar.addi c0_i32_3759 v5653
  v5654.toNat
def k0_off21 (d0 : Dev nD) (c0_i32_3730 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_3729 : BitVec 32 := 1#32
  let v5624 : BitVec 32 := Scalar.subi v32 c1_i32_3729
  let v5625 : BitVec 32 := Scalar.subi v5624 c0_i32_3730
  let c16_i32_3731 : BitVec 32 := 16#32
  let c0_i32_3732 : BitVec 32 := 0#32
  let v5626 : BitVec 1 := Scalar.cmpi .eq c16_i32_3731 c0_i32_3732
  let c1_i32_3733 : BitVec 32 := 1#32
  let v5627 : BitVec 32 := Scalar.select v5626 c1_i32_3733 c16_i32_3731
  let v5628 : BitVec 32 := Scalar.remsi v5625 v5627
  let c0_i32_3735 : BitVec 32 := 0#32
  let v5630 : BitVec 1 := Scalar.cmpi .slt v5628 c0_i32_3735
  let c0_i32_3736 : BitVec 32 := 0#32
  let v5631 : BitVec 1 := Scalar.cmpi .slt v5627 c0_i32_3736
  let v5632 : BitVec 1 := Scalar.xori v5630 v5631
  let c0_i32_3734 : BitVec 32 := 0#32
  let v5629 : BitVec 1 := Scalar.cmpi .ne v5628 c0_i32_3734
  let v5633 : BitVec 1 := Scalar.andi v5632 v5629
  let v5634 : BitVec 32 := Scalar.addi v5628 v5627
  let v5635 : BitVec 32 := Scalar.select v5633 v5634 v5628
  let c128_i32_3737 : BitVec 32 := 128#32
  let v5636 : BitVec 32 := Scalar.muli v5635 c128_i32_3737
  let c512_i32_3768 : BitVec 32 := 512#32
  ![v5636.toNat, 512]
def k0_dev36 (d0 : Dev nD) : Nat :=
  let c0_i32_3767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3766 : BitVec 32 := 1#32
  let v5661 : BitVec 32 := Scalar.muli v62 c1_i32_3766
  let v5662 : BitVec 32 := Scalar.addi c0_i32_3767 v5661
  v5662.toNat
def k0_dev37 (d0 : Dev nD) : Nat :=
  let c0_i32_3792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3791 : BitVec 32 := 1#32
  let v5688 : BitVec 32 := Scalar.muli v62 c1_i32_3791
  let v5689 : BitVec 32 := Scalar.addi c0_i32_3792 v5688
  v5689.toNat
def k0_dev38 (d0 : Dev nD) : Nat :=
  let c0_i32_3817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3816 : BitVec 32 := 1#32
  let v5715 : BitVec 32 := Scalar.muli v92 c1_i32_3816
  let v5716 : BitVec 32 := Scalar.addi c0_i32_3817 v5715
  v5716.toNat
def k0_dev39 (d0 : Dev nD) : Nat :=
  let c0_i32_3842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3841 : BitVec 32 := 1#32
  let v5742 : BitVec 32 := Scalar.muli v92 c1_i32_3841
  let v5743 : BitVec 32 := Scalar.addi c0_i32_3842 v5742
  v5743.toNat
def k0_dev40 (d0 : Dev nD) : Nat :=
  let c0_i32_3867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3866 : BitVec 32 := 1#32
  let v5769 : BitVec 32 := Scalar.muli v62 c1_i32_3866
  let v5770 : BitVec 32 := Scalar.addi c0_i32_3867 v5769
  v5770.toNat
def k0_off22 (d0 : Dev nD) (c0_i32_3870 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v5777 : BitVec 32 := Scalar.addi v32 c0_i32_3870
  let c16_i32_3871 : BitVec 32 := 16#32
  let c0_i32_3872 : BitVec 32 := 0#32
  let v5778 : BitVec 1 := Scalar.cmpi .eq c16_i32_3871 c0_i32_3872
  let c1_i32_3873 : BitVec 32 := 1#32
  let v5779 : BitVec 32 := Scalar.select v5778 c1_i32_3873 c16_i32_3871
  let v5780 : BitVec 32 := Scalar.remsi v5777 v5779
  let c0_i32_3875 : BitVec 32 := 0#32
  let v5782 : BitVec 1 := Scalar.cmpi .slt v5780 c0_i32_3875
  let c0_i32_3876 : BitVec 32 := 0#32
  let v5783 : BitVec 1 := Scalar.cmpi .slt v5779 c0_i32_3876
  let v5784 : BitVec 1 := Scalar.xori v5782 v5783
  let c0_i32_3874 : BitVec 32 := 0#32
  let v5781 : BitVec 1 := Scalar.cmpi .ne v5780 c0_i32_3874
  let v5785 : BitVec 1 := Scalar.andi v5784 v5781
  let v5786 : BitVec 32 := Scalar.addi v5780 v5779
  let v5787 : BitVec 32 := Scalar.select v5785 v5786 v5780
  let c128_i32_3877 : BitVec 32 := 128#32
  let v5788 : BitVec 32 := Scalar.muli v5787 c128_i32_3877
  let v5795 : Index := Scalar.indexCast v5788
  let c0_3882 : Index := 0#32
  ![v5795.toNat, 0]
def k0_off22_at (r : Fin 16) : BitVec 32 :=
  if r.val < 8 then
    if r.val < 4 then
      if r.val < 2 then
        if r.val < 1 then
          0#32
        else
          1#32
      else
        if r.val < 3 then
          4294967295#32
        else
          2#32
    else
      if r.val < 6 then
        if r.val < 5 then
          4294967294#32
        else
          3#32
      else
        if r.val < 7 then
          4294967293#32
        else
          4#32
  else
    if r.val < 12 then
      if r.val < 10 then
        if r.val < 9 then
          4294967292#32
        else
          5#32
      else
        if r.val < 11 then
          4294967291#32
        else
          6#32
    else
      if r.val < 14 then
        if r.val < 13 then
          4294967290#32
        else
          8#32
      else
        if r.val < 15 then
          7#32
        else
          4294967289#32
def k0_dev41 (d0 : Dev nD) : Nat :=
  let c0_i32_3906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3905 : BitVec 32 := 1#32
  let v5820 : BitVec 32 := Scalar.muli v62 c1_i32_3905
  let v5821 : BitVec 32 := Scalar.addi c0_i32_3906 v5820
  v5821.toNat
def k0_dev42 (d0 : Dev nD) : Nat :=
  let c0_i32_3931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3930 : BitVec 32 := 1#32
  let v5847 : BitVec 32 := Scalar.muli v92 c1_i32_3930
  let v5848 : BitVec 32 := Scalar.addi c0_i32_3931 v5847
  v5848.toNat
def k0_dev43 (d0 : Dev nD) : Nat :=
  let c0_i32_3956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3955 : BitVec 32 := 1#32
  let v5874 : BitVec 32 := Scalar.muli v92 c1_i32_3955
  let v5875 : BitVec 32 := Scalar.addi c0_i32_3956 v5874
  v5875.toNat
def k0_dev44 (d0 : Dev nD) : Nat :=
  let c0_i32_3981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3980 : BitVec 32 := 1#32
  let v5901 : BitVec 32 := Scalar.muli v62 c1_i32_3980
  let v5902 : BitVec 32 := Scalar.addi c0_i32_3981 v5901
  v5902.toNat
def k0_dev45 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4032 : BitVec 32 := 1#32
  let v5976 : BitVec 32 := Scalar.muli v62 c1_i32_4032
  let v5977 : BitVec 32 := Scalar.addi c0_i32_4033 v5976
  v5977.toNat
def k0_dev46 (d0 : Dev nD) : Nat :=
  let c0_i32_4058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4057 : BitVec 32 := 1#32
  let v6003 : BitVec 32 := Scalar.muli v92 c1_i32_4057
  let v6004 : BitVec 32 := Scalar.addi c0_i32_4058 v6003
  v6004.toNat
def k0_dev47 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4082 : BitVec 32 := 1#32
  let v6030 : BitVec 32 := Scalar.muli v92 c1_i32_4082
  let v6031 : BitVec 32 := Scalar.addi c0_i32_4083 v6030
  v6031.toNat
def k0_dev48 (d0 : Dev nD) : Nat :=
  let c0_i32_4108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4107 : BitVec 32 := 1#32
  let v6057 : BitVec 32 := Scalar.muli v62 c1_i32_4107
  let v6058 : BitVec 32 := Scalar.addi c0_i32_4108 v6057
  v6058.toNat
def k0_dev49 (d0 : Dev nD) : Nat :=
  let c0_i32_4160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4159 : BitVec 32 := 1#32
  let v6132 : BitVec 32 := Scalar.muli v62 c1_i32_4159
  let v6133 : BitVec 32 := Scalar.addi c0_i32_4160 v6132
  v6133.toNat
def k0_dev50 (d0 : Dev nD) : Nat :=
  let c0_i32_4185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4184 : BitVec 32 := 1#32
  let v6159 : BitVec 32 := Scalar.muli v92 c1_i32_4184
  let v6160 : BitVec 32 := Scalar.addi c0_i32_4185 v6159
  v6160.toNat
def k0_dev51 (d0 : Dev nD) : Nat :=
  let c0_i32_4210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4209 : BitVec 32 := 1#32
  let v6186 : BitVec 32 := Scalar.muli v92 c1_i32_4209
  let v6187 : BitVec 32 := Scalar.addi c0_i32_4210 v6186
  v6187.toNat
def k0_dev52 (d0 : Dev nD) : Nat :=
  let c0_i32_4235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4234 : BitVec 32 := 1#32
  let v6213 : BitVec 32 := Scalar.muli v62 c1_i32_4234
  let v6214 : BitVec 32 := Scalar.addi c0_i32_4235 v6213
  v6214.toNat
def k0_dev53 (d0 : Dev nD) : Nat :=
  let c0_i32_4287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4286 : BitVec 32 := 1#32
  let v6288 : BitVec 32 := Scalar.muli v62 c1_i32_4286
  let v6289 : BitVec 32 := Scalar.addi c0_i32_4287 v6288
  v6289.toNat
def k0_dev54 (d0 : Dev nD) : Nat :=
  let c0_i32_4312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4311 : BitVec 32 := 1#32
  let v6315 : BitVec 32 := Scalar.muli v92 c1_i32_4311
  let v6316 : BitVec 32 := Scalar.addi c0_i32_4312 v6315
  v6316.toNat
def k0_dev55 (d0 : Dev nD) : Nat :=
  let c0_i32_4337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4336 : BitVec 32 := 1#32
  let v6342 : BitVec 32 := Scalar.muli v92 c1_i32_4336
  let v6343 : BitVec 32 := Scalar.addi c0_i32_4337 v6342
  v6343.toNat
def k0_dev56 (d0 : Dev nD) : Nat :=
  let c0_i32_4362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4361 : BitVec 32 := 1#32
  let v6369 : BitVec 32 := Scalar.muli v62 c1_i32_4361
  let v6370 : BitVec 32 := Scalar.addi c0_i32_4362 v6369
  v6370.toNat
def k0_dev57 (d0 : Dev nD) : Nat :=
  let c0_i32_4414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4413 : BitVec 32 := 1#32
  let v6444 : BitVec 32 := Scalar.muli v62 c1_i32_4413
  let v6445 : BitVec 32 := Scalar.addi c0_i32_4414 v6444
  v6445.toNat
def k0_dev58 (d0 : Dev nD) : Nat :=
  let c0_i32_4439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4438 : BitVec 32 := 1#32
  let v6471 : BitVec 32 := Scalar.muli v92 c1_i32_4438
  let v6472 : BitVec 32 := Scalar.addi c0_i32_4439 v6471
  v6472.toNat
def k0_dev59 (d0 : Dev nD) : Nat :=
  let c0_i32_4464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4463 : BitVec 32 := 1#32
  let v6498 : BitVec 32 := Scalar.muli v92 c1_i32_4463
  let v6499 : BitVec 32 := Scalar.addi c0_i32_4464 v6498
  v6499.toNat
def k0_dev60 (d0 : Dev nD) : Nat :=
  let c0_i32_4489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4488 : BitVec 32 := 1#32
  let v6525 : BitVec 32 := Scalar.muli v62 c1_i32_4488
  let v6526 : BitVec 32 := Scalar.addi c0_i32_4489 v6525
  v6526.toNat
def k0_dev61 (d0 : Dev nD) : Nat :=
  let c0_i32_4541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4540 : BitVec 32 := 1#32
  let v6600 : BitVec 32 := Scalar.muli v62 c1_i32_4540
  let v6601 : BitVec 32 := Scalar.addi c0_i32_4541 v6600
  v6601.toNat
def k0_dev62 (d0 : Dev nD) : Nat :=
  let c0_i32_4566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4565 : BitVec 32 := 1#32
  let v6627 : BitVec 32 := Scalar.muli v92 c1_i32_4565
  let v6628 : BitVec 32 := Scalar.addi c0_i32_4566 v6627
  v6628.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S2048x128 : Shape := ⟨2, ![2048, 128]⟩
abbrev S_ : Shape := ⟨0, ![]⟩
abbrev S2048 : Shape := ⟨1, ![2048]⟩
abbrev S2048x1024 : Shape := ⟨2, ![2048, 1024]⟩
abbrev S2048x128x1024 : Shape := ⟨3, ![2048, 128, 1024]⟩
abbrev S2048x128x1 : Shape := ⟨3, ![2048, 128, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S128x512x1024, .f32⟩
  | .hbm, ⟨4, _⟩ => ⟨S512x1024, .f32⟩
  | .hbm, ⟨5, _⟩ => ⟨S2048x128, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x128, .f32⟩
  | .hbm, ⟨16, _⟩ => ⟨S2048x128, .f32⟩
  | .hbm, ⟨17, _⟩ => ⟨S2048x1024, .f32⟩
  | .hbm, ⟨18, _⟩ => ⟨S2048x128, .i32⟩
  | .hbm, ⟨19, _⟩ => ⟨S2048x128, .i32⟩
  | .hbm, ⟨20, _⟩ => ⟨S2048x128, .i1⟩
  | .hbm, ⟨21, _⟩ => ⟨S_, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128x1024, .f32⟩
  | .hbm, ⟨26, _⟩ => ⟨S2048x128x1, .f32⟩
  | .hbm, ⟨27, _⟩ => ⟨S2048x128x1024, .f32⟩
  | .hbm, ⟨28, _⟩ => ⟨S2048x128x1024, .f32⟩
  | .hbm, ⟨29, _⟩ => ⟨S_, .f32⟩
  | .hbm, ⟨30, _⟩ => ⟨S2048x1024, .f32⟩
  | .hbm, ⟨31, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Phases.lean ====
/- The kernel body as a sequence of named phases, each one written once: the router's coefficients, the
   barrier, one expert block of one half of one chunk, a send, a wait with an accumulation, a gather step,
   a combination. `body_eq` says that the printed body is this sequence. -/
module

public import proofs.«01_k».proof.Proof.Gen.KernelIdeal

@[expose] public section

noncomputable section

namespace Cert.KernelIdeal.Moe

open Idealize.ShloMosaic Idealize.SL.Sem
open Cert.KernelIdeal.Gen

variable {F : FTy → Type} [FloatOps F]

/-- Programs of the kernel body. -/
abbrev PB (F : FTy → Type) := Prog (TpuEff nD τ sig (Elt F) Λ₀ .tc) PUnit

/-! ## The buffers -/

/-- The tokens, whole. -/
abbrev xM : Memref sig .tc .vmem S2048x512 .f32 := Memref.whole cc0_stg0_0
/-- The router's matrix, whole. -/
abbrev rwM : Memref sig .tc .vmem S512x128 .f32 := Memref.whole cc0_stg1_0
/-- Each token's expert, whole. -/
abbrev riM : Memref sig .tc .vmem S2048x1 .i32 := Memref.whole cc0_stg2_0
/-- The device's eight experts, whole. -/
abbrev ewM : Memref sig .tc .vmem S8x512x1024 .f32 := Memref.whole cc0_stg3_0
/-- The shared expert, whole. -/
abbrev swM : Memref sig .tc .vmem S512x1024 .f32 := Memref.whole cc0_stg4_0
/-- The output, whole. -/
abbrev outM : Memref sig .tc .vmem S2048x1024 .f32 := Memref.whole cc0_stg5_0
/-- The ring buffer, whole. -/
abbrev rgM : Memref sig .tc .vmem S2048x1024 .bf16 := Memref.whole cc0_scratch0
/-- The landing buffer of the reduction, whole. -/
abbrev cmM : Memref sig .tc .vmem S4x8x128x512 .bf16 := Memref.whole cc0_scratch1
/-- The coefficients, whole. -/
abbrev cfM : Memref sig .tc .vmem S2048x1 .f32 := Memref.whole cc0_scratch2

/-! ## Views -/

/-- Offsets of a 128 × 512 block of the ring buffer stay inside it. -/
abbrev InbR (o : Fin 2 → Nat) : Prop := ∀ a, o a + S128x512.size a ≤ S2048x1024.size a

/-- The block of the ring buffer at an offset. -/
abbrev ringV (o : Fin 2 → Nat) (h : InbR o) : Memref sig .tc .vmem S128x512 .bf16 :=
  rgM.slice (Rect.unit (s := S2048x1024) o S128x512.size h) (fun _ => rfl)

theorem comm_inb : ∀ (a : Fin 4) (h : Fin 8), ∀ i, (![a.val, h.val, 0, 0] : Fin 4 → Nat) i + S1x1x128x512.size i ≤ S4x8x128x512.size i := by
  decide
theorem comm_words : ∀ (a : Fin 4) (h : Fin 8), (Rect.unit (s := S4x8x128x512) ![a.val, h.val, 0, 0] S1x1x128x512.size (comm_inb a h)).WholeWords (EltTy.packing .bf16) := by
  decide
theorem sem_inb : ∀ (a : Fin 4) (h : Fin 8), ∀ i, (![a.val, h.val] : Fin 2 → Nat) i + S1x1.size i ≤ S4x8.size i := by
  decide

/-- Slot `h` of chain `a` of the landing buffer. -/
abbrev commV (a : Fin 4) (h : Fin 8) : Memref sig .tc .vmem S128x512 .bf16 :=
  (cmM.slice (Rect.unit (s := S4x8x128x512) ![a.val, h.val, 0, 0] S1x1x128x512.size (comm_inb a h)) (fun _ => rfl)).squeeze
    S128x512 squeezes_S1x1x128x512_S128x512

/-- Semaphore `(a, h)` of a four-by-eight array. -/
abbrev semV (A : DmaSems sig S4x8) (a : Fin 4) (h : Fin 8) : DmaSem sig :=
  ((A.slice (Rect.unit (s := S4x8) ![a.val, h.val] S1x1.size (sem_inb a h))).squeeze S_ squeezes_S1x1_S_).sem

/-! ## Values -/

/-- The device's index as a word. -/
abbrev devW (d : Dev nD) : BitVec 32 := Scalar.remsi (Scalar.divsi (Dev.word d) 1#32) 16#32

/-- The router's coefficient of each token: the softmax weight at the token's expert. -/
def coefVal (x : Vec F S2048x512 .f32) (rw : Vec F S512x128 .f32) (ri : Vec F S2048x1 .i32) : FVec F S2048x1 .f32 :=
  let sc : FVec F S2048x128 .f32 := matmul dot_S2048x512_S512x128_S2048x128_1_0_0_1_n_n none (shapeCast S2048x512 x shapeCasts_S2048x512_S2048x512) (shapeCast S512x128 rw shapeCasts_S512x128_S512x128) (constant S2048x128 .f32 0x00000000#32)
  let mx : FVec F S2048 .f32 := multiReduction .maximumf [1] S2048 sc 0xFF800000#32 reduces_S2048x128_S2048 (.inl rfl) rfl
  let ex : FVec F S2048x128 .f32 := exp (subf sc (broadcastTo S2048x128 (shapeCast S2048x1 mx shapeCasts_S2048_S2048x1) broadcasts_S2048x1_S2048x128))
  let den : FVec F S2048 .f32 := multiReduction .add [1] S2048 ex 0x00000000#32 reduces_S2048x128_S2048 (.inl rfl) rfl
  let msk : IVec S2048x128 1 := cmpi .eq (iota .tc S2048x128 32 [1] iota_S2048x128_d1_w32) (broadcastTo S2048x128 (shapeCast S2048x1 ri shapeCasts_S2048x1_S2048x1 : IVec S2048x1 32) broadcasts_S2048x1_S2048x128)
  let num : FVec F S2048 .f32 := multiReduction .add [1] S2048 (select msk ex (broadcast S2048x128 (Scalar.ofBits .f32 0x00000000#32 : F .f32))) 0x00000000#32 reduces_S2048x128_S2048 (.inl rfl) rfl
  shapeCast S2048x1 (divf (shapeCast S2048x1 num shapeCasts_S2048_S2048x1) (shapeCast S2048x1 den shapeCasts_S2048_S2048x1)) shapeCasts_S2048x1_S2048x1

/-- One expert's part: the rows routed to it, scaled by their coefficients, times half of its matrix. -/
def expVal (dw : BitVec 32) (e : BitVec 32) (x : Vec F S128x512 .f32) (ri : Vec F S128x1 .i32) (cf : Vec F S128x1 .f32) (w : Vec F S1x512x512 .f32) : FVec F S128x512 .f32 :=
  matmul dot_S128x512_S512x512_S128x512_1_0_0_1_n_n none
    (mulf (shapeCast S128x512 x shapeCasts_S128x512_S128x512)
      (broadcastTo S128x512 (select (cmpi .eq (shapeCast S128x1 ri shapeCasts_S128x1_S128x1 : IVec S128x1 32) (broadcast S128x1 (Scalar.addi (Scalar.muli dw 8#32) e))) cf (broadcast S128x1 (Scalar.ofBits .f32 0x00000000#32 : F .f32))) broadcasts_S128x1_S128x512))
    (shapeCast S512x512 w shapeCasts_S1x512x512_S512x512) (constant S128x512 .f32 0x00000000#32)

/-- A device's contribution to half of a chunk: the sum over its eight experts, as bf16. -/
def partVal (dw : BitVec 32) (x : Vec F S128x512 .f32) (ri : Vec F S128x1 .i32) (cf : Vec F S128x1 .f32) (w0 w1 w2 w3 w4 w5 w6 w7 : Vec F S1x512x512 .f32) : FVec F S128x512 .bf16 :=
  shapeCast S128x512
    (truncf .bf16
      (addf (addf (addf (addf (addf (addf (addf (addf (broadcast S128x512 (Scalar.ofBits .f32 0x00000000#32 : F .f32))
        (expVal dw 0#32 x ri cf w0)) (expVal dw 1#32 x ri cf w1)) (expVal dw 2#32 x ri cf w2)) (expVal dw 3#32 x ri cf w3))
        (expVal dw 4#32 x ri cf w4)) (expVal dw 5#32 x ri cf w5)) (expVal dw 6#32 x ri cf w6)) (expVal dw 7#32 x ri cf w7)) bitsLt_bf16_f32)
    shapeCasts_S128x512_S128x512

/-- The landed partial sum added to the device's own. -/
def accVal (r : Vec F S128x512 .bf16) (c : Vec F S1x1x128x512 .bf16) : FVec F S128x512 .bf16 :=
  shapeCast S128x512 (addf r (shapeCast S128x512 c shapeCasts_S1x1x128x512_S128x512 : FVec F S128x512 .bf16)) shapeCasts_S128x512_S128x512

/-- The routed sum of a chunk plus its tokens through the shared expert. -/
def combVal (x : Vec F S128x512 .f32) (sw : Vec F S512x1024 .f32) (r : Vec F S128x1024 .bf16) : FVec F S128x1024 .f32 :=
  addf (extf .f32 r bitsLt_bf16_f32)
    (matmul dot_S128x512_S512x1024_S128x1024_1_0_0_1_n_n none (shapeCast S128x512 x shapeCasts_S128x512_S128x512) (shapeCast S512x1024 sw shapeCasts_S512x1024_S512x1024) (constant S128x1024 .f32 0x00000000#32))

/-! ## Phases -/

/-- The coefficients are computed and stored. -/
def coefK (k : PB F) : PB F :=
  .op (.load xM (Rect.unit (s := S2048x512) ![0, 0] S2048x512.size inb_S2048x512_S2048x512_0_0).toLoadRect (View.loadsAt_vmem h_S2048x512)) fun x =>
  .op (.load rwM (Rect.unit (s := S512x128) ![0, 0] S512x128.size inb_S512x128_S512x128_0_0).toLoadRect (View.loadsAt_vmem h_S512x128)) fun rw =>
  .op (.load riM (Rect.unit (s := S2048x1) ![0, 0] S2048x1.size inb_S2048x1_S2048x1_0_0).toLoadRect (View.loadsAt_vmem h_S2048x1)) fun ri =>
  .op (.load cfM (Rect.unit (s := S2048x1) ![0, 0] S2048x1.size inb_S2048x1_S2048x1_0_0).toLoadRect (View.loadsAt_vmem h_S2048x1)) fun _ =>
  .op (.store cfM (Rect.unit (s := S2048x1) ![0, 0] S2048x1.size inb_S2048x1_S2048x1_0_0) (coefVal x rw ri) Finset.univ (View.stores_vmem_bits_univ h_S2048x1 rfl) (.inl rfl)) fun _ => k

/-- The barrier's semaphore. -/
abbrev barS : Sem sig := (SemArray.scalar (sig.barrier 0 rfl) : SemArray (Sem sig) S_).sem

/-- The barrier: a signal to either neighbour, then a wait for both. -/
def barK (l r : Dev nD) (k : PB F) : PB F :=
  (semSignalWord l barS 1#32).bind fun _ =>
  (semSignalWord r barS 1#32).bind fun _ =>
  (semWaitWord barS 2#32).bind fun _ => k

theorem ew_inb : ∀ (s : Fin 2) (e : Fin 8), ∀ i, (![e.val, 0, 512 * s.val] : Fin 3 → Nat) i + S1x512x512.size i ≤ S8x512x1024.size i := by
  decide

/-- The load of half `s` of expert `e`'s matrix. -/
abbrev ewL (s : Fin 2) (e : Fin 8) (k : Vec F S1x512x512 .f32 → PB F) : PB F :=
  .op (.load ewM (Rect.unit (s := S8x512x1024) ![e.val, 0, 512 * s.val] S1x512x512.size (ew_inb s e)).toLoadRect (View.loadsAt_vmem h_S1x512x512)) k

/-- The contribution to half `s` of a chunk is computed and stored in the ring buffer. -/
def partK (d : Dev nD) (s : Fin 2) (ox : Fin 2 → Nat) (hx : ∀ a, ox a + S128x512.size a ≤ S2048x512.size a)
    (oc : Fin 2 → Nat) (hc : ∀ a, oc a + S128x1.size a ≤ S2048x1.size a) (os : Fin 2 → Nat) (hs : InbR os)
    (hp : (Rect.unit (s := S2048x1024) os S128x512.size hs).PackedRows (EltTy.packing .bf16)) (k : PB F) : PB F :=
  .op (.load xM (Rect.unit (s := S2048x512) ox S128x512.size hx).toLoadRect (View.loadsAt_vmem h_S128x512)) fun x =>
  .op (.load riM (Rect.unit (s := S2048x1) oc S128x1.size hc).toLoadRect (View.loadsAt_vmem h_S128x1)) fun ri =>
  .op (.load cfM (Rect.unit (s := S2048x1) oc S128x1.size hc).toLoadRect (View.loadsAt_vmem h_S128x1)) fun cf =>
  ewL s 0 fun w0 => ewL s 1 fun w1 => ewL s 2 fun w2 => ewL s 3 fun w3 => ewL s 4 fun w4 => ewL s 5 fun w5 => ewL s 6 fun w6 => ewL s 7 fun w7 =>
  .op (.load rgM (Rect.unit (s := S2048x1024) os S128x512.size hs).toLoadRect (View.loadsAt_vmem h_S128x512)) fun _ =>
  .op (.store rgM (Rect.unit (s := S2048x1024) os S128x512.size hs) (partVal (devW d) x ri cf w0 w1 w2 w3 w4 w5 w6 w7) Finset.univ
    (View.stores_vmem h_S128x512 ((Memref.isWhole_whole _).storeExact_slice rfl _ hp) (fun _ => rfl)) (.inl rfl)) fun _ => k

/-- A block of the ring buffer whose transfers move whole words. -/
abbrev WordsR (o : Fin 2 → Nat) (h : InbR o) : Prop :=
  (Rect.unit (s := S2048x1024) o S128x512.size h).WholeWords (EltTy.packing .bf16)

/-- A send of the reduction: a block of the ring buffer to slot `(a, h)` of a neighbour's landing buffer. -/
def rsSendK (n : Dev nD) (a : Fin 4) (h : Fin 8) (o : Fin 2 → Nat) (ho : InbR o) (hw : WordsR o ho) (k : PB F) : PB F :=
  .op (.enqueueDma (ringV o ho) (.remote (Dev.tc n) (commV a h) (.dma (semV cc0_scratch3 a h))) (.dma (semV cc0_scratch4 a h))
    ((Memref.isWhole_whole _).wordExact_slice rfl _ hw) (((Memref.isWhole_whole _).wordExact_slice rfl _ (comm_words a h)).reshape _ _)
    ⟨⟨rfl, Or.inl rfl⟩, trivial⟩) fun _ => k

/-- The wait for the landing in slot `(a, h)`. -/
def rsWaitK (a : Fin 4) (h : Fin 8) (o : Fin 2 → Nat) (ho : InbR o) (hw : WordsR o ho) (k : PB F) : PB F :=
  .op (.waitDma2 (semV cc0_scratch4 a h) (ringV o ho) (commV a h)
    ((Memref.isWhole_whole _).wordExact_slice rfl _ hw) (((Memref.isWhole_whole _).wordExact_slice rfl _ (comm_words a h)).reshape _ _)) fun _ => k

/-- The landed sum of slot `(a, h)` is added to a block of the ring buffer. -/
def accK (a : Fin 4) (h : Fin 8) (o : Fin 2 → Nat) (ho : InbR o) (hp : (Rect.unit (s := S2048x1024) o S128x512.size ho).PackedRows (EltTy.packing .bf16)) (k : PB F) : PB F :=
  .op (.load rgM (Rect.unit (s := S2048x1024) o S128x512.size ho).toLoadRect (View.loadsAt_vmem h_S128x512)) fun r =>
  .op (.load cmM (Rect.unit (s := S4x8x128x512) ![a.val, h.val, 0, 0] S1x1x128x512.size (comm_inb a h)).toLoadRect (View.loadsAt_vmem h_S1x1x128x512)) fun c =>
  .op (.load rgM (Rect.unit (s := S2048x1024) o S128x512.size ho).toLoadRect (View.loadsAt_vmem h_S128x512)) fun _ =>
  .op (.store rgM (Rect.unit (s := S2048x1024) o S128x512.size ho) (accVal r c) Finset.univ
    (View.stores_vmem h_S128x512 ((Memref.isWhole_whole _).storeExact_slice rfl _ hp) (fun _ => rfl)) (.inl rfl)) fun _ => k

/-- A send of the gather: a block of the ring buffer to the same block of a neighbour's. -/
def agSendK (n : Dev nD) (a : Fin 4) (h : Fin 8) (o : Fin 2 → Nat) (ho : InbR o) (hw : WordsR o ho) (k : PB F) : PB F :=
  .op (.enqueueDma (ringV o ho) (.remote (Dev.tc n) (ringV o ho) (.dma (semV cc0_scratch5 a h))) (.dma (semV cc0_scratch6 a h))
    ((Memref.isWhole_whole _).wordExact_slice rfl _ hw) ((Memref.isWhole_whole _).wordExact_slice rfl _ hw)
    ⟨⟨rfl, Or.inl rfl⟩, trivial⟩) fun _ => k

/-- The wait for gather step `(a, h)`. -/
def agWaitK (a : Fin 4) (h : Fin 8) (o : Fin 2 → Nat) (ho : InbR o) (hw : WordsR o ho) (k : PB F) : PB F :=
  .op (.waitDma2 (semV cc0_scratch6 a h) (ringV o ho) (ringV o ho)
    ((Memref.isWhole_whole _).wordExact_slice rfl _ hw) ((Memref.isWhole_whole _).wordExact_slice rfl _ hw)) fun _ => k

/-- A chunk of the output: the gathered sum plus the shared expert's part. -/
def combK (ox : Fin 2 → Nat) (hx : ∀ a, ox a + S128x512.size a ≤ S2048x512.size a)
    (o : Fin 2 → Nat) (ho : ∀ a, o a + S128x1024.size a ≤ S2048x1024.size a) (k : PB F) : PB F :=
  .op (.load xM (Rect.unit (s := S2048x512) ox S128x512.size hx).toLoadRect (View.loadsAt_vmem h_S128x512)) fun x =>
  .op (.load swM (Rect.unit (s := S512x1024) ![0, 0] S512x1024.size inb_S512x1024_S512x1024_0_0).toLoadRect (View.loadsAt_vmem h_S512x1024)) fun sw =>
  .op (.load rgM (Rect.unit (s := S2048x1024) o S128x1024.size ho).toLoadRect (View.loadsAt_vmem h_S128x1024)) fun r =>
  .op (.load outM (Rect.unit (s := S2048x1024) o S128x1024.size ho).toLoadRect (View.loadsAt_vmem h_S128x1024)) fun _ =>
  .op (.store outM (Rect.unit (s := S2048x1024) o S128x1024.size ho) (combVal x sw r) Finset.univ (View.stores_vmem_bits_univ h_S128x1024 rfl) (.inl rfl)) fun _ => k

/-- The wait for the source of reduction send `(a, h)`. -/
def rsDoneK (a : Fin 4) (h : Fin 8) (o : Fin 2 → Nat) (ho : InbR o) (hw : WordsR o ho) (k : PB F) : PB F :=
  .op (.waitDma2 (semV cc0_scratch3 a h) (commV a h) (ringV o ho)
    (((Memref.isWhole_whole _).wordExact_slice rfl _ (comm_words a h)).reshape _ _) ((Memref.isWhole_whole _).wordExact_slice rfl _ hw)) fun _ => k

/-- The wait for the source of gather send `(a, h)`. -/
def agDoneK (a : Fin 4) (h : Fin 8) (o : Fin 2 → Nat) (ho : InbR o) (hw : WordsR o ho) (k : PB F) : PB F :=
  .op (.waitDma2 (semV cc0_scratch5 a h) (ringV o ho) (ringV o ho)
    ((Memref.isWhole_whole _).wordExact_slice rfl _ hw) ((Memref.isWhole_whole _).wordExact_slice rfl _ hw)) fun _ => k

/-! ## The neighbours -/

/-- The neighbour on the left, as the kernel computes it. -/
abbrev lf (d : Dev nD) : Dev nD := ⟨k0_dev1 d, k0_dev1_lt d⟩
/-- The neighbour on the right, as the kernel computes it. -/
abbrev rt (d : Dev nD) : Dev nD := ⟨k0_dev2 d, k0_dev2_lt d⟩

/-! ## Rounds -/

/-- The four contributions of round `h`. -/
def partsK (d : Dev nD) (h : Fin 7) (k : PB F) : PB F :=
  partK d 0 (k0_off11 d 8#32 (.ofNat 32 h.val)) (k0_off11_inb d 1 h) (k0_off12 d 8#32 (.ofNat 32 h.val)) (k0_off12_inb d 1 h)
    (k0_off13 d (.ofNat 32 h.castSucc.val)) (k0_off13_inb d h.castSucc) (k0_off13_packedbf16 d h.castSucc) <|
  partK d 0 (k0_off14 d 5#32 (.ofNat 32 h.val)) (k0_off14_inb d 0 h) (k0_off15 d 5#32 (.ofNat 32 h.val)) (k0_off15_inb d 0 h)
    (k0_off16 d (.ofNat 32 h.val)) (k0_off16_inb d h) (k0_off16_packedbf16 d h) <|
  partK d 1 (k0_off14 d 8#32 (.ofNat 32 h.val)) (k0_off14_inb d 1 h) (k0_off15 d 8#32 (.ofNat 32 h.val)) (k0_off15_inb d 1 h)
    (k0_off17 d (.ofNat 32 h.castSucc.val)) (k0_off17_inb d h.castSucc) (k0_off17_packedbf16 d h.castSucc) <|
  partK d 1 (k0_off11 d 5#32 (.ofNat 32 h.val)) (k0_off11_inb d 0 h) (k0_off12 d 5#32 (.ofNat 32 h.val)) (k0_off12_inb d 0 h)
    (k0_off18 d (.ofNat 32 h.val)) (k0_off18_inb d h) (k0_off18_packedbf16 d h) k

/-- Chain 0 of the reduction, step `h`: the wait and the accumulation. -/
def rs0K (d : Dev nD) (h : Fin 8) (k : PB F) : PB F :=
  rsWaitK 0 h (k0_off4 d 9#32 (.ofNat 32 h.val)) (k0_off4_inb d 1 h) (k0_off4_wordsbf16 d 1 h) <|
  accK 0 h (k0_off13 d (.ofNat 32 h.val)) (k0_off13_inb d h) (k0_off13_packedbf16 d h) k
/-- Chain 2 of the reduction, step `h`: the wait and the accumulation. -/
def rs2K (d : Dev nD) (h : Fin 8) (k : PB F) : PB F :=
  rsWaitK 2 h (k0_off8 d (.ofNat 32 h.val)) (k0_off8_inb d h) (k0_off8_wordsbf16 d h) <|
  accK 2 h (k0_off17 d (.ofNat 32 h.val)) (k0_off17_inb d h) (k0_off17_packedbf16 d h) k
/-- Chain 1 of the reduction, step `h`: the wait and the accumulation. -/
def rs1K (d : Dev nD) (h : Fin 7) (k : PB F) : PB F :=
  rsWaitK 1 h.castSucc (k0_off9 d (.ofNat 32 h.val)) (k0_off9_inb d h) (k0_off9_wordsbf16 d h) <|
  accK 1 h.castSucc (k0_off16 d (.ofNat 32 h.val)) (k0_off16_inb d h) (k0_off16_packedbf16 d h) k
/-- Chain 3 of the reduction, step `h`: the wait and the accumulation. -/
def rs3K (d : Dev nD) (h : Fin 7) (k : PB F) : PB F :=
  rsWaitK 3 h.castSucc (k0_off10 d (.ofNat 32 h.val)) (k0_off10_inb d h) (k0_off10_wordsbf16 d h) <|
  accK 3 h.castSucc (k0_off18 d (.ofNat 32 h.val)) (k0_off18_inb d h) (k0_off18_packedbf16 d h) k
/-- The sends of the four chains of the reduction, step `h`. -/
def rsS0K (d : Dev nD) (h : Fin 8) (k : PB F) : PB F :=
  rsSendK (rt d) 0 h (k0_off4 d 9#32 (.ofNat 32 h.val)) (k0_off4_inb d 1 h) (k0_off4_wordsbf16 d 1 h) k
@[inherit_doc rsS0K] def rsS2K (d : Dev nD) (h : Fin 8) (k : PB F) : PB F :=
  rsSendK (lf d) 2 h (k0_off8 d (.ofNat 32 h.val)) (k0_off8_inb d h) (k0_off8_wordsbf16 d h) k
@[inherit_doc rsS0K] def rsS1K (d : Dev nD) (h : Fin 7) (k : PB F) : PB F :=
  rsSendK (lf d) 1 h.castSucc (k0_off9 d (.ofNat 32 h.val)) (k0_off9_inb d h) (k0_off9_wordsbf16 d h) k
@[inherit_doc rsS0K] def rsS3K (d : Dev nD) (h : Fin 7) (k : PB F) : PB F :=
  rsSendK (rt d) 3 h.castSucc (k0_off10 d (.ofNat 32 h.val)) (k0_off10_inb d h) (k0_off10_wordsbf16 d h) k

/-- Round `h` of the reduction, all four chains sending on. -/
def rsRoundK (d : Dev nD) (h : Fin 6) (k : PB F) : PB F :=
  partsK d h.castSucc <|
  rs0K d h.castSucc.castSucc <| rsS0K d h.succ.castSucc <|
  rs2K d h.castSucc.castSucc <| rsS2K d h.succ.castSucc <|
  rs1K d h.castSucc <| rsS1K d h.succ <|
  rs3K d h.castSucc <| rsS3K d h.succ k

/-- The reduction's last round, the short chains ending. -/
def rsLastK (d : Dev nD) (k : PB F) : PB F :=
  partsK d 6 <| rs0K d 6 <| rsS0K d 7 <| rs2K d 6 <| rsS2K d 7 <| rs1K d 6 <| rs3K d 6 <| rs0K d 7 <| rs2K d 7 k

/-- The waits and the sends of the four chains of the gather. -/
def agW0K (d : Dev nD) (h : Fin 8) (k : PB F) : PB F :=
  agWaitK 0 h (k0_off4 d 1#32 (.ofNat 32 h.val)) (k0_off4_inb d 0 h) (k0_off4_wordsbf16 d 0 h) k
@[inherit_doc agW0K] def agW2K (d : Dev nD) (h : Fin 8) (k : PB F) : PB F :=
  agWaitK 2 h (k0_off20 d (.ofNat 32 h.val)) (k0_off20_inb d h) (k0_off20_wordsbf16 d h) k
@[inherit_doc agW0K] def agW1K (d : Dev nD) (h : Fin 7) (k : PB F) : PB F :=
  agWaitK 1 h.castSucc (k0_off19 d (.ofNat 32 h.val)) (k0_off19_inb d h) (k0_off19_wordsbf16 d h) k
@[inherit_doc agW0K] def agW3K (d : Dev nD) (h : Fin 7) (k : PB F) : PB F :=
  agWaitK 3 h.castSucc (k0_off21 d (.ofNat 32 h.val)) (k0_off21_inb d h) (k0_off21_wordsbf16 d h) k
@[inherit_doc agW0K] def agS0K (d : Dev nD) (h : Fin 8) (k : PB F) : PB F :=
  agSendK (rt d) 0 h (k0_off4 d 1#32 (.ofNat 32 h.val)) (k0_off4_inb d 0 h) (k0_off4_wordsbf16 d 0 h) k
@[inherit_doc agW0K] def agS2K (d : Dev nD) (h : Fin 8) (k : PB F) : PB F :=
  agSendK (lf d) 2 h (k0_off20 d (.ofNat 32 h.val)) (k0_off20_inb d h) (k0_off20_wordsbf16 d h) k
@[inherit_doc agW0K] def agS1K (d : Dev nD) (h : Fin 7) (k : PB F) : PB F :=
  agSendK (lf d) 1 h.castSucc (k0_off19 d (.ofNat 32 h.val)) (k0_off19_inb d h) (k0_off19_wordsbf16 d h) k
@[inherit_doc agW0K] def agS3K (d : Dev nD) (h : Fin 7) (k : PB F) : PB F :=
  agSendK (rt d) 3 h.castSucc (k0_off21 d (.ofNat 32 h.val)) (k0_off21_inb d h) (k0_off21_wordsbf16 d h) k

/-- Where the kernel's list of token blocks has the `r`-th combined chunk. -/
abbrev xAt : Fin 16 → Fin 16 := ![2, 3, 4, 5, 6, 7, 8, 9, 10, 11, 12, 1, 13, 14, 0, 15]

/-- The combination of the `r`-th chunk in the kernel's order. -/
def combAtK (d : Dev nD) (r : Fin 16) (k : PB F) : PB F :=
  combK (k0_off5 d (k0_off5_at (xAt r))) (k0_off5_inb d (xAt r)) (k0_off22 d (k0_off22_at r)) (k0_off22_inb d r) k

/-- Round `h` of the gather, all four chains sending on. -/
def agRoundK (d : Dev nD) (h : Fin 6) (k : PB F) : PB F :=
  agW0K d h.castSucc.castSucc <| agS0K d h.succ.castSucc <|
  agW2K d h.castSucc.castSucc <| agS2K d h.succ.castSucc <|
  agW1K d h.castSucc <| agS1K d h.succ <|
  agW3K d h.castSucc <| agS3K d h.succ k

/-- The gather's last round, the short chains ending. -/
def agLastK (d : Dev nD) (k : PB F) : PB F :=
  agW0K d 6 <| agS0K d 7 <| agW2K d 6 <| agS2K d 7 <| agW1K d 6 <| agW3K d 6 <|
  combAtK d 11 <| combAtK d 12 <| combAtK d 13 <| agW0K d 7 <| agW2K d 7 <| combAtK d 14 <| combAtK d 15 k

/-- A phase for each entry of a list, in order. -/
def seqK {ι : Type} (f : ι → PB F → PB F) : List ι → PB F → PB F
  | [], k => k
  | i :: l, k => f i (seqK f l k)

/-- The waits for the reduction's sources. -/
def rsTailK (d : Dev nD) (k : PB F) : PB F :=
  seqK (fun h => rsDoneK 0 h (k0_off4 d 9#32 (.ofNat 32 h.val)) (k0_off4_inb d 1 h) (k0_off4_wordsbf16 d 1 h)) [0, 1, 2, 3, 4, 5, 6, 7] <|
  seqK (fun h : Fin 7 => rsDoneK 1 h.castSucc (k0_off9 d (.ofNat 32 h.val)) (k0_off9_inb d h) (k0_off9_wordsbf16 d h)) [0, 1, 2, 3, 4, 5, 6] <|
  seqK (fun h => rsDoneK 2 h (k0_off8 d (.ofNat 32 h.val)) (k0_off8_inb d h) (k0_off8_wordsbf16 d h)) [0, 1, 2, 3, 4, 5, 6, 7] <|
  seqK (fun h : Fin 7 => rsDoneK 3 h.castSucc (k0_off10 d (.ofNat 32 h.val)) (k0_off10_inb d h) (k0_off10_wordsbf16 d h)) [0, 1, 2, 3, 4, 5, 6] k

/-- The waits for the gather's sources. -/
def agTailK (d : Dev nD) (k : PB F) : PB F :=
  seqK (fun h => agDoneK 0 h (k0_off4 d 1#32 (.ofNat 32 h.val)) (k0_off4_inb d 0 h) (k0_off4_wordsbf16 d 0 h)) [0, 1, 2, 3, 4, 5, 6, 7] <|
  seqK (fun h : Fin 7 => agDoneK 1 h.castSucc (k0_off19 d (.ofNat 32 h.val)) (k0_off19_inb d h) (k0_off19_wordsbf16 d h)) [0, 1, 2, 3, 4, 5, 6] <|
  seqK (fun h => agDoneK 2 h (k0_off20 d (.ofNat 32 h.val)) (k0_off20_inb d h) (k0_off20_wordsbf16 d h)) [0, 1, 2, 3, 4, 5, 6, 7] <|
  seqK (fun h : Fin 7 => agDoneK 3 h.castSucc (k0_off21 d (.ofNat 32 h.val)) (k0_off21_inb d h) (k0_off21_wordsbf16 d h)) [0, 1, 2, 3, 4, 5, 6] k

/-- The first four contributions and sends. -/
def rsStartK (d : Dev nD) (k : PB F) : PB F :=
  partK d 0 (k0_off1 d 7#32) (k0_off1_inb d 1) (k0_off2 d 7#32) (k0_off2_inb d 1) (k0_off3 d 7#32) (k0_off3_inb d 1) (k0_off3_packedbf16 d 1) <|
  rsS0K d 0 <|
  partK d 1 (k0_off5 d 7#32) (k0_off5_inb d 0) (k0_off6 d 7#32) (k0_off6_inb d 1) (k0_off7 d 7#32) (k0_off7_inb d 1) (k0_off7_packedbf16 d 1) <|
  rsS2K d 0 <|
  partK d 0 (k0_off1 d 6#32) (k0_off1_inb d 0) (k0_off2 d 6#32) (k0_off2_inb d 0) (k0_off3 d 6#32) (k0_off3_inb d 0) (k0_off3_packedbf16 d 0) <|
  rsS1K d 0 <|
  partK d 1 (k0_off5 d 6#32) (k0_off5_inb d 1) (k0_off6 d 6#32) (k0_off6_inb d 0) (k0_off7 d 6#32) (k0_off7_inb d 0) (k0_off7_packedbf16 d 0) <|
  rsS3K d 0 k

/-- What follows the barrier. -/
def mainK (d : Dev nD) (k : PB F) : PB F :=
  rsStartK d <| seqK (rsRoundK d) [0, 1, 2, 3, 4, 5] <| rsLastK d <|
  agS0K d 0 <| agS1K d 0 <| agS2K d 0 <| agS3K d 0 <|
  agRoundK d 0 <| combAtK d 0 <|
  agRoundK d 1 <| combAtK d 1 <| combAtK d 2 <|
  agRoundK d 2 <| combAtK d 3 <| combAtK d 4 <|
  agRoundK d 3 <| combAtK d 5 <| combAtK d 6 <|
  agRoundK d 4 <| combAtK d 7 <| combAtK d 8 <|
  agRoundK d 5 <| combAtK d 9 <| combAtK d 10 <|
  agLastK d <| rsTailK d <| agTailK d k

/-- The kernel body. -/
def body : PB F :=
  .op .deviceId fun d => coefK <| barK (lf d) (rt d) <| mainK d (.ret ⟨⟩)

/-- The printed body is `body`. -/
theorem body_eq :
    cc0_body (F := F) xM (Memref.isWhole_whole _) rwM (Memref.isWhole_whole _) riM (Memref.isWhole_whole _) ewM (Memref.isWhole_whole _)
      swM (Memref.isWhole_whole _) outM (Memref.isWhole_whole _) rgM (Memref.isWhole_whole _) cmM (Memref.isWhole_whole _)
      cfM (Memref.isWhole_whole _) cc0_scratch3 cc0_scratch4 cc0_scratch5 cc0_scratch6 = body := rfl

end Cert.KernelIdeal.Moe

end
-- ==== Proof.Common.lean ====
/- The ring: positions, neighbours, the chunks each chain moves, the blocks of the two buffers as resources,
   the semaphores' cells and the schedule of what each cell's signals hand over. -/
module

public import proofs.«01_k».proof.Proof.Phases
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- A device's position in the ring. -/
def pos (d : Dev nD) : Fin 16 := (![0, 1, 8, 9, 15, 2, 7, 10, 14, 3, 6, 11, 13, 4, 5, 12] : Fin 16 → Fin 16) d

/-- The right neighbour is one position on; -/
theorem pos_rt : ∀ d, pos (rt d) = pos d + 1 := by decide +kernel
/-- the left one is one position back. -/
theorem pos_lf : ∀ d, pos (lf d) = pos d - 1 := by decide +kernel
/-- Right and left undo each other. -/
theorem rt_lf : ∀ d, rt (lf d) = d := by decide +kernel
/-- Right and left undo each other. -/
theorem lf_rt : ∀ d, lf (rt d) = d := by decide +kernel
/-- The two neighbours differ. -/
theorem rt_ne_lf : ∀ d, rt d ≠ lf d := by decide +kernel

/-- The ring's rotation. -/
def ring : Dev nD ≃ Dev nD := ⟨rt, lf, lf_rt, rt_lf⟩

/-- Chains 0 and 3 go right, chains 1 and 2 left: where chain `a` sends. -/
def nb (a : Fin 4) (d : Dev nD) : Dev nD := match a with | 0 => rt d | 1 => lf d | 2 => lf d | 3 => rt d
/-- Where chain `a` comes from. -/
def pv (a : Fin 4) (d : Dev nD) : Dev nD := match a with | 0 => lf d | 1 => rt d | 2 => rt d | 3 => lf d

/-- A chain's next device and its previous one undo each other. -/
theorem pv_nb (a : Fin 4) (d : Dev nD) : pv a (nb a d) = d := match a with
  | 0 => lf_rt d | 1 => rt_lf d | 2 => rt_lf d | 3 => lf_rt d
/-- A chain's next device and its previous one undo each other. -/
theorem nb_pv (a : Fin 4) (d : Dev nD) : nb a (pv a d) = d := match a with
  | 0 => rt_lf d | 1 => lf_rt d | 2 => lf_rt d | 3 => rt_lf d
/-- A chain's rotation. -/
def nbE (a : Fin 4) : Dev nD ≃ Dev nD := ⟨nb a, pv a, pv_nb a, nb_pv a⟩

/-- The half of the columns chain `a` moves. -/
def hf (a : Fin 4) : Fin 2 := match a with | 0 => 0 | 1 => 0 | 2 => 1 | 3 => 1
/-- The long chain over the same half. -/
def ev (a : Fin 4) : Fin 4 := match a with | 0 => 0 | 1 => 0 | 2 => 2 | 3 => 2

/-- The steps a chain makes: the long chains 0 and 2 eight, the others seven. -/
def used (a : Fin 4) (h : Fin 8) : Bool := h.val < 7 || a == 0 || a == 2

/-- The chunk chain `a` of the reduction sends at step `h` from position `p`; -/
def ckp (a : Fin 4) (h : ℕ) (p : Fin 16) : Fin 16 := match a with
  | 0 => p + 9 - Fin.ofNat 16 h | 1 => p + 10 + Fin.ofNat 16 h | 2 => p + 7 + Fin.ofNat 16 h | 3 => p + 6 - Fin.ofNat 16 h
/-- the chunk chain `a` of the gather sends at step `h`. -/
def agp (a : Fin 4) (h : ℕ) (p : Fin 16) : Fin 16 := match a with
  | 0 => p + 1 - Fin.ofNat 16 h | 1 => p + 1 + Fin.ofNat 16 h | 2 => p - 1 + Fin.ofNat 16 h | 3 => p - 1 - Fin.ofNat 16 h
/-- The chunk device `d` sends at step `h` of chain `a` of the reduction; -/
abbrev ck (a : Fin 4) (h : ℕ) (d : Dev nD) : Fin 16 := ckp a h (pos d)
/-- and of the gather. -/
abbrev ag (a : Fin 4) (h : ℕ) (d : Dev nD) : Fin 16 := agp a h (pos d)

/-- What lands at a step of the reduction is the chunk sent at the next step; -/
theorem ck_pv : ∀ (a : Fin 4) (h : Fin 8) (d : Dev nD), ck a h.val (pv a d) = ck a (h.val + 1) d := by decide +kernel
/-- and of the gather. -/
theorem ag_pv : ∀ (a : Fin 4) (h : Fin 8) (d : Dev nD), ag a h.val (pv a d) = ag a (h.val + 1) d := by decide +kernel

/-- The offset of half `s` of chunk `k` of the ring buffer. -/
abbrev cko (k : Fin 16) (s : Fin 2) : Fin 2 → Nat := ![128 * k.val, 512 * s.val]
/-- A half chunk lies within the ring buffer. -/
theorem cko_inb : ∀ (k : Fin 16) (s : Fin 2), InbR (cko k s) := by decide +kernel

/-- Where the reduction's source of this chain lies: the half chunk of its step. -/
theorem off4_rs : ∀ (d : Dev nD) (h : Fin 8), k0_off4 d 9#32 (.ofNat 32 h.val) = cko (ck 0 h.val d) 0 := by decide +kernel
/-- Where the reduction's source of this chain lies: the half chunk of its step. -/
theorem off9_rs : ∀ (d : Dev nD) (h : Fin 7), k0_off9 d (.ofNat 32 h.val) = cko (ck 1 h.val d) 0 := by decide +kernel
/-- Where the reduction's source of this chain lies: the half chunk of its step. -/
theorem off8_rs : ∀ (d : Dev nD) (h : Fin 8), k0_off8 d (.ofNat 32 h.val) = cko (ck 2 h.val d) 1 := by decide +kernel
/-- Where the reduction's source of this chain lies: the half chunk of its step. -/
theorem off10_rs : ∀ (d : Dev nD) (h : Fin 7), k0_off10 d (.ofNat 32 h.val) = cko (ck 3 h.val d) 1 := by decide +kernel
/-- Where the reduction adds a landing of this chain: the half chunk of the next step. -/
theorem off13_rs : ∀ (d : Dev nD) (h : Fin 8), k0_off13 d (.ofNat 32 h.val) = cko (ck 0 (h.val + 1) d) 0 := by decide +kernel
/-- Where the reduction adds a landing of this chain: the half chunk of the next step. -/
theorem off16_rs : ∀ (d : Dev nD) (h : Fin 7), k0_off16 d (.ofNat 32 h.val) = cko (ck 1 (h.val + 1) d) 0 := by decide +kernel
/-- Where the reduction adds a landing of this chain: the half chunk of the next step. -/
theorem off17_rs : ∀ (d : Dev nD) (h : Fin 8), k0_off17 d (.ofNat 32 h.val) = cko (ck 2 (h.val + 1) d) 1 := by decide +kernel
/-- Where the reduction adds a landing of this chain: the half chunk of the next step. -/
theorem off18_rs : ∀ (d : Dev nD) (h : Fin 7), k0_off18 d (.ofNat 32 h.val) = cko (ck 3 (h.val + 1) d) 1 := by decide +kernel
/-- Where the gather's source of this chain lies: the half chunk of its step. -/
theorem off4_ag : ∀ (d : Dev nD) (h : Fin 8), k0_off4 d 1#32 (.ofNat 32 h.val) = cko (ag 0 h.val d) 0 := by decide +kernel
/-- Where the gather's source of this chain lies: the half chunk of its step. -/
theorem off19_ag : ∀ (d : Dev nD) (h : Fin 7), k0_off19 d (.ofNat 32 h.val) = cko (ag 1 h.val d) 0 := by decide +kernel
/-- Where the gather's source of this chain lies: the half chunk of its step. -/
theorem off20_ag : ∀ (d : Dev nD) (h : Fin 8), k0_off20 d (.ofNat 32 h.val) = cko (ag 2 h.val d) 1 := by decide +kernel
/-- Where the gather's source of this chain lies: the half chunk of its step. -/
theorem off21_ag : ∀ (d : Dev nD) (h : Fin 7), k0_off21 d (.ofNat 32 h.val) = cko (ag 3 h.val d) 1 := by decide +kernel

/-! ## Blocks as resources -/

/-- Contents of one block of 128 by 512. -/
abbrev Blk (F : FTy → Type) : Type := S128x512.Idx → Elt F .bf16

/-- Half `s` of chunk `k` of device `d`'s ring buffer, at share `q`, holding `X`. -/
def Rg (d : Dev nD) (k : Fin 16) (s : Fin 2) (q : PosShare TreeShare) (X : Blk F) : sProp 𝕄 :=
  owns (d : Thread nD τ) (ringV (cko k s) (cko_inb k s)) q X
/-- The same whole, at some contents. -/
def Ra (d : Dev nD) (k : Fin 16) (s : Fin 2) : sProp 𝕄 := iprop(∃ X : Blk F, Rg d k s fullShare X)
/-- Slot `h` of chain `a` of device `d`'s landing buffer, holding `X`. -/
def Cm (d : Dev nD) (a : Fin 4) (h : Fin 8) (X : Blk F) : sProp 𝕄 :=
  owns (d : Thread nD τ) (commV a h) fullShare X
/-- The same at some contents. -/
def Ca (d : Dev nD) (a : Fin 4) (h : Fin 8) : sProp 𝕄 := iprop(∃ X : Blk F, Cm d a h X)

/-- The same where chain `a` makes step `h`. -/
def Cu (d : Dev nD) (a : Fin 4) (h : Fin 8) : sProp 𝕄 := if used a h = true then Ca d a h else iprop(emp)

instance (d : Dev nD) (k : Fin 16) (s : Fin 2) (q : PosShare TreeShare) (X : Blk F) : BI.Storable (upEmb : UEmb _ 𝕄) (Rg d k s q X) := by
  unfold Rg; infer_instance
instance (d : Dev nD) (k : Fin 16) (s : Fin 2) : BI.Storable (upEmb : UEmb _ 𝕄) (Ra (F := F) d k s) := by
  unfold Ra; infer_instance
instance (d : Dev nD) (a : Fin 4) (h : Fin 8) (X : Blk F) : BI.Storable (upEmb : UEmb _ 𝕄) (Cm d a h X) := by
  unfold Cm; infer_instance
instance (d : Dev nD) (a : Fin 4) (h : Fin 8) : BI.Storable (upEmb : UEmb _ 𝕄) (Ca (F := F) d a h) := by
  unfold Ca; infer_instance
instance (d : Dev nD) (a : Fin 4) (h : Fin 8) : BI.Storable (upEmb : UEmb _ 𝕄) (Cu (F := F) d a h) := by
  unfold Cu; split <;> infer_instance

/-! ## What moves -/

/-- A device's block plus a landed one. -/
def accB (r X : Blk F) : Blk F := shapeCast S128x512 (addf (r : FVec F S128x512 .bf16) X) shapeCasts_S128x512_S128x512

variable (part : Dev nD → Fin 16 → Fin 2 → Blk F)

/-- What device `d` sends at step `h` of chain `a` of the reduction. -/
def sv (a : Fin 4) : ℕ → Dev nD → Blk F
  | 0, d => part d (ck a 0 d) (hf a)
  | h + 1, d => accB (part d (ck a (h + 1) d) (hf a)) (sv a h (pv a d))

/-- The device where half `s` of chunk `k` is reduced last. -/
def home (k : Fin 16) (s : Fin 2) : Dev nD :=
  (![0, 1, 5, 9, 13, 14, 10, 6, 2, 3, 7, 11, 15, 12, 8, 4] : Fin 16 → Fin 16) (if s = 0 then k - 1 else k + 1)

/-- The reduced sum of half `s` of chunk `k`. -/
def fv (k : Fin 16) (s : Fin 2) : Blk F :=
  if s = 0 then accB (sv part 1 7 (home k s)) (sv part 0 7 (lf (home k s)))
  else accB (sv part 3 7 (home k s)) (sv part 2 7 (rt (home k s)))

/-- The first half that a device gathers from is one that it has finished itself, -/
theorem home0 : ∀ d : Dev nD, home (ag 0 0 d) 0 = d := by decide +kernel
/-- and so is the second. -/
theorem home1 : ∀ d : Dev nD, home (ag 2 0 d) 1 = d := by decide +kernel

/-! ## The semaphores' cells -/

/-- The protocol's semaphores: the barrier's, and per purpose (0 the reduction's sources, 1 its landings, 2 the gather's
    sources, 3 its landings), chain and step a transfer's. -/
abbrev Kd : Type := Option (Fin 4 × Fin 4 × Fin 8)
abbrev arr (t : Fin 4) : DmaSems sig S4x8 := match t with | 0 => cc0_scratch3 | 1 => cc0_scratch4 | 2 => cc0_scratch5 | 3 => cc0_scratch6
abbrev csem : Kd → SemLoc sig := fun | none => .reg barS | some (t, a, h) => .dma (semV (arr t) a h)
abbrev cell (d : Dev nD) (k : Kd) : GSem nD τ sig := ((d : Thread nD τ), csem k)

/-- The number of a transfer's semaphore. -/
theorem semV_val : ∀ (t a : Fin 4) (h : Fin 8), (semV (arr t) a h).val = 6 + 32 * t.val + 8 * a.val + h.val := by decide +kernel

/-- Different transfers have different semaphores. -/
theorem csem_inj : Function.Injective csem := by
  rintro (_ | ⟨t, a, h⟩) (_ | ⟨t', a', h'⟩) e
  · rfl
  · cases e
  · cases e
  · have e' := congrArg Fin.val (SemLoc.dma.inj e)
    rw [semV_val, semV_val] at e'
    have : t = t' := Fin.ext (by omega)
    have : a = a' := Fin.ext (by omega)
    have : h = h' := Fin.ext (by omega)
    subst_vars; rfl

/-- Which of the protocol's semaphores one is. -/
def dk : SemLoc sig → Option Kd := Function.partialInv csem
/-- A semaphore tells its transfer; -/
theorem dk_csem (k : Kd) : dk (csem k) = some k := Function.partialInv_left csem_inj k
/-- and the transfer its semaphore. -/
theorem csem_of_dk {s : SemLoc sig} {k : Kd} (h : dk s = some k) : csem k = s := (Function.partialInv_of_injective csem_inj k s).mp h

/-- A cell tells its device and its transfer. -/
theorem cell_inj {d d' : Dev nD} {k k' : Kd} (h : cell d k = cell d' k') : d = d' ∧ k = k' :=
  ⟨congrArg (fun g : GSem nD τ sig => g.1.1) h, csem_inj (congrArg Prod.snd h)⟩

/-- A transfer's amount. -/
abbrev N : ℕ := (commV 0 0).view.dmaCredit
/-- A half chunk has some bytes. -/
theorem N_pos : 0 < N := View.dmaCredit_pos _ (by decide)

/-! ## The schedule -/

/-- What a reduction landing carries besides: the region the long chain's first source left, on its way to the device
    that writes it last. -/
def ext (a : Fin 4) (h : ℕ) (d : Dev nD) : sProp 𝕄 :=
  if a = 1 ∨ a = 3 then
    (if h = 1 then Ra d (ck (ev a) 0 d) (hf a)
     else if h = 2 then Ra (pv a d) (ck (ev a) 0 (pv a d)) (hf a) else iprop(emp))
  else iprop(emp)

instance (a : Fin 4) (h : ℕ) (d : Dev nD) : BI.Storable (upEmb : UEmb _ 𝕄) (ext (F := F) a h d) := by
  unfold ext; (repeat' split) <;> infer_instance

/-- The share of its source a gather send lends. -/
def ls (a : Fin 4) (h : ℕ) : PosShare TreeShare :=
  if h = 0 then (if a = 0 ∨ a = 2 then fullShare.left.left else fullShare.left.right) else fullShare.left

/-- What device `d`'s cell `k` hands over: the barrier, the neighbour's landing slots its chains will write; a reduction
    landing, its slot, the source's region and what it carries besides; a gather's source, the share lent; a gather's
    landing, the region written. -/
def pay (d : Dev nD) (k : Kd) (b : Bool) : sProp 𝕄 := match k with
  | none => if b then bigSep Finset.univ fun h : Fin 8 => iprop(Cu (rt d) 0 h ∗ Cu (rt d) 3 h)
      else bigSep Finset.univ fun h : Fin 8 => iprop(Cu (lf d) 1 h ∗ Cu (lf d) 2 h)
  | some (0, _, _) => iprop(emp)
  | some (1, a, h) => iprop((Cm d a h (sv part a h.val (pv a d)) ∗ ext a h.val d) ∗ Ra (pv a d) (ck a h.val (pv a d)) (hf a))
  | some (2, a, h) => Rg d (ag a h.val d) (hf a) (ls a h.val) (fv part (ag a h.val d) (hf a))
  | some (3, a, h) => Rg d (ag a h.val (pv a d)) (hf a) fullShare (fv part (ag a h.val (pv a d)) (hf a))

instance (d : Dev nD) (k : Kd) (b : Bool) : BI.Storable (upEmb : UEmb _ 𝕄) (pay part d k b) := by
  rcases k with _ | ⟨t, a, h⟩
  · unfold pay; dsimp only; split <;> infer_instance
  · fin_cases t <;> (unfold pay; dsimp only; infer_instance)

/-- The duties of a cell of the protocol. -/
def dut : Kd → Finset Bool
  | none => Finset.univ
  | some (_, a, h) => if used a h then {false} else ∅

/-- One round, round 0. -/
def Rd : Rounds.Schedule (GSem nD τ sig) Bool 𝕄 where
  duties g r := if r = 0 ∧ g.1.2 = .tc then (match dk g.2 with | some k => dut k | none => ∅) else ∅
  unitless _ := False
  amount g _ _ := if g.2 = .reg barS then 1 else N
  payload g _ b := match dk g.2 with | some k => pay part g.1.1 k b | none => iprop(emp)
  amount_pos g _ _ _ := by
    by_cases h : g.2 = .reg barS
    · rw [if_pos h]; exact Nat.one_pos
    · rw [if_neg h]; exact N_pos

instance (g : GSem nD τ sig) (r : ℕ) (b : Bool) : BI.Storable (upEmb : UEmb _ 𝕄) ((Rd part).payload g r b) := by
  show BI.Storable upEmb (match dk g.2 with | some k => pay part g.1.1 k b | none => iprop(emp))
  split <;> infer_instance

/-- The duties of a cell, all in its one round; -/
theorem duties_cell (d : Dev nD) (k : Kd) : (Rd part).duties (cell d k) 0 = dut k := by
  dsimp only [Rd]; rw [if_pos ⟨rfl, rfl⟩, dk_csem]
/-- there are none later. -/
theorem duties_later (g : GSem nD τ sig) (r : ℕ) (hr : 1 ≤ r) : (Rd part).duties g r = ∅ := by
  dsimp only [Rd]; exact if_neg fun h => by omega
/-- A barrier signal is worth one, -/
theorem amount_bar (d : Dev nD) (b : Bool) : (Rd part).amount (cell d none) 0 b = 1 := by
  dsimp only [Rd]; exact if_pos rfl
/-- a transfer its bytes. -/
theorem amount_dma (d : Dev nD) (x : Fin 4 × Fin 4 × Fin 8) (b : Bool) : (Rd part).amount (cell d (some x)) 0 b = N := by
  dsimp only [Rd]; exact if_neg fun h => by cases h
/-- What a cell hands over. -/
theorem payload_cell (d : Dev nD) (k : Kd) (b : Bool) : (Rd part).payload (cell d k) 0 b = pay part d k b := by
  dsimp only [Rd]; rw [dk_csem]
/-- A transfer that is made is a duty of its cell. -/
theorem mem_duties {a : Fin 4} {h : Fin 8} (hu : used a h = true) (d : Dev nD) (t : Fin 4) :
    false ∈ (Rd part).duties (cell d (some (t, a, h))) 0 := by
  rw [duties_cell]; unfold dut; simp only [hu, if_true]; exact Finset.mem_singleton_self _

/-- The barrier waits for two signals, -/
theorem expect_bar (d : Dev nD) : (Rd part).expect (cell d none) 0 = 2 := by
  unfold Schedule.expect Schedule.amountOf
  rw [duties_cell, Finset.sum_congr rfl fun b _ => amount_bar part d b]; rfl
/-- a transfer's cell for one transfer. -/
theorem expect_dma (d : Dev nD) (t a : Fin 4) (h : Fin 8) (hu : used a h = true) : (Rd part).expect (cell d (some (t, a, h))) 0 = N := by
  unfold Schedule.expect Schedule.amountOf
  rw [duties_cell]; unfold dut; simp only [hu, if_true]
  rw [Finset.sum_singleton, amount_dma]

/-- What the barrier's wait brings: both neighbours' payloads. -/
theorem rest_bar (d : Dev nD) : bigSep ((Rd part).duties (cell d none) 0 \ ∅) (fun b => (Rd part).payload (cell d none) 0 b)
    = iprop(pay part d none false ∗ pay part d none true) := by
  rw [Finset.sdiff_empty, duties_cell]
  unfold dut
  rw [bigSep_univ_eq_bigSepL [false, true] (by decide) (by decide), bigSepL_cons_cons, bigSepL_singleton, payload_cell, payload_cell]
  rfl
/-- What a transfer's wait brings: its one payload. -/
theorem rest_dma (d : Dev nD) (t a : Fin 4) (h : Fin 8) (hu : used a h = true) :
    bigSep ((Rd part).duties (cell d (some (t, a, h))) 0 \ ∅) (fun b => (Rd part).payload (cell d (some (t, a, h))) 0 b)
      = pay part d (some (t, a, h)) false := by
  rw [Finset.sdiff_empty, duties_cell]; unfold dut; simp only [hu, if_true]
  rw [bigSep_singleton, payload_cell]

/-! ## What each device owes; the levels -/

/-- A transfer: of the reduction (0) or the gather (1), chain, step. -/
abbrev Xf : Type := Fin 2 × Fin 4 × Fin 8
/-- Its place in a device's order of sends. -/
def rank (x : Xf) : ℕ := 32 * x.1.val + 4 * x.2.2.val
  + (if x.1 = 1 ∧ x.2.2 = 0 then x.2.1.val else (![0, 2, 1, 3] : Fin 4 → ℕ) x.2.1)
/-- The cell it lands at. -/
def lcell (x : Xf) (d : Dev nD) : GSem nD τ sig := cell (nb x.2.1 d) (some (if x.1 = 0 then 1 else 3, x.2.1, x.2.2))
/-- The sends from place `n` on. -/
def pend (n : ℕ) : Finset Xf := Finset.univ.filter fun x => used x.2.1 x.2.2 = true ∧ n ≤ rank x
/-- What device `d` owes from place `n` on. -/
def Oat (d : Dev nD) (n : ℕ) : CellTallies nD τ sig Unit := ∑ x ∈ pend n, tallyAt (lcell x d) () N

/-- No two transfers have the same place in the order. -/
theorem rank_inj : ∀ x y : Xf, rank x = rank y → x = y := by decide +kernel

/-- Making a transfer takes its credit off what is owed. -/
theorem Oat_step (d : Dev nD) (x : Xf) (hu : used x.2.1 x.2.2 = true) :
    Oat d (rank x) = Oat d (rank x + 1) + tallyAt (lcell x d) () N := by
  have h : pend (rank x) = insert x (pend (rank x + 1)) := by
    ext y; simp only [pend, Finset.mem_filter, Finset.mem_univ, true_and, Finset.mem_insert]
    constructor
    · rintro ⟨h1, h2⟩
      rcases Nat.eq_or_lt_of_le h2 with h3 | h3
      · exact Or.inl (rank_inj _ _ h3).symm
      · exact Or.inr ⟨h1, h3⟩
    · rintro (rfl | ⟨h1, h2⟩)
      · exact ⟨hu, le_rfl⟩
      · exact ⟨h1, by omega⟩
  have hn : x ∉ pend (rank x + 1) := by
    simp only [pend, Finset.mem_filter, Finset.mem_univ, true_and, not_and, not_le]; intro _; omega
  unfold Oat; rw [h, Finset.sum_insert hn, add_comm]

/-- Which transfers are still to be made, where a step makes none. -/
theorem pend_30 : pend 30 = pend 32 := by decide +kernel
/-- After the last transfer none is still to be made. -/
theorem pend_64 : pend 62 = ∅ := by decide +kernel
/-- What is owed, where a step makes no transfer. -/
theorem Oat_30 (d : Dev nD) : Oat d 30 = Oat d 32 := by unfold Oat; rw [pend_30]
/-- After the last transfer nothing is owed. -/
theorem Oat_62 (d : Dev nD) : Oat d 62 = 0 := by unfold Oat; rw [pend_64]; rfl
/-- Which transfers are still to be made, where a step makes none. -/
theorem pend_last : pend 62 = pend 64 := by decide +kernel
/-- What is owed, where a step makes no transfer. -/
theorem Oat_64 (d : Dev nD) : Oat d 62 = Oat d 64 := by unfold Oat; rw [pend_last]

/-- What device `d` owes at first: its signals, left then right, and its sends. -/
def O₁ (d : Dev nD) : CellTallies nD τ sig Unit := Oat d 0 + tallyAt (cell (rt d) none) () 1
@[inherit_doc O₁] def O₀ (d : Dev nD) : CellTallies nD τ sig Unit := O₁ d + tallyAt (cell (lf d) none) () 1

def L (g : GSem nD τ sig) : Finset Unit := if g.1.2 = .tc then {()} else ∅
/-- The level of a cell of the protocol. -/
def klv : Kd → ℕ
  | none => 1
  | some (t, _, h) => if t = 1 then 2 + h.val else if t = 3 then 10 + h.val else 0
/-- The barrier's cells at 1, the reduction's landings at 2 to 9, the gather's at 10 to 17, the rest at 0. -/
def lv (g : GSem nD τ sig) (_ : Unit) : ℕ := match dk g.2 with | some k => klv k | none => 0

/-- Only the cells of the devices' main threads have a level; -/
theorem L_of_ne (g : GSem nD τ sig) (h : g.1.2 ≠ .tc) : L g = ∅ := if_neg h
/-- all of them do. -/
theorem L_tc (d : Dev nD) (sm : SemLoc sig) : L ((d : Thread nD τ), sm) = {()} := if_pos rfl
/-- The level of a cell. -/
theorem lv_cell (d : Dev nD) (k : Kd) : lv (cell d k) () = klv k := by unfold lv; rw [dk_csem]

/-- The level of a landing's cell, by the order of the transfers. -/
theorem lcell_lv (x : Xf) (d : Dev nD) : lv (lcell x d) () = rank x / 4 + 2 := by
  unfold lcell; rw [lv_cell]; revert x; decide +kernel

/-- What is owed is owed to the landings of transfers yet to be made; -/
theorem Oat_pos {d : Dev nD} {n : ℕ} {g : GSem nD τ sig} {u : Unit} (h : 0 < Oat d n g u) : ∃ x, n ≤ rank x ∧ g = lcell x d := by
  unfold Oat at h
  rw [Finset.sum_apply, Finsupp.finset_sum_apply] at h
  obtain ⟨x, hx, h⟩ := Finset.exists_ne_zero_of_sum_ne_zero (Nat.pos_iff_ne_zero.mp h)
  rw [tallyAt_apply] at h
  refine ⟨x, (Finset.mem_filter.mp hx).2.2, ?_⟩
  by_contra hn
  exact h (if_neg fun h' => hn h'.1)

/-- at the start, to the neighbours' barriers besides. -/
theorem O₀_pos {d : Dev nD} {g : GSem nD τ sig} {u : Unit} (h : 0 < O₀ d g u) :
    (∃ x, g = lcell x d) ∨ g = cell (rt d) none ∨ g = cell (lf d) none := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨x, _, hx⟩ := Oat_pos (d := d) (n := 0) (g := g) (u := u) (by omega)
  exact hn.1 ⟨x, hx⟩

/-- A device may wait below the levels it still owes. -/
theorem mayWait_at (d : Dev nD) (k : Kd) (n : ℕ) (h : klv k < n / 4 + 2) :
    (levAts L lv : sProp 𝕄) ⊢ MayWait (d : Thread nD τ) (csem k) () (Oat d n) :=
  MayOwe.of_cut (L := L) (lev := lv) (klv k) (fun p hp => by rw [Finset.mem_singleton.mp hp, L_tc]; exact Finset.mem_singleton_self _)
    (fun g u hg => by obtain ⟨x, _, rfl⟩ := Oat_pos hg; exact Finset.mem_singleton_self _)
    (fun p hp => by rw [Finset.mem_singleton.mp hp]; exact (lv_cell d k).le)
    (fun g u hg => by
      obtain ⟨x, hx, rfl⟩ := Oat_pos hg
      rw [lcell_lv]; have := Nat.div_le_div_right (c := 4) hx; omega)

/-- A semaphore of the staging may be waited for at the start and at the end. -/
theorem mayWait_stage (d : Dev nD) (q : DmaSem sig) (hq : lv ((d : Thread nD τ), .dma q) () = 0) (O : CellTallies nD τ sig Unit) (hO : O = O₀ d ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | rfl | rfl <;> exact Finset.mem_singleton_self _)
      (fun p hp => by rw [Finset.mem_singleton.mp hp]; exact hq.le)
      (fun g u hg => by
        rcases O₀_pos hg with ⟨x, rfl⟩ | rfl | rfl
        · rw [lcell_lv]; omega
        · rw [lv_cell]; decide
        · rw [lv_cell]; decide)
  · rw [MayWait_zero]; iintro -; iempintro

end Cert.KernelIdeal.Moe

end
-- ==== Proof.Steps.lean ====
/- The transfers of the body, each at a symbolic device, chain and step: the sends and the waits of the reduction and
   of the gather, the waits for their sources, the barrier. -/
module

public import proofs.«01_k».proof.Proof.Common

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (part : Dev nD → Fin 16 → Fin 2 → Blk F)

abbrev 𝒱₀ : Variants := Variants.none

/-- The body's weakest precondition on device `d`. -/
abbrev WP (d : Dev nD) (p : PB F) (Q : PUnit → sProp 𝕄) : sProp 𝕄 :=
  wp frame (wpE (defs₀ (F := F)) 𝒱₀ (d : Thread nD τ) none) Set.univ p Q

/-- Every cell's invariant, and that every cell has reached round 0. -/
def records (K : Dev nD × Kd → ℕ) : sProp 𝕄 :=
  iprop((bigSep Finset.univ fun x : Dev nD × Kd => cellInv ER (Rd part) (K x) (cell x.1 x.2))
    ∗ bigSep Finset.univ fun x : Dev nD × Kd => reached ER (cell x.1 x.2) 0)

instance records_persistent (K : Dev nD × Kd → ℕ) : BI.Persistent (records part K) := by unfold records; infer_instance

theorem inv_of (K : Dev nD × Kd → ℕ) (x : Dev nD × Kd) :
    (bigSep Finset.univ fun x : Dev nD × Kd => (cellInv ER (Rd part) (K x) (cell x.1 x.2) : sProp 𝕄)) ⊢ cellInv ER (Rd part) (K x) (cell x.1 x.2) :=
  bigSep_elim (Finset.mem_univ x)
theorem reached_of (x : Dev nD × Kd) :
    (bigSep Finset.univ fun x : Dev nD × Kd => (reached ER (cell x.1 x.2) 0 : sProp 𝕄)) ⊢ reached ER (cell x.1 x.2) 0 :=
  bigSep_elim (Finset.mem_univ x)
theorem inv_at (K : Dev nD × Kd → ℕ) (d : Dev nD) (k : Kd) : records part K ⊢ cellInv ER (Rd part) (K (d, k)) (cell d k) := by
  unfold records; iintro ⟨H, -⟩; iapply (inv_of part K (d, k)); iexact H
theorem reached_at (K : Dev nD × Kd → ℕ) (d : Dev nD) (k : Kd) : records part K ⊢ reached ER (cell d k) 0 := by
  unfold records; iintro ⟨-, H⟩; iapply (reached_of (F := F) (d, k)); iexact H

theorem Oat_rs (d : Dev nD) (a : Fin 4) (h : Fin 8) (hu : used a h = true) :
    Oat d (rank (0, a, h)) = Oat d (rank (0, a, h) + 1) + tallyAt (cell (nb a d) (some (1, a, h))) () N := by
  rw [Oat_step d (0, a, h) hu]; rfl
theorem Oat_ag (d : Dev nD) (a : Fin 4) (h : Fin 8) (hu : used a h = true) :
    Oat d (rank (1, a, h)) = Oat d (rank (1, a, h) + 1) + tallyAt (cell (nb a d) (some (3, a, h))) () N := by
  rw [Oat_step d (1, a, h) hu]; rfl

/-- The token of the duty `b` of a cell. -/
abbrev tok (d : Dev nD) (k : Kd) (b : Bool) : sProp 𝕄 := dutyTok ER (cell d k) 0 b
/-- A device's position at its cell's round `r`. -/
abbrev at_ (d : Dev nD) (k : Kd) : sProp 𝕄 := atPos ER (cell d k) 0 ∅ 0
/-- The credit of a transfer at a cell. -/
abbrev crd (d : Dev nD) (k : Kd) : sProp 𝕄 := cred (tallyAt (cell d k) () N)
/-- What device `d` owes from place `n` on. -/
def OW (d : Dev nD) (n : ℕ) : sProp 𝕄 := iprop(∃ W : Waits sig Unit, owes (d : Thread nD τ) (Oat d n) W)

omit [FloatOps F] in
/-- A written block is owned at what was written. -/
theorem owns_written (c : Thread nD τ) {sp : Space} {sh : Shape} {e : EltTy} (m : Memref sig c.2.kind sp sh e) (f : m.view.ty.Contents (Elt F))
    {w X : sh.Idx → Elt F e} (hX : w = X) :
    (m.view.loc c ↦[m.view.set]{fullShare} (m.view.write (Elt F) f w Finset.univ) : sProp 𝕄) ⊢ owns c m fullShare X :=
  (owns_intro c m fullShare _).trans (Entails.of_eq (by rw [View.read_write_univ, hX]))

section Steps
variable (K : Dev nD × Kd → ℕ) (d : Dev nD) (a : Fin 4) (h : Fin 8)
variable {k : PB F} {o : Fin 2 → Nat} {ho : InbR o} {hw : WordsR o ho}

/-- A send of the reduction. -/
theorem wp_rsSend {Q : PUnit → sProp 𝕄} (hu : used a h = true) (n : Dev nD) (hn : n = nb a d) (ho' : o = cko (ck a h.val d) (hf a))
    (m m' : ℕ) (hm : rank (0, a, h) = m) (hm' : m' = m + 1) :
    iprop(records part K ∗ Rg d (ck a h.val d) (hf a) fullShare (sv part a h.val d) ∗ Ca (nb a d) a h ∗ ext a h.val (nb a d)
        ∗ tok d (some (0, a, h)) false ∗ tok (nb a d) (some (1, a, h)) false ∗ OW d m)
      ⊢ iprop(((crd d (some (0, a, h)) ∗ OW d m') -∗ WP d k Q) -∗ WP d (rsSendK n a h o ho hw k) Q) := by
  subst hn ho' hm hm'
  unfold rsSendK Rg Ca Cm OW
  unfold owns
  iintro ⟨#HR, ⟨%fs, %hfs, Hs⟩, ⟨%X, %fd, -, Hd⟩, Hx, Ht1, Ht2, ⟨%W, HO⟩⟩ Hk
  iapply (Rounds.wp_send_landing_pointsTo_with 𝒱₀ ER (Rd part) (d : Thread nD τ) none (κ₁ := K (d, some (0, a, h))) (κ₂ := K (nb a d, some (1, a, h)))
    (src := ringV (cko (ck a h.val d) (hf a)) ho) (dst := commV a h) (hsc := rfl) (sS := csem (some (0, a, h))) (sem := csem (some (1, a, h))) (c' := (nb a d : Thread nD τ)) (q := fullShare) (r₁ := 0) (r₂ := 0) (d₁ := false) (d₂ := false) (fs := fs) (fd := fd) (F := ext a h.val (nb a d))
    (mem_duties part hu d 0) (mem_duties part hu (nb a d) 1) () () N rfl (amount_dma part d _ false) (amount_dma part (nb a d) _ false)
    (Oat d (rank (0, a, h) + 1)) (Oat_rs d a h hu) (W := W)
    (by rw [payload_cell]; exact BI.Entails.refl _)
    (by
      rw [payload_cell]; unfold pay; dsimp only
      rw [pv_nb]
      iintro ⟨⟨Hd, Hx⟩, Hs⟩
      isplitl [Hd Hx]
      · isplitl [Hd]
        · unfold Cm; iapply (owns_written (nb a d : Thread nD τ) (commV a h) fd hfs); iexact Hd
        · iexact Hx
      · unfold Ra Rg owns; iexists _; iexists fs; isplitr
        · ipureintro; rfl
        · iexact Hs))
    $$ [Hs Hd Hx Ht1 Ht2 HO]
  · isplitr; · iapply (inv_at part K d (some (0, a, h))); iexact HR
    isplitr; · iapply (inv_at part K (nb a d) (some (1, a, h))); iexact HR
    isplitl [Hs]; · iexact Hs
    isplitl [Hd Hx]
    · isplitl [Hd]; · iexact Hd
      iexact Hx
    isplitl [HO]; · iexact HO
    isplitl [Ht1]; · iexact Ht1
    isplitr; · iapply (reached_at part K d (some (0, a, h))); iexact HR
    isplitl [Ht2]; · iexact Ht2
    iapply (reached_at part K (nb a d) (some (1, a, h))); iexact HR
  iintro ⟨Hc, HO⟩
  iapply Hk
  isplitl [Hc]; · iexact Hc
  iexists W; iexact HO

/-- A send of the gather. -/
theorem wp_agSend {Q : PUnit → sProp 𝕄} (hu : used a h = true) (n : Dev nD) (hn : n = nb a d) (ho' : o = cko (ag a h.val d) (hf a))
    (m m' : ℕ) (hm : rank (1, a, h) = m) (hm' : m' = m + 1) :
    iprop(records part K ∗ Rg d (ag a h.val d) (hf a) (ls a h.val) (fv part (ag a h.val d) (hf a)) ∗ Ra (nb a d) (ag a h.val d) (hf a)
        ∗ tok d (some (2, a, h)) false ∗ tok (nb a d) (some (3, a, h)) false ∗ OW d m)
      ⊢ iprop(((crd d (some (2, a, h)) ∗ OW d m') -∗ WP d k Q) -∗ WP d (agSendK n a h o ho hw k) Q) := by
  subst hn ho' hm hm'
  unfold agSendK Ra Rg OW
  unfold owns
  iintro ⟨#HR, ⟨%fs, %hfs, Hs⟩, ⟨%X, %fd, -, Hd⟩, Ht1, Ht2, ⟨%W, HO⟩⟩ Hk
  iapply (Rounds.wp_send_pointsTo 𝒱₀ ER (Rd part) (d : Thread nD τ) none (κ₁ := K (d, some (2, a, h))) (κ₂ := K (nb a d, some (3, a, h)))
    (src := ringV (cko (ag a h.val d) (hf a)) ho) (dst := ringV (cko (ag a h.val d) (hf a)) ho) (hsc := rfl) (sS := csem (some (2, a, h))) (sem := csem (some (3, a, h))) (c' := (nb a d : Thread nD τ)) (q := ls a h.val) (r₁ := 0) (r₂ := 0) (d₁ := false) (d₂ := false) (fs := fs) (fd := fd)
    (mem_duties part hu d 2) (mem_duties part hu (nb a d) 3) () () N rfl (amount_dma part d _ false) (amount_dma part (nb a d) _ false)
    (Oat d (rank (1, a, h) + 1)) (Oat_ag d a h hu) (W := W)
    (by
      rw [payload_cell]; unfold pay Rg owns; dsimp only
      iintro Hs; iexists fs; isplitr
      · ipureintro; exact hfs
      · iexact Hs)
    (by
      rw [payload_cell]; unfold pay Rg; dsimp only
      rw [pv_nb]
      iintro Hd; iapply (owns_written (nb a d : Thread nD τ) (ringV (cko (ag a h.val d) (hf a)) ho) fd hfs); iexact Hd))
    $$ [Hs Hd Ht1 Ht2 HO]
  · isplitr; · iapply (inv_at part K d (some (2, a, h))); iexact HR
    isplitr; · iapply (inv_at part K (nb a d) (some (3, a, h))); iexact HR
    isplitl [Hs]; · iexact Hs
    isplitl [Hd]; · iexact Hd
    isplitl [HO]; · iexact HO
    isplitl [Ht1]; · iexact Ht1
    isplitr; · iapply (reached_at part K d (some (2, a, h))); iexact HR
    isplitl [Ht2]; · iexact Ht2
    iapply (reached_at part K (nb a d) (some (3, a, h))); iexact HR
  iintro ⟨Hc, HO⟩
  iapply Hk
  isplitl [Hc]; · iexact Hc
  iexists W; iexact HO

/-- A wait at one of the device's own cells: what the cell hands over, and the cell closed. -/
theorem wp_waitCell {Q : PUnit → sProp 𝕄} (t : Fin 4) (hu : used a h = true) (m : ℕ) (hlv : klv (some (t, a, h)) < m / 4 + 2 ∨ 62 ≤ m)
    {w : TpuEff nD τ sig (Elt F) Λ₀ .tc PUnit} (hwt : ∀ R : PUnit → sProp 𝕄, wpE (defs₀ (F := F)) 𝒱₀ (d : Thread nD τ) none Set.univ w R
      = waitSpec (d : Thread nD τ) Set.univ (csem (some (t, a, h))) N R) (k : PUnit → PB F) :
    iprop(records part K ∗ levAts L lv ∗ crd d (some (t, a, h)) ∗ at_ d (some (t, a, h)) ∗ OW d m)
      ⊢ iprop(((pay part d (some (t, a, h)) false ∗ semVal (cell d (some (t, a, h))) 0 ∗ OW d m) -∗ WP d (k ⟨⟩) Q)
        -∗ WP d (.op w k) Q) := by
  unfold OW
  iintro ⟨#HR, #Hlev, Hc, Hat, ⟨%W, HO⟩⟩ Hk
  iapply (Rounds.wp_wait_rest_token 𝒱₀ ER (Rd part) (d : Thread nD τ) none (κ := K (d, some (t, a, h)))
      hwt (Set.mem_univ _) () (O := Oat d m) (W := W) (R := 0) (m := 0) (T := ∅)
      (by rw [Nat.zero_add]; exact (expect_dma part d t a h hu).symm)) $$ [Hc Hat HO]
  · isplitr; · iapply (inv_at part K d (some (t, a, h))); iexact HR
    isplitl [Hc]; · iexact Hc
    isplitl [HO]; · iexact HO
    isplitr
    · rcases hlv with hlv | hlv
      · iapply (mayWait_at d (some (t, a, h)) m hlv); iexact Hlev
      · have : Oat d m = 0 := by
          have h0 : pend m = ∅ := Finset.subset_empty.mp fun x hx => pend_64 ▸ Finset.mem_filter.mpr
            ⟨Finset.mem_univ _, (Finset.mem_filter.mp hx).2.1, hlv.trans (Finset.mem_filter.mp hx).2.2⟩
          unfold Oat; rw [h0]; rfl
        rw [this, MayWait_zero]; iempintro
    iexact Hat
  iintro ⟨HO, Hat, -, Hpay⟩
  ihave Hp := (Entails.of_eq (rest_dma part d t a h hu)) $$ Hpay
  imod (Rounds.cell_close ER (Rd part) (Set.mem_univ (K (d, some (t, a, h)))) (fun h => h) (R := 0 + 1) (duties_later part (cell d (some (t, a, h))))) $$ [Hat] with Hz
  · isplitr; · iapply (inv_at part K d (some (t, a, h))); iexact HR
    iexact Hat
  iapply Hk
  isplitl [Hp]; · iexact Hp
  isplitl [Hz]; · iexact Hz
  iexists _; iexact HO

/-- The wait for a landing of the reduction. -/
theorem wp_rsWait {Q : PUnit → sProp 𝕄} (hu : used a h = true) (m : ℕ) (hlv : h.val < m / 4) :
    iprop(records part K ∗ levAts L lv ∗ crd d (some (1, a, h)) ∗ at_ d (some (1, a, h)) ∗ OW d m)
      ⊢ iprop(((((Cm d a h (sv part a h.val (pv a d)) ∗ ext a h.val d) ∗ Ra (pv a d) (ck a h.val (pv a d)) (hf a))
            ∗ semVal (cell d (some (1, a, h))) 0 ∗ OW d m) -∗ WP d k Q)
        -∗ WP d (rsWaitK a h o ho hw k) Q) :=
  wp_waitCell part K d a h 1 hu m (Or.inl (by unfold klv; simp only [if_true]; omega))
    (w := .waitDma2 (semV cc0_scratch4 a h) (ringV o ho) (commV a h) ((Memref.isWhole_whole _).wordExact_slice rfl _ hw) (((Memref.isWhole_whole _).wordExact_slice rfl _ (comm_words a h)).reshape _ _))
    (wpE_waitDma2_eq 𝒱₀ (d : Thread nD τ) none Set.univ (src := (ringV o ho)) (dst := (commV a h)))
    (fun _ => k)

/-- The wait for a landing of the gather. -/
theorem wp_agWait {Q : PUnit → sProp 𝕄} (hu : used a h = true) (m : ℕ) (hlv : 8 + h.val < m / 4) :
    iprop(records part K ∗ levAts L lv ∗ crd d (some (3, a, h)) ∗ at_ d (some (3, a, h)) ∗ OW d m)
      ⊢ iprop((((Rg d (ag a h.val (pv a d)) (hf a) fullShare (fv part (ag a h.val (pv a d)) (hf a)))
            ∗ semVal (cell d (some (3, a, h))) 0 ∗ OW d m) -∗ WP d k Q)
        -∗ WP d (agWaitK a h o ho hw k) Q) :=
  wp_waitCell part K d a h 3 hu m (Or.inl (by unfold klv; simp only [show (3 : Fin 4) ≠ 1 from by decide, if_false, if_true]; omega))
    (w := .waitDma2 (semV cc0_scratch6 a h) (ringV o ho) (ringV o ho) ((Memref.isWhole_whole _).wordExact_slice rfl _ hw) ((Memref.isWhole_whole _).wordExact_slice rfl _ hw))
    (wpE_waitDma2_eq 𝒱₀ (d : Thread nD τ) none Set.univ (src := (ringV o ho)) (dst := (ringV o ho)))
    (fun _ => k)

/-- The wait for a source of the reduction. -/
theorem wp_rsDone {Q : PUnit → sProp 𝕄} (hu : used a h = true) :
    iprop(records part K ∗ levAts L lv ∗ crd d (some (0, a, h)) ∗ at_ d (some (0, a, h)) ∗ OW d 62)
      ⊢ iprop(((emp ∗ semVal (cell d (some (0, a, h))) 0 ∗ OW d 62) -∗ WP d k Q)
        -∗ WP d (rsDoneK a h o ho hw k) Q) :=
  wp_waitCell part K d a h 0 hu 62 (Or.inr le_rfl)
    (w := .waitDma2 (semV cc0_scratch3 a h) (commV a h) (ringV o ho) (((Memref.isWhole_whole _).wordExact_slice rfl _ (comm_words a h)).reshape _ _) ((Memref.isWhole_whole _).wordExact_slice rfl _ hw))
    (wpE_waitDma2_eq 𝒱₀ (d : Thread nD τ) none Set.univ (src := (commV a h)) (dst := (ringV o ho)))
    (fun _ => k)

/-- The wait for a source of the gather. -/
theorem wp_agDone {Q : PUnit → sProp 𝕄} (hu : used a h = true) :
    iprop(records part K ∗ levAts L lv ∗ crd d (some (2, a, h)) ∗ at_ d (some (2, a, h)) ∗ OW d 62)
      ⊢ iprop(((Rg d (ag a h.val d) (hf a) (ls a h.val) (fv part (ag a h.val d) (hf a)) ∗ semVal (cell d (some (2, a, h))) 0 ∗ OW d 62) -∗ WP d k Q)
        -∗ WP d (agDoneK a h o ho hw k) Q) :=
  wp_waitCell part K d a h 2 hu 62 (Or.inr le_rfl)
    (w := .waitDma2 (semV cc0_scratch5 a h) (ringV o ho) (ringV o ho) ((Memref.isWhole_whole _).wordExact_slice rfl _ hw) ((Memref.isWhole_whole _).wordExact_slice rfl _ hw))
    (wpE_waitDma2_eq 𝒱₀ (d : Thread nD τ) none Set.univ (src := (ringV o ho)) (dst := (ringV o ho)))
    (fun _ => k)

end Steps

/-- The barrier: the device's own slots go to its neighbours, theirs come back. -/
theorem wp_bar (K : Dev nD × Kd → ℕ) (d : Dev nD) {Q : PUnit → sProp 𝕄} {k : PB F} :
    iprop(records part K ∗ levAts L lv ∗ (∃ W : Waits sig Unit, owes (d : Thread nD τ) (O₀ d) W)
        ∗ tok (lf d) none true ∗ tok (rt d) none false ∗ cred (tallyAt (cell d none) () 2) ∗ at_ d none
        ∗ (bigSep Finset.univ fun h : Fin 8 => iprop(Cu d 0 h ∗ Cu d 3 h)) ∗ (bigSep Finset.univ fun h : Fin 8 => iprop(Cu d 1 h ∗ Cu d 2 h)))
      ⊢ iprop((((bigSep Finset.univ fun h : Fin 8 => iprop(Cu (rt d) 0 h ∗ Cu (rt d) 3 h)) ∗ (bigSep Finset.univ fun h : Fin 8 => iprop(Cu (lf d) 1 h ∗ Cu (lf d) 2 h))
            ∗ semVal (cell d none) 0 ∗ OW d 0) -∗ WP d k Q)
        -∗ WP d (barK (lf d) (rt d) k) Q) := by
  unfold barK
  simp only [semSignalWord, semWaitWord, Prog.lift, Prog.bind_op, Prog.bind_ret, Prog.pure_eq_ret]
  iintro ⟨#HR, #Hlev, ⟨%W, HO⟩, HtL, HtR, Hc, Hat, H03, H12⟩ Hk
  iapply (Rounds.wp_signal 𝒱₀ ER (Rd part) (d : Thread nD τ) none (dst := (lf d : Thread nD τ)) (κ := K (lf d, none))
      (d := true) (by show true ∈ (Rd part).duties (cell (lf d) none) 0; rw [duties_cell]; exact Finset.mem_univ _) ((amount_bar part (lf d) true).trans (by decide)) () (O₁ d) rfl)
    $$ [HO HtL H03]
  · isplitr; · iapply (inv_at part K (lf d) none); iexact HR
    isplitl [HO]; · iexact HO
    isplitl [HtL]; · iexact HtL
    isplitl [H03]
    · iapply (Entails.of_eq (payload_cell part (lf d) none true).symm)
      unfold pay; dsimp only; rw [if_pos rfl, rt_lf]; iexact H03
    iapply (reached_at part K (lf d) none); iexact HR
  iintro HO
  unfold O₁
  iapply (Rounds.wp_signal 𝒱₀ ER (Rd part) (d : Thread nD τ) none (dst := (rt d : Thread nD τ)) (κ := K (rt d, none))
      (d := false) (by show false ∈ (Rd part).duties (cell (rt d) none) 0; rw [duties_cell]; exact Finset.mem_univ _) ((amount_bar part (rt d) false).trans (by decide)) () (Oat d 0) rfl)
    $$ [HO HtR H12]
  · isplitr; · iapply (inv_at part K (rt d) none); iexact HR
    isplitl [HO]; · iexact HO
    isplitl [HtR]; · iexact HtR
    isplitl [H12]
    · iapply (Entails.of_eq (payload_cell part (rt d) none false).symm)
      unfold pay; dsimp only; rw [if_neg Bool.false_ne_true, lf_rt]; iexact H12
    iapply (reached_at part K (rt d) none); iexact HR
  iintro HO
  iapply (Rounds.wp_wait_rest_token 𝒱₀ ER (Rd part) (d : Thread nD τ) none (κ := K (d, none))
      (wpE_semWait_eq 𝒱₀ (d : Thread nD τ) none Set.univ) (Set.mem_univ _) () (O := Oat d 0) (W := W) (R := 0) (m := 0) (T := ∅)
      (by show 0 + _ = (Rd part).expect (cell d none) 0; rw [expect_bar]; decide)) $$ [Hc HO Hat]
  · isplitr; · iapply (inv_at part K d none); iexact HR
    isplitl [Hc]; · iexact Hc
    isplitl [HO]; · iexact HO
    isplitr; · iapply (mayWait_at d none 0 (by decide)); iexact Hlev
    iexact Hat
  iintro ⟨HO, Hat, -, Hpay⟩
  ihave Hp := (Entails.of_eq (rest_bar part d)) $$ Hpay
  imod (Rounds.cell_close ER (Rd part) (Set.mem_univ (K (d, none))) (fun h => h) (R := 0 + 1) (duties_later part (cell d none))) $$ [Hat] with Hz
  · isplitr; · iapply (inv_at part K d none); iexact HR
    iexact Hat
  unfold pay; dsimp only; rw [if_pos rfl, if_neg Bool.false_ne_true]
  icases Hp with ⟨H12, H03⟩
  iapply Hk
  isplitl [H03]; · iexact H03
  isplitl [H12]; · iexact H12
  isplitl [Hz]; · iexact Hz
  unfold OW; iexists _; iexact HO

end Cert.KernelIdeal.Moe

end
-- ==== Proof.Compute.lean ====
/- The computing steps of the body: the coefficients, one contribution, one accumulation, one combination. -/
module

public import proofs.«01_k».proof.Proof.Steps
public import Idealize.ShloMosaic.Lib.Pipeline.FrameBody

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's inputs and what it computes of them -/

/-- One device's blocks of the five arguments. -/
structure Ins (F : FTy → Type) where
  x : Vec F S2048x512 .f32
  rw : Vec F S512x128 .f32
  ri : Vec F S2048x1 .i32
  ew : Vec F S8x512x1024 .f32
  sw : Vec F S512x1024 .f32

/-- The coefficients of all tokens. -/
def Ins.cf (I : Ins F) : Vec F S2048x1 .f32 := coefVal I.x I.rw I.ri

theorem xk_inb (k : Fin 16) : ∀ a, (![128 * k.val, 0] : Fin 2 → Nat) a + S128x512.size a ≤ S2048x512.size a := by revert k; decide
theorem ck_inb (k : Fin 16) : ∀ a, (![128 * k.val, 0] : Fin 2 → Nat) a + S128x1.size a ≤ S2048x1.size a := by revert k; decide
theorem ok_inb (k : Fin 16) : ∀ a, (![128 * k.val, 0] : Fin 2 → Nat) a + S128x1024.size a ≤ S2048x1024.size a := by revert k; decide

/-- The rows of chunk `k` of a matrix of tokens; -/
def xB (f : Vec F S2048x512 .f32) (k : Fin 16) : Vec F S128x512 .f32 :=
  fun y => f ((Rect.unit (s := S2048x512) ![128 * k.val, 0] S128x512.size (xk_inb k)).idx y)
/-- of a column. -/
def colB {e : EltTy} (f : Vec F S2048x1 e) (k : Fin 16) : Vec F S128x1 e :=
  fun y => f ((Rect.unit (s := S2048x1) ![128 * k.val, 0] S128x1.size (ck_inb k)).idx y)
/-- Half `s` of expert `e`'s matrix. -/
def ewB (f : Vec F S8x512x1024 .f32) (s : Fin 2) (e : Fin 8) : Vec F S1x512x512 .f32 :=
  fun y => f ((Rect.unit (s := S8x512x1024) ![e.val, 0, 512 * s.val] S1x512x512.size (ew_inb s e)).idx y)

/-- Device `d`'s contribution to half `s` of chunk `k`. -/
def prt (I : Dev nD → Ins F) (d : Dev nD) (k : Fin 16) (s : Fin 2) : Blk F :=
  partVal (devW d) (xB (I d).x k) (colB (I d).ri k) (colB (I d).cf k) (ewB (I d).ew s 0) (ewB (I d).ew s 1) (ewB (I d).ew s 2) (ewB (I d).ew s 3)
    (ewB (I d).ew s 4) (ewB (I d).ew s 5) (ewB (I d).ew s 6) (ewB (I d).ew s 7)

/-- The whole of a buffer holding `f`. -/
abbrev At {sp : Space} {s : Shape} {e : EltTy} (d : Dev nD) (m : Memref sig .tc sp s e) (f : Buf (Elt F) (m.view.loc (d : Thread nD τ))) : sProp 𝕄 :=
  m.view.loc (d : Thread nD τ) ↦[Finset.univ]{fullShare} f

/-- The inputs in their buffers, the coefficients computed. -/
def Dt (d : Dev nD) (I : Ins F) : sProp 𝕄 :=
  iprop(At d xM I.x ∗ At d rwM I.rw ∗ At d riM I.ri ∗ At d ewM I.ew ∗ At d swM I.sw ∗ At d cfM I.cf)

section
variable (d : Dev nD) (I : Ins F) {k : PB F} {o : Fin 2 → Nat}

theorem zero2 {n m : Nat} : (![0, 0] : Fin 2 → Nat) = fun _ => 0 := by funext i; fin_cases i <;> rfl

/-- The coefficients. -/
theorem wp_coef {Q : PUnit → sProp 𝕄} :
    iprop(At d xM I.x ∗ At d rwM I.rw ∗ At d riM I.ri ∗ At d ewM I.ew ∗ At d swM I.sw ∗ (∃ f : Vec F S2048x1 .f32, At d cfM f))
      ⊢ iprop((Dt d I -∗ WP d k Q) -∗ WP d (coefK k) Q) := by
  unfold coefK Dt
  iintro ⟨Hx, Hrw, Hri, Hew, Hsw, ⟨%f, Hcf⟩⟩ Hk
  iapply (wp_load 𝒱₀ (d : Thread nD τ) none Set.univ (m := xM) (Finset.subset_univ _)) $$ Hx; iintro Hx
  iapply (wp_load 𝒱₀ (d : Thread nD τ) none Set.univ (m := rwM) (Finset.subset_univ _)) $$ Hrw; iintro Hrw
  iapply (wp_load 𝒱₀ (d : Thread nD τ) none Set.univ (m := riM) (Finset.subset_univ _)) $$ Hri; iintro Hri
  iapply (wp_load 𝒱₀ (d : Thread nD τ) none Set.univ (m := cfM) (Finset.subset_univ _)) $$ Hcf; iintro Hcf
  iapply (wp_store 𝒱₀ (d : Thread nD τ) none Set.univ (m := cfM) (Mk := Finset.univ) (r := Rect.unit (s := S2048x1) ![0, 0] S2048x1.size inb_S2048x1_S2048x1_0_0) (Finset.subset_univ _)) $$ Hcf; iintro Hcf
  iapply Hk
  isplitl [Hx]; · iexact Hx
  isplitl [Hrw]; · iexact Hrw
  isplitl [Hri]; · iexact Hri
  isplitl [Hew]; · iexact Hew
  isplitl [Hsw]; · iexact Hsw
  have hz : (![0, 0] : Fin 2 → Nat) = fun _ => 0 := by funext i; fin_cases i <;> rfl
  have e1 : ∀ g, (xM.view.readAt (Elt F) (Rect.unit (s := S2048x512) ![0, 0] S2048x512.size inb_S2048x512_S2048x512_0_0).toLoadRect g) = g :=
    fun g => Memref.readAt_unit_zero (Elt F) cc0_stg0_0 hz _ g
  have e2 : ∀ g, (rwM.view.readAt (Elt F) (Rect.unit (s := S512x128) ![0, 0] S512x128.size inb_S512x128_S512x128_0_0).toLoadRect g) = g :=
    fun g => Memref.readAt_unit_zero (Elt F) cc0_stg1_0 hz _ g
  have e3 : ∀ g, (riM.view.readAt (Elt F) (Rect.unit (s := S2048x1) ![0, 0] S2048x1.size inb_S2048x1_S2048x1_0_0).toLoadRect g) = g :=
    fun g => Memref.readAt_unit_zero (Elt F) cc0_stg2_0 hz _ g
  have e4 : ∀ g w, ((cfM.access (Rect.unit (s := S2048x1) ![0, 0] S2048x1.size inb_S2048x1_S2048x1_0_0)).write (Elt F) g w Finset.univ) = w :=
    fun g w => Memref.write_access_unit_zero_univ (Elt F) cc0_scratch2 hz _ g w
  rw [e1, e2, e3, e4]
  iexact Hcf

/-- One contribution. -/
theorem wp_part {Q : PUnit → sProp 𝕄} (I : Dev nD → Ins F) (s : Fin 2) (c : Fin 16) {ox : Fin 2 → Nat} {hx} {oc : Fin 2 → Nat} {hc} {os : Fin 2 → Nat} {hs} {hp}
    (eox : ox = ![128 * c.val, 0]) (eoc : oc = ![128 * c.val, 0]) (eos : os = cko c s) :
    iprop(Dt d (I d) ∗ Ra d c s)
      ⊢ iprop(((Dt d (I d) ∗ Rg d c s fullShare (prt I d c s)) -∗ WP d k Q) -∗ WP d (partK d s ox hx oc hc os hs hp k) Q) := by
  subst eox eoc eos
  unfold partK Dt Ra Rg ewL
  conv_lhs => unfold owns
  iintro ⟨⟨Hx, Hrw, Hri, Hew, Hsw, Hcf⟩, ⟨%X, %fr, -, Hr⟩⟩ Hk
  iapply (wp_load 𝒱₀ (d : Thread nD τ) none Set.univ (m := xM) (Finset.subset_univ _)) $$ Hx; iintro Hx
  iapply (wp_load 𝒱₀ (d : Thread nD τ) none Set.univ (m := riM) (Finset.subset_univ _)) $$ Hri; iintro Hri
  iapply (wp_load 𝒱₀ (d : Thread nD τ) none Set.univ (m := cfM) (Finset.subset_univ _)) $$ Hcf; iintro Hcf
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load 𝒱₀ (d : Thread nD τ) none Set.univ (m := ewM) (Finset.subset_univ _)) $$ Hew; iintro Hew
  iapply (wp_load_rect 𝒱₀ (d : Thread nD τ) none Set.univ (m := rgM) (r := (Rect.unit (s := S2048x1024) (cko c s) S128x512.size hs)) (S := (ringV (cko c s) hs).view.set) (le_refl _)) $$ Hr; iintro Hr
  iapply (wp_store 𝒱₀ (d : Thread nD τ) none Set.univ (m := rgM) (Mk := Finset.univ) (r := (Rect.unit (s := S2048x1024) (cko c s) S128x512.size hs)) (S := (ringV (cko c s) hs).view.set) (le_refl _)) $$ Hr; iintro Hr
  iapply Hk
  isplitr [Hr]
  · isplitl [Hx]; · iexact Hx
    isplitl [Hrw]; · iexact Hrw
    isplitl [Hri]; · iexact Hri
    isplitl [Hew]; · iexact Hew
    isplitl [Hsw]; · iexact Hsw
    iexact Hcf
  · iapply (owns_written (d : Thread nD τ) (ringV (cko c s) hs) fr (w := prt I d c s) rfl); iexact Hr

/-- One accumulation. -/
theorem wp_acc {Q : PUnit → sProp 𝕄} (a : Fin 4) (h : Fin 8) (c : Fin 16) (s : Fin 2) (r X : Blk F) {os : Fin 2 → Nat} {hs} {hp} (eos : os = cko c s) :
    iprop(Rg d c s fullShare r ∗ Cm d a h X)
      ⊢ iprop(((Rg d c s fullShare (accB r X) ∗ Cm d a h X) -∗ WP d k Q) -∗ WP d (accK a h os hs hp k) Q) := by
  subst eos
  unfold accK Rg Cm
  conv_lhs => unfold owns
  iintro ⟨⟨%fr, %hfr, Hr⟩, ⟨%fc, %hfc, Hc⟩⟩ Hk
  iapply (wp_load_rect 𝒱₀ (d : Thread nD τ) none Set.univ (m := rgM) (r := (Rect.unit (s := S2048x1024) (cko c s) S128x512.size hs)) (S := (ringV (cko c s) hs).view.set) (le_refl _)) $$ Hr; iintro Hr
  iapply (wp_load_rect 𝒱₀ (d : Thread nD τ) none Set.univ (m := cmM) (r := (Rect.unit (s := S4x8x128x512) ![a.val, h.val, 0, 0] S1x1x128x512.size (comm_inb a h))) (S := (commV a h).view.set)
    (le_of_eq (View.set_reshape _ _).symm)) $$ Hc; iintro Hc
  iapply (wp_load_rect 𝒱₀ (d : Thread nD τ) none Set.univ (m := rgM) (r := (Rect.unit (s := S2048x1024) (cko c s) S128x512.size hs)) (S := (ringV (cko c s) hs).view.set) (le_refl _)) $$ Hr; iintro Hr
  iapply (wp_store 𝒱₀ (d : Thread nD τ) none Set.univ (m := rgM) (Mk := Finset.univ) (r := (Rect.unit (s := S2048x1024) (cko c s) S128x512.size hs)) (S := (ringV (cko c s) hs).view.set) (le_refl _)) $$ Hr; iintro Hr
  iapply Hk
  isplitl [Hr]
  · iapply (owns_written (d : Thread nD τ) (ringV (cko c s) hs) fr (w := accVal (View.read (Elt F) (ringV (cko c s) hs).view fr) (View.read (Elt F) (cmM.access (Rect.unit (s := S4x8x128x512) ![a.val, h.val, 0, 0] S1x1x128x512.size (comm_inb a h))) fc)) (by
      subst hfr hfc; rfl)); iexact Hr
  · subst hfc; iapply (owns_intro (d : Thread nD τ) (commV a h) fullShare fc); iexact Hc
end

end Cert.KernelIdeal.Moe

end
-- ==== Proof.Buffers.lean ====
/- The buffers by blocks: the ring buffer as its half chunks, the landing buffer as its slots, two half chunks as a row
   of the ring buffer, the output filled row by row; and the combining step. -/
module

public import proofs.«01_k».proof.Proof.Compute
public import Idealize.ShloMosaic.Lib.Ring
public import Idealize.ShloMosaic.Lib.ValueIdxCore
public import Idealize.ShloMosaic.Lib.MemrefSat
public import Idealize.ShloMosaic.Lib.Pipeline.ValueKit.Tiles

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Ring
open Idealize.ShloMosaic.Pipeline (Dat Cfg Window BodyObligation cellOf)

variable {F : FTy → Type} [FloatOps F]

local notation "𝕄" => MT nD τ sig Unit (Elt F) ℕ UU ℕ

/-! ## Geometry -/

/-- The rectangle of half `s` of chunk `k`; -/
abbrev rR (k : Fin 16) (s : Fin 2) : Rect S2048x1024 := Rect.unit (s := S2048x1024) (cko k s) S128x512.size (cko_inb k s)
/-- the rectangle of chunk `k`; -/
abbrev rowR (k : Fin 16) : Rect S2048x1024 := Rect.unit (s := S2048x1024) ![128 * k.val, 0] S128x1024.size (ok_inb k)
/-- the rectangle of a landing slot. -/
abbrev cR (a : Fin 4) (h : Fin 8) : Rect S4x8x128x512 := Rect.unit (s := S4x8x128x512) ![a.val, h.val, 0, 0] S1x1x128x512.size (comm_inb a h)

/-- Which indices lie in half `s` of chunk `k` of the ring buffer. -/
theorem mem_rR {k : Fin 16} {s : Fin 2} {i : S2048x1024.Idx} :
    i ∈ (rR k s).set ↔ (128 * k.val ≤ (i 0).val ∧ (i 0).val < 128 * k.val + 128) ∧ (512 * s.val ≤ (i 1).val ∧ (i 1).val < 512 * s.val + 512) := by
  rw [Rect.mem_set_unit]
  exact Fin.forall_fin_two
/-- Which indices lie in chunk `k`, both halves. -/
theorem mem_rowR {k : Fin 16} {i : S2048x1024.Idx} :
    i ∈ (rowR k).set ↔ 128 * k.val ≤ (i 0).val ∧ (i 0).val < 128 * k.val + 128 := by
  rw [Rect.mem_set_unit]
  refine Fin.forall_fin_two.trans ⟨fun h => h.1, fun h => ⟨h, ?_⟩⟩
  have := (i 1).isLt
  exact ⟨Nat.zero_le _, this⟩
/-- Which indices lie in slot `h` of chain `a` of the landing buffer. -/
theorem mem_cR {a : Fin 4} {h : Fin 8} {i : S4x8x128x512.Idx} :
    i ∈ (cR a h).set ↔ (i 0).val = a.val ∧ (i 1).val = h.val := by
  rw [Rect.mem_set_unit]
  have h2 := (i 2).isLt
  have h3 := (i 3).isLt
  constructor
  · intro H
    have h0 : a.val ≤ (i 0).val ∧ (i 0).val < a.val + 1 := H 0
    have h1 : h.val ≤ (i 1).val ∧ (i 1).val < h.val + 1 := H 1
    omega
  · rintro ⟨e0, e1⟩ x
    match x with
    | 0 => show a.val ≤ (i 0).val ∧ (i 0).val < a.val + 1; omega
    | 1 => show h.val ≤ (i 1).val ∧ (i 1).val < h.val + 1; omega
    | 2 => exact ⟨Nat.zero_le _, h2⟩
    | 3 => exact ⟨Nat.zero_le _, h3⟩

/-- Two half chunks have no index in common. -/
theorem rR_disjoint (x y : Fin 16 × Fin 2) (h : x ≠ y) : Disjoint (rR x.1 x.2).set (rR y.1 y.2).set :=
  Finset.disjoint_left.mpr fun i hi hj => h (by
    have h1 := mem_rR.mp hi; have h2 := mem_rR.mp hj
    exact Prod.ext (Fin.ext (by omega)) (Fin.ext (by omega)))
/-- The half chunks cover the ring buffer. -/
theorem rR_cover : Finset.univ.biUnion (fun x : Fin 16 × Fin 2 => (rR x.1 x.2).set) = Finset.univ := by
  refine Finset.eq_univ_iff_forall.mpr fun i => Finset.mem_biUnion.mpr ?_
  have h0 : (i 0).val < 2048 := (i 0).isLt
  have h1 : (i 1).val < 1024 := (i 1).isLt
  exact ⟨(⟨(i 0).val / 128, by omega⟩, ⟨(i 1).val / 512, by omega⟩), Finset.mem_univ _, mem_rR.mpr ⟨⟨by dsimp only; omega, by dsimp only; omega⟩, by dsimp only; omega, by dsimp only; omega⟩⟩
/-- Two slots have no index in common. -/
theorem cR_disjoint (x y : Fin 4 × Fin 8) (h : x ≠ y) : Disjoint (cR x.1 x.2).set (cR y.1 y.2).set :=
  Finset.disjoint_left.mpr fun i hi hj => h (by
    have h1 := mem_cR.mp hi; have h2 := mem_cR.mp hj
    exact Prod.ext (Fin.ext (by omega)) (Fin.ext (by omega)))
/-- The slots cover the landing buffer. -/
theorem cR_cover : Finset.univ.biUnion (fun x : Fin 4 × Fin 8 => (cR x.1 x.2).set) = Finset.univ :=
  Finset.eq_univ_iff_forall.mpr fun i => Finset.mem_biUnion.mpr ⟨(i 0, i 1), Finset.mem_univ _, mem_cR.mpr ⟨rfl, rfl⟩⟩

/-- The half chunk that a transfer names, as a set of indices. -/
theorem ringSet (k : Fin 16) (s : Fin 2) : (ringV (cko k s) (cko_inb k s)).view.set = (rR k s).set := View.set_slice_whole _ _
/-- The slot that a transfer names, as a set of indices. -/
theorem commSet (a : Fin 4) (h : Fin 8) : (commV a h).view.set = (cR a h).set := (View.set_reshape _ _).trans (View.set_slice_whole _ _)

/-! ## The buffers as their blocks -/

/-- Owning the indices of a half chunk is owning the half chunk with some contents, -/
theorem Ra_intro (d : Dev nD) (k : Fin 16) (s : Fin 2) (f : Buf (Elt F) (rgM.view.loc (d : Thread nD τ))) :
    (rgM.view.loc (d : Thread nD τ) ↦[(rR k s).set]{fullShare} f : sProp 𝕄) ⊢ Ra d k s := by
  unfold Ra Rg owns
  rw [ringSet]
  iintro H; iexists _; iexists f; isplitr
  · ipureintro; rfl
  · iexact H
/-- and conversely. -/
theorem Ra_elim (d : Dev nD) (k : Fin 16) (s : Fin 2) :
    (Ra d k s : sProp 𝕄) ⊢ iprop(∃ f : Buf (Elt F) (rgM.view.loc (d : Thread nD τ)), rgM.view.loc (d : Thread nD τ) ↦[(rR k s).set]{fullShare} f) := by
  unfold Ra Rg owns
  rw [ringSet]
  iintro ⟨%X, %f, -, H⟩; iexists f; iexact H
/-- Owning the indices of a slot is owning the slot with some contents, -/
theorem Ca_intro (d : Dev nD) (a : Fin 4) (h : Fin 8) (f : Buf (Elt F) (cmM.view.loc (d : Thread nD τ))) :
    (cmM.view.loc (d : Thread nD τ) ↦[(cR a h).set]{fullShare} f : sProp 𝕄) ⊢ Ca d a h := by
  unfold Ca Cm owns
  rw [commSet]
  iintro H; iexists _; iexists f; isplitr
  · ipureintro; rfl
  · iexact H
/-- and conversely. -/
theorem Ca_elim (d : Dev nD) (a : Fin 4) (h : Fin 8) :
    (Ca d a h : sProp 𝕄) ⊢ iprop(∃ f : Buf (Elt F) (cmM.view.loc (d : Thread nD τ)), cmM.view.loc (d : Thread nD τ) ↦[(cR a h).set]{fullShare} f) := by
  unfold Ca Cm owns
  rw [commSet]
  iintro ⟨%X, %f, -, H⟩; iexists f; iexact H

/-- The ring buffer comes apart into its half chunks, -/
theorem ring_split (d : Dev nD) (f : Buf (Elt F) (rgM.view.loc (d : Thread nD τ))) :
    (At d rgM f : sProp 𝕄) ⊢ bigSep Finset.univ fun x : Fin 16 × Fin 2 => Ra d x.1 x.2 := by
  have h := Entails.of_eq (pointsTo_blocks (Ix := Unit) (Name := ℕ) (U := UU) (Lvl := ℕ) (Val := Elt F) (ℓ := rgM.view.loc (d : Thread nD τ)) (q := fullShare)
    (fun x : Fin 16 × Fin 2 => (rR x.1 x.2).set) (fun b b' h => rR_disjoint b b' h) rR_cover f)
  refine h.trans ?_
  exact bigSep_mono (fun x _ => Ra_intro d x.1 x.2 f)
/-- and is made of them again. -/
theorem ring_join (d : Dev nD) :
    (bigSep Finset.univ fun x : Fin 16 × Fin 2 => (Ra d x.1 x.2 : sProp 𝕄)) ⊢ iprop(∃ f, At d rgM f) := by
  have h := pointsTo_blocks_join_exists (Ix := Unit) (Name := ℕ) (U := UU) (Lvl := ℕ) (Val := Elt F) (ℓ := rgM.view.loc (d : Thread nD τ)) (q := fullShare)
    (fun x : Fin 16 × Fin 2 => (rR x.1 x.2).set) (fun b b' h => rR_disjoint b b' h) rR_cover (fun _ => (FloatOps.ofBits .bf16 0 : F .bf16))
  refine .trans ?_ h
  exact bigSep_mono (fun x _ => Ra_elim d x.1 x.2)
/-- The landing buffer comes apart into its slots, -/
theorem comm_split (d : Dev nD) (f : Buf (Elt F) (cmM.view.loc (d : Thread nD τ))) :
    (At d cmM f : sProp 𝕄) ⊢ bigSep Finset.univ fun x : Fin 4 × Fin 8 => Ca d x.1 x.2 := by
  have h := Entails.of_eq (pointsTo_blocks (Ix := Unit) (Name := ℕ) (U := UU) (Lvl := ℕ) (Val := Elt F) (ℓ := cmM.view.loc (d : Thread nD τ)) (q := fullShare)
    (fun x : Fin 4 × Fin 8 => (cR x.1 x.2).set) (fun b b' h => cR_disjoint b b' h) cR_cover f)
  refine h.trans ?_
  exact bigSep_mono (fun x _ => Ca_intro d x.1 x.2 f)
/-- and is made of them again. -/
theorem comm_join (d : Dev nD) :
    (bigSep Finset.univ fun x : Fin 4 × Fin 8 => (Ca d x.1 x.2 : sProp 𝕄)) ⊢ iprop(∃ f, At d cmM f) := by
  have h := pointsTo_blocks_join_exists (Ix := Unit) (Name := ℕ) (U := UU) (Lvl := ℕ) (Val := Elt F) (ℓ := cmM.view.loc (d : Thread nD τ)) (q := fullShare)
    (fun x : Fin 4 × Fin 8 => (cR x.1 x.2).set) (fun b b' h => cR_disjoint b b' h) cR_cover (fun _ => (FloatOps.ofBits .bf16 0 : F .bf16))
  refine .trans ?_ h
  exact bigSep_mono (fun x _ => Ca_elim d x.1 x.2)

/-! ## A row of the ring buffer -/

/-- Two halves side by side. -/
def joinB (X0 X1 : Blk F) : Vec F S128x1024 .bf16 := fun y =>
  if h : (y 1).val < 512 then X0 (ix2 (y 0) ⟨(y 1).val, h⟩) else X1 (ix2 (y 0) ⟨(y 1).val - 512, by have := (y 1).isLt; change _ < 1024 at this; omega⟩)

/-- Chunk `k` of the ring buffer. -/
abbrev rowV (k : Fin 16) : Memref sig .tc .vmem S128x1024 .bf16 := rgM.slice (rowR k) (fun _ => rfl)

/-- A chunk is its two halves. -/
theorem rowSet (k : Fin 16) : (rowV k).view.set = (rR k 0).set ∪ (rR k 1).set := by
  rw [show (rowV k).view.set = (rowR k).set from View.set_slice_whole _ _]
  ext i
  rw [Finset.mem_union, mem_rowR, mem_rR, mem_rR]
  have h1 : (i 1).val < 1024 := (i 1).isLt
  simp only [Fin.val_zero, Fin.val_one]
  omega

/-- Where an index of a half lies in the whole chunk. -/
theorem rR_idx (k : Fin 16) (s : Fin 2) (y : S128x512.Idx) (z : S128x1024.Idx) (h0 : (z 0).val = (y 0).val) (h1 : (z 1).val = 512 * s.val + (y 1).val) :
    (rR k s).idx y = (rowR k).idx z :=
  funext fun a => Fin.ext (by
    rw [Rect.idx_unit_val, Rect.idx_unit_val]
    match a with
    | 0 => exact congrArg (128 * k.val + ·) h0.symm
    | 1 => show 512 * s.val + (y 1).val = 0 + (z 1).val; omega)

/-- Two halves of a chunk are the chunk, with the joined contents; -/
theorem row_join (d : Dev nD) (k : Fin 16) (q : PosShare TreeShare) (X0 X1 : Blk F) :
    iprop(Rg d k 0 q X0 ∗ Rg d k 1 q X1) ⊢ (owns (d : Thread nD τ) (rowV k) q (joinB X0 X1) : sProp 𝕄) := by
  unfold Rg owns
  iintro ⟨⟨%f0, %h0, H0⟩, ⟨%f1, %h1, H1⟩⟩
  rw [ringSet, ringSet]
  ihave H := (pointsTo_join (ℓ := rgM.view.loc (d : Thread nD τ)) (I := (rR k 0).set) (J := (rR k 1).set) (rR_disjoint (k, 0) (k, 1) (by simp))) $$ [H0 H1]
  · isplitl [H0]; · iexact H0
    iexact H1
  iexists _; isplitr
  rotate_left
  · rw [rowSet]; iexact H
  · ipureintro
    funext y
    show ((rR k 1).set.piecewise f1 f0) ((rowR k).idx y) = _
    unfold joinB
    split
    · rename_i hy
      have e := rR_idx k 0 (ix2 (y 0) ⟨(y 1).val, hy⟩) y rfl (by show _ = 512 * 0 + (y 1).val; omega)
      rw [Finset.piecewise_eq_of_notMem, ← e, ← h0]
      · rfl
      · rw [← e]; intro hm
        exact Finset.disjoint_left.mp (rR_disjoint (k, 0) (k, 1) (by simp)) (Finset.mem_map_of_mem _ (Finset.mem_univ (ix2 (y 0) ⟨(y 1).val, hy⟩)) |> fun h => by rw [← Rect.map_emb_univ]; exact h) hm
    · rename_i hy
      have hlt : (y 1).val < 1024 := (y 1).isLt
      have e := rR_idx k 1 (ix2 (y 0) ⟨(y 1).val - 512, by omega⟩) y rfl (by show _ = 512 * 1 + ((y 1).val - 512); omega)
      rw [Finset.piecewise_eq_of_mem, ← e, ← h1]
      · rfl
      · rw [← e, ← Rect.map_emb_univ]; exact Finset.mem_map_of_mem _ (Finset.mem_univ _)

/-- the chunk is its two halves. -/
theorem row_split (d : Dev nD) (k : Fin 16) (q : PosShare TreeShare) (X0 X1 : Blk F) :
    (owns (d : Thread nD τ) (rowV k) q (joinB X0 X1) : sProp 𝕄) ⊢ iprop(Rg d k 0 q X0 ∗ Rg d k 1 q X1) := by
  unfold Rg owns
  iintro ⟨%f, %h, H⟩
  rw [rowSet, ringSet, ringSet]
  ihave H := (pointsTo_union (ℓ := rgM.view.loc (d : Thread nD τ)) (I := (rR k 0).set) (J := (rR k 1).set) (rR_disjoint (k, 0) (k, 1) (by simp))).1 $$ H
  icases H with ⟨H0, H1⟩
  isplitl [H0]
  · iexists f; isplitr
    · ipureintro
      funext y
      have hy : (y 1).val < 512 := (y 1).isLt
      have e := rR_idx k 0 y (ix2 (y 0) ⟨(y 1).val, by omega⟩ : S128x1024.Idx) rfl (by show (y 1).val = 512 * 0 + (y 1).val; omega)
      have h' := congrFun h (ix2 (y 0) ⟨(y 1).val, by omega⟩ : S128x1024.Idx)
      show f ((rR k 0).idx y) = _
      rw [e]
      refine h'.trans ?_
      unfold joinB
      rw [dif_pos (show ((ix2 (y 0) ⟨(y 1).val, by omega⟩ : S128x1024.Idx) 1).val < 512 from hy)]
      congr 1
      funext a; match a with
      | 0 => rfl
      | 1 => rfl
    · iexact H0
  · iexists f; isplitr
    · ipureintro
      funext y
      have hy : (y 1).val < 512 := (y 1).isLt
      have e := rR_idx k 1 y (ix2 (y 0) ⟨(y 1).val + 512, by omega⟩ : S128x1024.Idx) rfl (by show (y 1).val + 512 = 512 * 1 + (y 1).val; omega)
      have h' := congrFun h (ix2 (y 0) ⟨(y 1).val + 512, by omega⟩ : S128x1024.Idx)
      show f ((rR k 1).idx y) = _
      rw [e]
      refine h'.trans ?_
      unfold joinB
      rw [dif_neg (show ¬ ((ix2 (y 0) ⟨(y 1).val + 512, by omega⟩ : S128x1024.Idx) 1).val < 512 from by show ¬ (y 1).val + 512 < 512; omega)]
      congr 1
      funext a; match a with
      | 0 => rfl
      | 1 => exact Fin.ext (by show (y 1).val + 512 - 512 = (y 1).val; omega)
    · iexact H1

/-! ## The output, filled chunk by chunk -/

/-- The output buffer with the chunks in `S` holding `oB`. -/
def Out (d : Dev nD) (oB : Fin 16 → Vec F S128x1024 .f32) (S : Finset (Fin 16)) : sProp 𝕄 :=
  iprop(∃ f : Buf (Elt F) (outM.view.loc (d : Thread nD τ)), ⌜∀ c ∈ S, (outM.access (rowR c)).read (Elt F) f = oB c⌝ ∗ At d outM f)

/-- Different chunks of the output have no index in common. -/
theorem row_disjoint {c c' : Fin 16} (h : c ≠ c') : Disjoint (outM.access (rowR c)).set (outM.access (rowR c')).set := by
  rw [show (outM.access (rowR c)).set = (rowR c).set from View.set_slice_whole _ _, show (outM.access (rowR c')).set = (rowR c').set from View.set_slice_whole _ _]
  refine Finset.disjoint_left.mpr fun i hi hj => h (Fin.ext ?_)
  have h1 := mem_rowR.mp hi; have h2 := mem_rowR.mp hj
  omega

/-- The combined chunk `c`: the reduced sum and the shared expert's part. -/
def outB (X : Fin 16 → Fin 2 → Blk F) (I : Ins F) (c : Fin 16) : Vec F S128x1024 .f32 := combVal (xB I.x c) I.sw (joinB (X c 0) (X c 1))

/-- One combination. -/
theorem wp_comb (d : Dev nD) (I : Ins F) {k : PB F} {Q : PUnit → sProp 𝕄} (X : Fin 16 → Fin 2 → Blk F) (S : Finset (Fin 16)) (q : PosShare TreeShare) (c : Fin 16) {ox : Fin 2 → Nat} {hx} {o : Fin 2 → Nat} {ho}
    (eox : ox = ![128 * c.val, 0]) (eo : o = ![128 * c.val, 0]) :
    iprop(Dt d I ∗ (Rg d c 0 q (X c 0) ∗ Rg d c 1 q (X c 1)) ∗ Out d (outB X I) S)
      ⊢ iprop(((Dt d I ∗ (Rg d c 0 q (X c 0) ∗ Rg d c 1 q (X c 1)) ∗ Out d (outB X I) (insert c S)) -∗ WP d k Q) -∗ WP d (combK ox hx o ho k) Q) := by
  subst eox eo
  unfold combK Dt Out
  iintro ⟨⟨Hx, Hrw, Hri, Hew, Hsw, Hcf⟩, HR, ⟨%fo, %hfo, Ho⟩⟩ Hk
  ihave HR := (row_join d c q (X c 0) (X c 1)) $$ HR
  unfold owns
  icases HR with ⟨%fr, %hfr, Hr⟩
  iapply (wp_load 𝒱₀ (d : Thread nD τ) none Set.univ (m := xM) (Finset.subset_univ _)) $$ Hx; iintro Hx
  iapply (wp_load 𝒱₀ (d : Thread nD τ) none Set.univ (m := swM) (Finset.subset_univ _)) $$ Hsw; iintro Hsw
  iapply (wp_load_rect 𝒱₀ (d : Thread nD τ) none Set.univ (m := rgM) (r := rowR c) (S := (rowV c).view.set) (le_refl _)) $$ Hr; iintro Hr
  iapply (wp_load 𝒱₀ (d : Thread nD τ) none Set.univ (m := outM) (Finset.subset_univ _)) $$ Ho; iintro Ho
  iapply (wp_store 𝒱₀ (d : Thread nD τ) none Set.univ (m := outM) (r := rowR c) (Mk := Finset.univ) (Finset.subset_univ _)) $$ Ho; iintro Ho
  iapply Hk
  isplitl [Hx Hrw Hri Hew Hsw Hcf]
  · isplitl [Hx]; · iexact Hx
    isplitl [Hrw]; · iexact Hrw
    isplitl [Hri]; · iexact Hri
    isplitl [Hew]; · iexact Hew
    isplitl [Hsw]; · iexact Hsw
    iexact Hcf
  isplitl [Hr]
  · iapply (row_split d c q (X c 0) (X c 1)); unfold owns; iexists fr; isplitr
    · ipureintro; exact hfr
    · iexact Hr
  · iexists _; isplitr
    rotate_left
    · iexact Ho
    · ipureintro
      intro c' hc'
      have hz : (![0, 0] : Fin 2 → Nat) = fun _ => 0 := by funext i; fin_cases i <;> rfl
      have e2 : ∀ g, (swM.view.readAt (Elt F) (Rect.unit (s := S512x1024) ![0, 0] S512x1024.size inb_S512x1024_S512x1024_0_0).toLoadRect g) = g :=
        fun g => Memref.readAt_unit_zero (Elt F) cc0_stg4_0 hz _ g
      by_cases h : c' = c
      · subst h
        refine (View.read_write_univ _ _).trans ?_
        rw [e2]
        exact congrArg (combVal (xB I.x c') I.sw) hfr
      · refine (View.read_slice_write_slice_of_disjoint (v := outM.view) (rowR c') (rowR c) fo _ Finset.univ (row_disjoint h)).trans ?_
        exact hfo c' ((Finset.mem_insert.mp hc').resolve_left h)

/-- The output's chunks as one array. -/
def outC (oB : Fin 16 → Vec F S128x1024 .f32) : Vec F S2048x1024 .f32 := fun i =>
  oB ⟨(i 0).val / 128, by have : (i 0).val < 2048 := (i 0).isLt; omega⟩ (ix2 ⟨(i 0).val % 128, Nat.mod_lt _ (by decide)⟩ (i 1) : S128x1024.Idx)

/-- Once every chunk is written, the output holds the chunks put together. -/
theorem Out_all (d : Dev nD) (oB : Fin 16 → Vec F S128x1024 .f32) : Out d oB Finset.univ ⊢ (At d outM (outC oB) : sProp 𝕄) := by
  unfold Out
  iintro ⟨%f, %h, H⟩
  rw [show f = outC oB from ?_]
  · iexact H
  funext i
  have h0 : (i 0).val < 2048 := (i 0).isLt
  unfold outC
  rw [← h _ (Finset.mem_univ _)]
  show f i = f ((rowR _).idx _)
  congr 1
  funext a
  refine Fin.ext ?_
  rw [Rect.idx_unit_val]
  match a with
  | 0 => show (i 0).val = 128 * ((i 0).val / 128) + (i 0).val % 128; omega
  | 1 => show (i 1).val = 0 + (i 1).val; omega

end Cert.KernelIdeal.Moe

end
-- ==== Proof.Chains.lean ====
/- One step of a chain of the reduction and of the gather, and the sequences of such steps: the rounds. -/
module

public import proofs.«01_k».proof.Proof.Buffers

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The resources of a list's entries, in order. -/
def sepL {ι : Type} (P : ι → sProp 𝕄) : List ι → sProp 𝕄
  | [] => iprop(emp)
  | i :: l => iprop(P i ∗ sepL P l)

/-- Phases in a row: each takes its entry's resource and leaves another, the state going from `J n` to `J (n + length)`. -/
theorem wp_seqK (d : Dev nD) {Q : PUnit → sProp 𝕄} {ι : Type} (f : ι → PB F → PB F) (v : ι → ℕ) (J : ℕ → sProp 𝕄) (P R : ι → sProp 𝕄)
    (step : ∀ (i : ι) (k : PB F), iprop(J (v i) ∗ P i) ⊢ iprop(((J (v i + 1) ∗ R i) -∗ WP d k Q) -∗ WP d (f i k) Q)) :
    ∀ (l : List ι) (n : ℕ), l.map v = List.range' n l.length → ∀ k : PB F,
      iprop(J n ∗ sepL P l) ⊢ iprop(((J (n + l.length) ∗ sepL R l) -∗ WP d k Q) -∗ WP d (seqK f l k) Q)
  | [], n, _, k => by
      unfold sepL seqK
      iintro ⟨HJ, -⟩ Hk
      iapply Hk
      isplitl [HJ]; · iexact HJ
      iempintro
  | i :: l, n, h, k => by
      have h' : v i = n ∧ l.map v = List.range' (n + 1) l.length := by
        rw [List.map_cons, List.length_cons, List.range'_succ] at h
        exact List.cons.inj h
      have ih := wp_seqK d f v J P R step l (n + 1) h'.2 k
      unfold sepL seqK
      iintro ⟨HJ, HP, Hl⟩ Hk
      have st := step i (seqK f l k)
      rw [h'.1] at st
      iapply st $$ [HJ HP]
      · isplitl [HJ]; · iexact HJ
        iexact HP
      iintro ⟨HJ, HR⟩
      iapply ih $$ [HJ Hl]
      · isplitl [HJ]; · iexact HJ
        iexact Hl
      iintro ⟨HJ, Hl⟩
      iapply Hk
      isplitl [HJ]
      · rw [List.length_cons, show n + (l.length + 1) = n + 1 + l.length from by omega]; iexact HJ
      isplitl [HR]; · iexact HR
      iexact Hl

variable (I : Dev nD → Ins F) (K : Dev nD × Kd → ℕ) (d : Dev nD)

/-- The standing facts: the cells' invariants and the levels. -/
def Inv : sProp 𝕄 := iprop(records (prt I) K ∗ levAts L lv)
instance : BI.Persistent (Inv I K) := by unfold Inv; infer_instance

/-- A landing of the reduction to wait for; -/
def RW (a : Fin 4) (h : Fin 8) : sProp 𝕄 := iprop(crd d (some (1, a, h)) ∗ at_ d (some (1, a, h)))
/-- what a send of the reduction needs besides its source. -/
def US (a : Fin 4) (h : Fin 8) : sProp 𝕄 := iprop(Ca (nb a d) a h ∗ tok d (some (0, a, h)) false ∗ tok (nb a d) (some (1, a, h)) false)
/-- A landing of the gather to wait for; -/
def GW (a : Fin 4) (h : Fin 8) : sProp 𝕄 := iprop(crd d (some (3, a, h)) ∗ at_ d (some (3, a, h)))
/-- what a send of the gather needs besides its source and destination. -/
def UG (a : Fin 4) (h : Fin 8) : sProp 𝕄 := iprop(tok d (some (2, a, h)) false ∗ tok (nb a d) (some (3, a, h)) false)
/-- A destination of the gather. -/
def AD (a : Fin 4) (h : ℕ) : sProp 𝕄 := Ra (nb a d) (ag a h d) (hf a)
/-- A source of the reduction on its way. -/
def SD (a : Fin 4) (h : ℕ) : sProp 𝕄 := Ra (pv a d) (ck a h (pv a d)) (hf a)
/-- A landing of the reduction waited for: the cell closed, the slot back. -/
def RZ (a : Fin 4) (h : Fin 8) : sProp 𝕄 := iprop(semVal (cell d (some (1, a, h))) 0 ∗ Ca d a h)
/-- A gathered half chunk, at share `q`. -/
def Gt (q : PosShare TreeShare) (a : Fin 4) (h : ℕ) : sProp 𝕄 := Rg d (ag a h d) (hf a) q (fv (prt I) (ag a h d) (hf a))

section
variable {k : PB F}

/-- A step's wait and accumulation. -/
theorem wp_end {Q : PUnit → sProp 𝕄} (a : Fin 4) (h : Fin 8) (hu : used a h = true) (c : Fin 16) (s : Fin 2) (r : Blk F) {o : Fin 2 → Nat} {ho : InbR o} {hw : WordsR o ho} {o2 : Fin 2 → Nat} {ho2} {hp2}
    (eo2 : o2 = cko c s) (m : ℕ) (hm : h.val < m / 4) :
    iprop(Inv I K ∗ RW d a h ∗ Rg d c s fullShare r ∗ OW d m)
      ⊢ iprop(((RZ d a h ∗ ext a h.val d ∗ SD d a h.val ∗ Rg d c s fullShare (accB r (sv (prt I) a h.val (pv a d))) ∗ OW d m) -∗ WP d k Q)
        -∗ WP d (rsWaitK a h o ho hw (accK a h o2 ho2 hp2 k)) Q) := by
  unfold Inv RW RZ SD
  iintro ⟨⟨#HR, #HL⟩, ⟨Hc, Hat⟩, Hr, HO⟩ Hk
  iapply (wp_rsWait (prt I) K d a h hu m hm) $$ [Hc Hat HO]
  · isplitr; · iexact HR
    isplitr; · iexact HL
    isplitl [Hc]; · iexact Hc
    isplitl [Hat]; · iexact Hat
    iexact HO
  iintro ⟨⟨⟨Hcm, Hx⟩, Hs⟩, Hz, HO⟩
  iapply (wp_acc d a h c s r _ eo2) $$ [Hr Hcm]
  · isplitl [Hr]; · iexact Hr
    iexact Hcm
  iintro ⟨Hr, Hcm⟩
  iapply Hk
  isplitl [Hz Hcm]
  · isplitl [Hz]; · iexact Hz
    unfold Ca; iexists _; iexact Hcm
  isplitl [Hx]; · iexact Hx
  isplitl [Hs]; · iexact Hs
  isplitl [Hr]; · iexact Hr
  iexact HO

/-- A step's wait and accumulation and the next step's send. -/
theorem wp_chain {Q : PUnit → sProp 𝕄} (a : Fin 4) (h h' : Fin 8) (hh : h'.val = h.val + 1) (hu : used a h = true) (hu' : used a h' = true) {o : Fin 2 → Nat} {ho : InbR o} {hw : WordsR o ho} {o2 : Fin 2 → Nat} {ho2} {hp2}
    {n : Dev nD} {o3 : Fin 2 → Nat} {ho3 : InbR o3} {hw3 : WordsR o3 ho3} (eo2 : o2 = cko (ck a h'.val d) (hf a)) (hn : n = nb a d) (eo3 : o3 = cko (ck a h'.val d) (hf a))
    (m m' : ℕ) (hm : rank (0, a, h') = m) (hm' : m' = m + 1) (hlv : h.val < m / 4) (A B : sProp 𝕄) (hx : iprop(A ∗ SD d a h.val ∗ ext a h.val d) ⊢ iprop(B ∗ ext a h'.val (nb a d))) :
    iprop(Inv I K ∗ RW d a h ∗ Rg d (ck a h'.val d) (hf a) fullShare (prt I d (ck a h'.val d) (hf a)) ∗ US d a h' ∗ A ∗ OW d m)
      ⊢ iprop(((RZ d a h ∗ B ∗ crd d (some (0, a, h')) ∗ OW d m') -∗ WP d k Q)
        -∗ WP d (rsWaitK a h o ho hw (accK a h o2 ho2 hp2 (rsSendK n a h' o3 ho3 hw3 k))) Q) := by
  iintro ⟨#HI, Hw, Hr, Hu, HA, HO⟩ Hk
  iapply (wp_end I K d a h hu (ck a h'.val d) (hf a) _ eo2 m hlv) $$ [Hw Hr HO]
  · isplitr; · iexact HI
    isplitl [Hw]; · iexact Hw
    isplitl [Hr]; · iexact Hr
    iexact HO
  iintro ⟨Hz, Hx, Hs, Hr, HO⟩
  ihave HB := hx $$ [HA Hs Hx]
  · isplitl [HA]; · iexact HA
    isplitl [Hs]; · iexact Hs
    iexact Hx
  icases HB with ⟨HB, Hx⟩
  unfold US Inv
  icases Hu with ⟨Hc, Ht1, Ht2⟩
  icases HI with ⟨#HR, #HL⟩
  iapply (wp_rsSend (prt I) K d a h' hu' n hn eo3 m m' hm hm') $$ [Hr Hc Hx Ht1 Ht2 HO]
  · isplitr; · iexact HR
    isplitl [Hr]
    · rw [show sv (prt I) a h'.val d = accB (prt I d (ck a h'.val d) (hf a)) (sv (prt I) a h.val (pv a d)) from by rw [hh]; rfl]
      iexact Hr
    isplitl [Hc]; · iexact Hc
    isplitl [Hx]; · iexact Hx
    isplitl [Ht1]; · iexact Ht1
    isplitl [Ht2]; · iexact Ht2
    iexact HO
  iintro ⟨Hc, HO⟩
  iapply Hk
  isplitl [Hz]; · iexact Hz
  isplitl [HB]; · iexact HB
  isplitl [Hc]; · iexact Hc
  iexact HO

theorem used_zero : ∀ a : Fin 4, used a 0 = true := by decide

/-- The first send of a chain of the reduction. -/
theorem wp_first {Q : PUnit → sProp 𝕄} (a : Fin 4) {n : Dev nD} {o3 : Fin 2 → Nat} {ho3 : InbR o3} {hw3 : WordsR o3 ho3} (hn : n = nb a d) (eo3 : o3 = cko (ck a 0 d) (hf a))
    (m m' : ℕ) (hm : rank (0, a, 0) = m) (hm' : m' = m + 1) (hx : iprop(emp) ⊢ (ext a 0 (nb a d) : sProp 𝕄)) :
    iprop(Inv I K ∗ Rg d (ck a 0 d) (hf a) fullShare (prt I d (ck a 0 d) (hf a)) ∗ US d a 0 ∗ OW d m)
      ⊢ iprop(((crd d (some (0, a, 0)) ∗ OW d m') -∗ WP d k Q) -∗ WP d (rsSendK n a 0 o3 ho3 hw3 k) Q) := by
  unfold US Inv
  iintro ⟨⟨#HR, #HL⟩, Hr, ⟨Hc, Ht1, Ht2⟩, HO⟩ Hk
  iapply (wp_rsSend (prt I) K d a 0 (used_zero a) n hn eo3 m m' hm hm') $$ [Hr Hc Ht1 Ht2 HO]
  · isplitr; · iexact HR
    isplitl [Hr]; · iexact Hr
    isplitl [Hc]; · iexact Hc
    isplitr; · iapply hx; iempintro
    isplitl [Ht1]; · iexact Ht1
    isplitl [Ht2]; · iexact Ht2
    iexact HO
  iexact Hk

theorem OW_eq {n m : ℕ} (h : Oat d n = Oat d m) : (OW d n : sProp 𝕄) = OW d m := by unfold OW; rw [h]

/-- A step of the gather. -/
theorem wp_gwait {Q : PUnit → sProp 𝕄} (a : Fin 4) (h : Fin 8) (hu : used a h = true) {o : Fin 2 → Nat} {ho : InbR o} {hw : WordsR o ho} (m : ℕ) (hm : 8 + h.val < m / 4) :
    iprop(Inv I K ∗ GW d a h ∗ OW d m)
      ⊢ iprop(((semVal (cell d (some (3, a, h))) 0 ∗ Gt I d fullShare.left a (h.val + 1) ∗ Gt I d fullShare.right a (h.val + 1) ∗ OW d m) -∗ WP d k Q)
        -∗ WP d (agWaitK a h o ho hw k) Q) := by
  unfold Inv GW Gt
  iintro ⟨⟨#HR, #HL⟩, ⟨Hc, Hat⟩, HO⟩ Hk
  iapply (wp_agWait (prt I) K d a h hu m hm) $$ [Hc Hat HO]
  · isplitr; · iexact HR
    isplitr; · iexact HL
    isplitl [Hc]; · iexact Hc
    isplitl [Hat]; · iexact Hat
    iexact HO
  iintro ⟨Hr, Hz, HO⟩
  rw [ag_pv a h d]
  unfold Rg
  ihave Hr := (owns_halves (d : Thread nD τ) (ringV (cko (ag a (h.val + 1) d) (hf a)) (cko_inb _ _)) fullShare _).1 $$ Hr
  icases Hr with ⟨Hl, Hr⟩
  iapply Hk
  isplitl [Hz]; · iexact Hz
  isplitl [Hl]; · iexact Hl
  isplitl [Hr]; · iexact Hr
  iexact HO

/-- A send of the gather. -/
theorem wp_gsend {Q : PUnit → sProp 𝕄} (a : Fin 4) (h : Fin 8) (hu : used a h = true) {n : Dev nD} {o : Fin 2 → Nat} {ho : InbR o} {hw : WordsR o ho} (hn : n = nb a d) (eo : o = cko (ag a h.val d) (hf a))
    (m m' : ℕ) (hm : rank (1, a, h) = m) (hm' : m' = m + 1) :
    iprop(Inv I K ∗ Gt I d (ls a h.val) a h.val ∗ AD d a h.val ∗ UG d a h ∗ OW d m)
      ⊢ iprop(((crd d (some (2, a, h)) ∗ OW d m') -∗ WP d k Q) -∗ WP d (agSendK n a h o ho hw k) Q) := by
  unfold Inv UG Gt AD
  iintro ⟨⟨#HR, #HL⟩, Hs, Hd, ⟨Ht1, Ht2⟩, HO⟩ Hk
  iapply (wp_agSend (prt I) K d a h hu n hn eo m m' hm hm') $$ [Hs Hd Ht1 Ht2 HO]
  · isplitr; · iexact HR
    isplitl [Hs]; · iexact Hs
    isplitl [Hd]; · iexact Hd
    isplitl [Ht1]; · iexact Ht1
    isplitl [Ht2]; · iexact Ht2
    iexact HO
  iexact Hk

/-- A step of the gather and the next step's send. -/
theorem wp_gchain {Q : PUnit → sProp 𝕄} (a : Fin 4) (h h' : Fin 8) (hh : h'.val = h.val + 1) (hu : used a h = true) (hu' : used a h' = true) {o : Fin 2 → Nat} {ho : InbR o} {hw : WordsR o ho}
    {n : Dev nD} {o3 : Fin 2 → Nat} {ho3 : InbR o3} {hw3 : WordsR o3 ho3} (hn : n = nb a d) (eo3 : o3 = cko (ag a h'.val d) (hf a))
    (m m' : ℕ) (hm : rank (1, a, h') = m) (hm' : m' = m + 1) (hlv : 8 + h.val < m / 4) :
    iprop(Inv I K ∗ GW d a h ∗ (AD d a h'.val ∗ UG d a h') ∗ OW d m)
      ⊢ iprop(((semVal (cell d (some (3, a, h))) 0 ∗ Gt I d fullShare.right a h'.val ∗ crd d (some (2, a, h')) ∗ OW d m') -∗ WP d k Q)
        -∗ WP d (agWaitK a h o ho hw (agSendK n a h' o3 ho3 hw3 k)) Q) := by
  iintro ⟨#HI, Hw, ⟨Hd, Hu⟩, HO⟩ Hk
  iapply (wp_gwait I K d a h hu m hlv) $$ [Hw HO]
  · isplitr; · iexact HI
    isplitl [Hw]; · iexact Hw
    iexact HO
  rw [← hh]
  iintro ⟨Hz, Hl, Hr, HO⟩
  iapply (wp_gsend I K d a h' hu' hn eo3 m m' hm hm') $$ [Hl Hd Hu HO]
  · isplitr; · iexact HI
    isplitl [Hl]
    · rw [show ls a h'.val = fullShare.left from by unfold ls; rw [if_neg (by omega)]]; iexact Hl
    isplitl [Hd]; · iexact Hd
    isplitl [Hu]; · iexact Hu
    iexact HO
  iintro ⟨Hc, HO⟩
  iapply Hk
  isplitl [Hz]; · iexact Hz
  isplitl [Hr]; · iexact Hr
  isplitl [Hc]; · iexact Hc
  iexact HO
end

end Cert.KernelIdeal.Moe

end
-- ==== Proof.Reduce.lean ====
/- The reduction: its first sends, its rounds, its last steps. -/
module

public import proofs.«01_k».proof.Proof.Chains

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the contributions go -/

/-- Which tokens a contribution reads. -/
theorem off1_7 : ∀ d : Dev nD, k0_off1 d 7#32 = ![128 * (ck 0 0 d).val, 0] := by decide +kernel
/-- Which experts' indices and coefficients a contribution reads. -/
theorem off2_7 : ∀ d : Dev nD, k0_off2 d 7#32 = ![128 * (ck 0 0 d).val, 0] := by decide +kernel
/-- Which half chunk a first contribution fills. -/
theorem off3_7 : ∀ d : Dev nD, k0_off3 d 7#32 = cko (ck 0 0 d) 0 := by decide +kernel
/-- Which tokens a contribution reads. -/
theorem off5_7 : ∀ d : Dev nD, k0_off5 d 7#32 = ![128 * (ck 2 0 d).val, 0] := by decide +kernel
/-- Which experts' indices and coefficients a contribution reads. -/
theorem off6_7 : ∀ d : Dev nD, k0_off6 d 7#32 = ![128 * (ck 2 0 d).val, 0] := by decide +kernel
/-- Which half chunk a first contribution fills. -/
theorem off7_7 : ∀ d : Dev nD, k0_off7 d 7#32 = cko (ck 2 0 d) 1 := by decide +kernel
/-- Which tokens a contribution reads. -/
theorem off1_6 : ∀ d : Dev nD, k0_off1 d 6#32 = ![128 * (ck 1 0 d).val, 0] := by decide +kernel
/-- Which experts' indices and coefficients a contribution reads. -/
theorem off2_6 : ∀ d : Dev nD, k0_off2 d 6#32 = ![128 * (ck 1 0 d).val, 0] := by decide +kernel
/-- Which half chunk a first contribution fills. -/
theorem off3_6 : ∀ d : Dev nD, k0_off3 d 6#32 = cko (ck 1 0 d) 0 := by decide +kernel
/-- Which tokens a contribution reads. -/
theorem off5_6 : ∀ d : Dev nD, k0_off5 d 6#32 = ![128 * (ck 3 0 d).val, 0] := by decide +kernel
/-- Which experts' indices and coefficients a contribution reads. -/
theorem off6_6 : ∀ d : Dev nD, k0_off6 d 6#32 = ![128 * (ck 3 0 d).val, 0] := by decide +kernel
/-- Which half chunk a first contribution fills. -/
theorem off7_6 : ∀ d : Dev nD, k0_off7 d 6#32 = cko (ck 3 0 d) 1 := by decide +kernel
/-- Which tokens a contribution reads. -/
theorem off11_8 : ∀ (d : Dev nD) (h : Fin 7), k0_off11 d 8#32 (.ofNat 32 h.val) = ![128 * (ck 0 (h.val + 1) d).val, 0] := by decide +kernel
/-- Which experts' indices and coefficients a contribution reads. -/
theorem off12_8 : ∀ (d : Dev nD) (h : Fin 7), k0_off12 d 8#32 (.ofNat 32 h.val) = ![128 * (ck 0 (h.val + 1) d).val, 0] := by decide +kernel
/-- Which tokens a contribution reads. -/
theorem off14_5 : ∀ (d : Dev nD) (h : Fin 7), k0_off14 d 5#32 (.ofNat 32 h.val) = ![128 * (ck 1 (h.val + 1) d).val, 0] := by decide +kernel
/-- Which experts' indices and coefficients a contribution reads. -/
theorem off15_5 : ∀ (d : Dev nD) (h : Fin 7), k0_off15 d 5#32 (.ofNat 32 h.val) = ![128 * (ck 1 (h.val + 1) d).val, 0] := by decide +kernel
/-- Which tokens a contribution reads. -/
theorem off14_8 : ∀ (d : Dev nD) (h : Fin 7), k0_off14 d 8#32 (.ofNat 32 h.val) = ![128 * (ck 2 (h.val + 1) d).val, 0] := by decide +kernel
/-- Which experts' indices and coefficients a contribution reads. -/
theorem off15_8 : ∀ (d : Dev nD) (h : Fin 7), k0_off15 d 8#32 (.ofNat 32 h.val) = ![128 * (ck 2 (h.val + 1) d).val, 0] := by decide +kernel
/-- Which tokens a contribution reads. -/
theorem off11_5 : ∀ (d : Dev nD) (h : Fin 7), k0_off11 d 5#32 (.ofNat 32 h.val) = ![128 * (ck 3 (h.val + 1) d).val, 0] := by decide +kernel
/-- Which experts' indices and coefficients a contribution reads. -/
theorem off12_5 : ∀ (d : Dev nD) (h : Fin 7), k0_off12 d 5#32 (.ofNat 32 h.val) = ![128 * (ck 3 (h.val + 1) d).val, 0] := by decide +kernel

/-! ## What is left of a source that travels on -/

/-- What chain `a`'s landings leave of the long chain's sources: the first goes on to the device that writes it last. -/
def Lft (d : Dev nD) (a : Fin 4) (h : ℕ) : sProp 𝕄 :=
  if h = 0 then iprop(emp) else if h = 2 then iprop(SD d (ev a) h ∗ Ra (pv a d) (ck (ev a) 0 (pv a d)) (hf a)) else SD d (ev a) h

/-- Of what the long chain's landing leaves and this short chain's landing carries: what stays, and what goes on to the neighbour. -/
theorem lft1 (d : Dev nD) (h : ℕ) : iprop(SD d 0 h ∗ ext 1 h d) ⊢ (iprop(Lft d 1 h ∗ ext 1 (h + 1) (nb 1 d)) : sProp 𝕄) := by
  unfold Lft ext
  simp only [true_or, if_true]
  rcases h with _ | _ | _ | h
  · simp only [if_true]
    iintro ⟨H, -⟩; isplitr; · iempintro
    ihave H := (Entails.of_eq (show (SD d 0 0 : sProp 𝕄) = Ra (nb 1 d) (ck (ev 1) 0 (nb 1 d)) (hf 1) from rfl)) $$ H
    iexact H
  · simp only [show (0 + 1 + 1 : ℕ) ≠ 1 from by decide, show (0 + 1 : ℕ) ≠ 0 from by decide, show (0 + 1 : ℕ) ≠ 2 from by decide, if_true, if_false]
    rw [pv_nb]
    exact BI.Entails.refl _
  · simp only [show (0 + 1 + 1 : ℕ) ≠ 1 from by decide, show (0 + 1 + 1 : ℕ) ≠ 0 from by decide, show (0 + 1 + 1 + 1 : ℕ) ≠ 1 from by decide, show (0 + 1 + 1 + 1 : ℕ) ≠ 2 from by decide, if_true, if_false]
    iintro ⟨H, H'⟩; isplitl
    · isplitl [H]; · iexact H
      iexact H'
    · iempintro
  · simp only [show (h + 1 + 1 + 1 : ℕ) ≠ 0 from by omega, show (h + 1 + 1 + 1 : ℕ) ≠ 1 from by omega, show (h + 1 + 1 + 1 : ℕ) ≠ 2 from by omega, show (h + 1 + 1 + 1 + 1 : ℕ) ≠ 1 from by omega, show (h + 1 + 1 + 1 + 1 : ℕ) ≠ 2 from by omega, if_false]
    exact BI.Entails.refl _
/-- Of what the long chain's landing leaves and this short chain's landing carries: what stays, and what goes on to the neighbour. -/
theorem lft3 (d : Dev nD) (h : ℕ) : iprop(SD d 2 h ∗ ext 3 h d) ⊢ (iprop(Lft d 3 h ∗ ext 3 (h + 1) (nb 3 d)) : sProp 𝕄) := by
  unfold Lft ext
  simp only [or_true, if_true]
  rcases h with _ | _ | _ | h
  · simp only [if_true]
    iintro ⟨H, -⟩; isplitr; · iempintro
    ihave H := (Entails.of_eq (show (SD d 2 0 : sProp 𝕄) = Ra (nb 3 d) (ck (ev 3) 0 (nb 3 d)) (hf 3) from rfl)) $$ H
    iexact H
  · simp only [show (0 + 1 + 1 : ℕ) ≠ 1 from by decide, show (0 + 1 : ℕ) ≠ 0 from by decide, show (0 + 1 : ℕ) ≠ 2 from by decide, if_true, if_false]
    rw [pv_nb]
    exact BI.Entails.refl _
  · simp only [show (0 + 1 + 1 : ℕ) ≠ 1 from by decide, show (0 + 1 + 1 : ℕ) ≠ 0 from by decide, show (0 + 1 + 1 + 1 : ℕ) ≠ 1 from by decide, show (0 + 1 + 1 + 1 : ℕ) ≠ 2 from by decide, if_true, if_false]
    iintro ⟨H, H'⟩; isplitl
    · isplitl [H]; · iexact H
      iexact H'
    · iempintro
  · simp only [show (h + 1 + 1 + 1 : ℕ) ≠ 0 from by omega, show (h + 1 + 1 + 1 : ℕ) ≠ 1 from by omega, show (h + 1 + 1 + 1 : ℕ) ≠ 2 from by omega, show (h + 1 + 1 + 1 + 1 : ℕ) ≠ 1 from by omega, show (h + 1 + 1 + 1 + 1 : ℕ) ≠ 2 from by omega, if_false]
    exact BI.Entails.refl _

/-- A landing of a long chain carries nothing besides. -/
theorem ext_even0 (h : ℕ) (d : Dev nD) : (ext 0 h d : sProp 𝕄) = iprop(emp) := if_neg (by decide)
/-- A landing of a long chain carries nothing besides. -/
theorem ext_even2 (h : ℕ) (d : Dev nD) : (ext 2 h d : sProp 𝕄) = iprop(emp) := if_neg (by decide)

/-- A long chain's landing hands on nothing besides its source. -/
theorem keep0 (d : Dev nD) (h h' : ℕ) : iprop(emp ∗ SD d 0 h ∗ ext 0 h d) ⊢ (iprop(SD d 0 h ∗ ext 0 h' (nb 0 d)) : sProp 𝕄) := by
  rw [ext_even0, ext_even0]; iintro ⟨-, H, -⟩; isplitl; · iexact H
  iempintro
/-- What is kept of a landing, and what goes on to the neighbour. -/
theorem keep2 (d : Dev nD) (h h' : ℕ) : iprop(emp ∗ SD d 2 h ∗ ext 2 h d) ⊢ (iprop(SD d 2 h ∗ ext 2 h' (nb 2 d)) : sProp 𝕄) := by
  rw [ext_even2, ext_even2]; iintro ⟨-, H, -⟩; isplitl; · iexact H
  iempintro

variable (I : Dev nD → Ins F) (K : Dev nD × Kd → ℕ) (d : Dev nD)

/-- A region of the ring buffer before its contribution. -/
abbrev Rk (a : Fin 4) (h : ℕ) : sProp 𝕄 := Ra d (ck a h d) (hf a)
/-- The same with the contribution. -/
abbrev Rp (a : Fin 4) (h : ℕ) : sProp 𝕄 := Rg d (ck a h d) (hf a) fullShare (prt I d (ck a h d) (hf a))

/-- The four contributions of a round. -/
theorem wp_parts {k : PB F} {Q : PUnit → sProp 𝕄} (h : Fin 7) :
    iprop(Dt d (I d) ∗ Rk d 0 (h.val + 1) ∗ Rk d 1 (h.val + 1) ∗ Rk d 2 (h.val + 1) ∗ Rk d 3 (h.val + 1))
      ⊢ iprop(((Dt d (I d) ∗ Rp I d 0 (h.val + 1) ∗ Rp I d 1 (h.val + 1) ∗ Rp I d 2 (h.val + 1) ∗ Rp I d 3 (h.val + 1)) -∗ WP d k Q) -∗ WP d (partsK d h k) Q) := by
  unfold partsK
  iintro ⟨HD, H0, H1, H2, H3⟩ Hk
  iapply (wp_part d I 0 (ck 0 (h.val + 1) d) (off11_8 d h) (off12_8 d h) (off13_rs d h.castSucc)) $$ [HD H0]
  · isplitl [HD]; · iexact HD
    iexact H0
  iintro ⟨HD, H0⟩
  iapply (wp_part d I 0 (ck 1 (h.val + 1) d) (off14_5 d h) (off15_5 d h) (off16_rs d h)) $$ [HD H1]
  · isplitl [HD]; · iexact HD
    iexact H1
  iintro ⟨HD, H1⟩
  iapply (wp_part d I 1 (ck 2 (h.val + 1) d) (off14_8 d h) (off15_8 d h) (off17_rs d h.castSucc)) $$ [HD H2]
  · isplitl [HD]; · iexact HD
    iexact H2
  iintro ⟨HD, H2⟩
  iapply (wp_part d I 1 (ck 3 (h.val + 1) d) (off11_5 d h) (off12_5 d h) (off18_rs d h)) $$ [HD H3]
  · isplitl [HD]; · iexact HD
    iexact H3
  iintro ⟨HD, H3⟩
  iapply Hk
  isplitl [HD]; · iexact HD
  isplitl [H0]; · iexact H0
  isplitl [H1]; · iexact H1
  isplitl [H2]; · iexact H2
  iexact H3

/-- The first four contributions and sends. -/
theorem wp_rsStart {k : PB F} {Q : PUnit → sProp 𝕄} :
    iprop(Inv I K ∗ Dt d (I d) ∗ (Rk d 0 0 ∗ Rk d 1 0 ∗ Rk d 2 0 ∗ Rk d 3 0) ∗ (US d 0 0 ∗ US d 1 0 ∗ US d 2 0 ∗ US d 3 0) ∗ OW d 0)
      ⊢ iprop(((Dt d (I d) ∗ (crd d (some (0, 0, 0)) ∗ crd d (some (0, 1, 0)) ∗ crd d (some (0, 2, 0)) ∗ crd d (some (0, 3, 0))) ∗ OW d 4) -∗ WP d k Q)
        -∗ WP d (rsStartK d k) Q) := by
  unfold rsStartK rsS0K rsS1K rsS2K rsS3K
  iintro ⟨#HI, HD, ⟨H0, H1, H2, H3⟩, ⟨U0, U1, U2, U3⟩, HO⟩ Hk
  iapply (wp_part d I 0 (ck 0 0 d) (off1_7 d) (off2_7 d) (off3_7 d)) $$ [HD H0]
  · isplitl [HD]; · iexact HD
    iexact H0
  iintro ⟨HD, H0⟩
  iapply (wp_first I K d 0 rfl (off4_rs d 0) 0 1 (by decide) rfl (Entails.of_eq (ext_even0 _ _).symm)) $$ [H0 U0 HO]
  · isplitr; · iexact HI
    isplitl [H0]; · iexact H0
    isplitl [U0]; · iexact U0
    iexact HO
  iintro ⟨C0, HO⟩
  iapply (wp_part d I 1 (ck 2 0 d) (off5_7 d) (off6_7 d) (off7_7 d)) $$ [HD H2]
  · isplitl [HD]; · iexact HD
    iexact H2
  iintro ⟨HD, H2⟩
  iapply (wp_first I K d 2 rfl (off8_rs d 0) 1 2 (by decide) rfl (Entails.of_eq (ext_even2 _ _).symm)) $$ [H2 U2 HO]
  · isplitr; · iexact HI
    isplitl [H2]; · iexact H2
    isplitl [U2]; · iexact U2
    iexact HO
  iintro ⟨C2, HO⟩
  iapply (wp_part d I 0 (ck 1 0 d) (off1_6 d) (off2_6 d) (off3_6 d)) $$ [HD H1]
  · isplitl [HD]; · iexact HD
    iexact H1
  iintro ⟨HD, H1⟩
  iapply (wp_first I K d 1 rfl (off9_rs d 0) 2 3 (by decide) rfl (Entails.of_eq (by unfold ext; rfl))) $$ [H1 U1 HO]
  · isplitr; · iexact HI
    isplitl [H1]; · iexact H1
    isplitl [U1]; · iexact U1
    iexact HO
  iintro ⟨C1, HO⟩
  iapply (wp_part d I 1 (ck 3 0 d) (off5_6 d) (off6_6 d) (off7_6 d)) $$ [HD H3]
  · isplitl [HD]; · iexact HD
    iexact H3
  iintro ⟨HD, H3⟩
  iapply (wp_first I K d 3 rfl (off10_rs d 0) 3 4 (by decide) rfl (Entails.of_eq (by unfold ext; rfl))) $$ [H3 U3 HO]
  · isplitr; · iexact HI
    isplitl [H3]; · iexact H3
    isplitl [U3]; · iexact U3
    iexact HO
  iintro ⟨C3, HO⟩
  iapply Hk
  isplitl [HD]; · iexact HD
  isplitl [C0 C1 C2 C3]
  · isplitl [C0]; · iexact C0
    isplitl [C1]; · iexact C1
    isplitl [C2]; · iexact C2
    iexact C3
  iexact HO

/-- When a round's transfer of this chain is made. -/
theorem rk0 : ∀ h : Fin 6, rank (0, 0, h.succ.castSucc) = 4 * (h.val + 1) := by decide
/-- When a round's transfer of this chain is made. -/
theorem rk2 : ∀ h : Fin 6, rank (0, 2, h.succ.castSucc) = 4 * (h.val + 1) + 1 := by decide
/-- When a round's transfer of this chain is made. -/
theorem rk1 : ∀ h : Fin 6, rank (0, 1, h.succ.castSucc) = 4 * (h.val + 1) + 2 := by decide
/-- When a round's transfer of this chain is made. -/
theorem rk3 : ∀ h : Fin 6, rank (0, 3, h.succ.castSucc) = 4 * (h.val + 1) + 3 := by decide
/-- The transfers of a round are made. -/
theorem used_a : ∀ (a : Fin 4) (h : Fin 6), used a h.castSucc.castSucc = true := by decide
/-- The transfers of a round are made. -/
theorem used_b : ∀ (a : Fin 4) (h : Fin 6), used a h.succ.castSucc = true := by decide

/-- What round `h` takes; -/
def RdP (h : Fin 6) : sProp 𝕄 :=
  iprop((RW d 0 h.castSucc.castSucc ∗ RW d 1 h.castSucc.castSucc ∗ RW d 2 h.castSucc.castSucc ∗ RW d 3 h.castSucc.castSucc)
    ∗ (Rk d 0 (h.val + 1) ∗ Rk d 1 (h.val + 1) ∗ Rk d 2 (h.val + 1) ∗ Rk d 3 (h.val + 1))
    ∗ (US d 0 h.succ.castSucc ∗ US d 1 h.succ.castSucc ∗ US d 2 h.succ.castSucc ∗ US d 3 h.succ.castSucc))
/-- and leaves. -/
def RdQ (h : Fin 6) : sProp 𝕄 :=
  iprop((crd d (some (0, 0, h.succ.castSucc)) ∗ crd d (some (0, 1, h.succ.castSucc)) ∗ crd d (some (0, 2, h.succ.castSucc)) ∗ crd d (some (0, 3, h.succ.castSucc)))
    ∗ (RZ d 0 h.castSucc.castSucc ∗ RZ d 1 h.castSucc.castSucc ∗ RZ d 2 h.castSucc.castSucc ∗ RZ d 3 h.castSucc.castSucc)
    ∗ (Lft d 1 h.val ∗ SD d 1 h.val ∗ Lft d 3 h.val ∗ SD d 3 h.val))

/-- What is kept of a landing, and what goes on to the neighbour. -/
theorem keep1 (h : ℕ) : iprop(SD d 0 h ∗ SD d 1 h ∗ ext 1 h d) ⊢ (iprop((Lft d 1 h ∗ SD d 1 h) ∗ ext 1 (h + 1) (nb 1 d)) : sProp 𝕄) := by
  iintro ⟨H0, H1, Hx⟩
  ihave H := (lft1 d h) $$ [H0 Hx]
  · isplitl [H0]; · iexact H0
    iexact Hx
  icases H with ⟨Hl, Hx⟩
  isplitl [Hl H1]
  · isplitl [Hl]; · iexact Hl
    iexact H1
  iexact Hx
/-- What is kept of a landing, and what goes on to the neighbour. -/
theorem keep3 (h : ℕ) : iprop(SD d 2 h ∗ SD d 3 h ∗ ext 3 h d) ⊢ (iprop((Lft d 3 h ∗ SD d 3 h) ∗ ext 3 (h + 1) (nb 3 d)) : sProp 𝕄) := by
  iintro ⟨H0, H1, Hx⟩
  ihave H := (lft3 d h) $$ [H0 Hx]
  · isplitl [H0]; · iexact H0
    iexact Hx
  icases H with ⟨Hl, Hx⟩
  isplitl [Hl H1]
  · isplitl [Hl]; · iexact Hl
    iexact H1
  iexact Hx

/-- A round of the reduction. -/
theorem wp_rsRound {Q : PUnit → sProp 𝕄} (h : Fin 6) (k : PB F) :
    iprop((Inv I K ∗ Dt d (I d) ∗ OW d (4 * (h.val + 1))) ∗ RdP d h)
      ⊢ iprop((((Inv I K ∗ Dt d (I d) ∗ OW d (4 * (h.val + 1 + 1))) ∗ RdQ d h) -∗ WP d k Q) -∗ WP d (rsRoundK d h k) Q) := by
  unfold rsRoundK RdP RdQ rs0K rs1K rs2K rs3K rsS0K rsS1K rsS2K rsS3K
  iintro ⟨⟨#HI, HD, HO⟩, ⟨W0, W1, W2, W3⟩, ⟨H0, H1, H2, H3⟩, ⟨U0, U1, U2, U3⟩⟩ Hk
  iapply (wp_parts I d h.castSucc) $$ [HD H0 H1 H2 H3]
  · isplitl [HD]; · iexact HD
    isplitl [H0]; · iexact H0
    isplitl [H1]; · iexact H1
    isplitl [H2]; · iexact H2
    iexact H3
  iintro ⟨HD, H0, H1, H2, H3⟩
  iapply (wp_chain I K d 0 h.castSucc.castSucc h.succ.castSucc rfl (used_a 0 h) (used_b 0 h) (off13_rs d h.castSucc.castSucc) rfl (off4_rs d h.succ.castSucc)
    (4 * (h.val + 1)) (4 * (h.val + 1) + 1) (rk0 h) rfl (by show h.val < _; omega) iprop(emp) (SD d 0 h.val) (keep0 d h.val _)) $$ [W0 H0 U0 HO]
  · isplitr; · iexact HI
    isplitl [W0]; · iexact W0
    isplitl [H0]; · iexact H0
    isplitl [U0]; · iexact U0
    isplitr; · iempintro
    iexact HO
  iintro ⟨Z0, S0, C0, HO⟩
  iapply (wp_chain I K d 2 h.castSucc.castSucc h.succ.castSucc rfl (used_a 2 h) (used_b 2 h) (off17_rs d h.castSucc.castSucc) rfl (off8_rs d h.succ.castSucc)
    (4 * (h.val + 1) + 1) (4 * (h.val + 1) + 2) (rk2 h) rfl (by show h.val < _; omega) iprop(emp) (SD d 2 h.val) (keep2 d h.val _)) $$ [W2 H2 U2 HO]
  · isplitr; · iexact HI
    isplitl [W2]; · iexact W2
    isplitl [H2]; · iexact H2
    isplitl [U2]; · iexact U2
    isplitr; · iempintro
    iexact HO
  iintro ⟨Z2, S2, C2, HO⟩
  iapply (wp_chain I K d 1 h.castSucc.castSucc h.succ.castSucc rfl (used_a 1 h) (used_b 1 h) (off16_rs d h.castSucc) rfl (off9_rs d h.succ)
    (4 * (h.val + 1) + 2) (4 * (h.val + 1) + 3) (rk1 h) rfl (by show h.val < _; omega) (SD d 0 h.val) iprop(Lft d 1 h.val ∗ SD d 1 h.val) (keep1 d h.val)) $$ [W1 H1 U1 S0 HO]
  · isplitr; · iexact HI
    isplitl [W1]; · iexact W1
    isplitl [H1]; · iexact H1
    isplitl [U1]; · iexact U1
    isplitl [S0]; · iexact S0
    iexact HO
  iintro ⟨Z1, ⟨L1, S1⟩, C1, HO⟩
  iapply (wp_chain I K d 3 h.castSucc.castSucc h.succ.castSucc rfl (used_a 3 h) (used_b 3 h) (off18_rs d h.castSucc) rfl (off10_rs d h.succ)
    (4 * (h.val + 1) + 3) (4 * (h.val + 1 + 1)) (rk3 h) (by omega) (by show h.val < _; omega) (SD d 2 h.val) iprop(Lft d 3 h.val ∗ SD d 3 h.val) (keep3 d h.val)) $$ [W3 H3 U3 S2 HO]
  · isplitr; · iexact HI
    isplitl [W3]; · iexact W3
    isplitl [H3]; · iexact H3
    isplitl [U3]; · iexact U3
    isplitl [S2]; · iexact S2
    iexact HO
  iintro ⟨Z3, ⟨L3, S3⟩, C3, HO⟩
  iapply Hk
  isplitl [HD HO]
  · isplitr; · iexact HI
    isplitl [HD]; · iexact HD
    iexact HO
  isplitl [C0 C1 C2 C3]
  · isplitl [C0]; · iexact C0
    isplitl [C1]; · iexact C1
    isplitl [C2]; · iexact C2
    iexact C3
  isplitl [Z0 Z1 Z2 Z3]
  · isplitl [Z0]; · iexact Z0
    isplitl [Z1]; · iexact Z1
    isplitl [Z2]; · iexact Z2
    iexact Z3
  isplitl [L1]; · iexact L1
  isplitl [S1]; · iexact S1
  isplitl [L3]; · iexact L3
  iexact S3

/-- What the reduction's last round takes; -/
def RlP : sProp 𝕄 :=
  iprop((RW d 0 6 ∗ RW d 1 6 ∗ RW d 2 6 ∗ RW d 3 6) ∗ (RW d 0 7 ∗ RW d 2 7) ∗ (Rk d 0 7 ∗ Rk d 1 7 ∗ Rk d 2 7 ∗ Rk d 3 7) ∗ (US d 0 7 ∗ US d 2 7))
/-- and leaves: among it the device's own two half chunks, reduced. -/
def RlQ : sProp 𝕄 :=
  iprop((crd d (some (0, 0, 7)) ∗ crd d (some (0, 2, 7)))
    ∗ (RZ d 0 6 ∗ RZ d 1 6 ∗ RZ d 2 6 ∗ RZ d 3 6) ∗ (RZ d 0 7 ∗ RZ d 2 7)
    ∗ (SD d 0 6 ∗ SD d 1 6 ∗ SD d 2 6 ∗ SD d 3 6) ∗ (SD d 0 7 ∗ SD d 2 7)
    ∗ Gt I d fullShare 0 0 ∗ Gt I d fullShare 2 0)

/-- Where this chain of the reduction ends on a device: at the half chunk from which its gather starts. -/
theorem own0 : ∀ d : Dev nD, ck 1 7 d = ag 0 0 d := by decide +kernel
/-- Where this chain of the reduction ends on a device: at the half chunk from which its gather starts. -/
theorem own0' : ∀ d : Dev nD, ck 0 8 d = ag 0 0 d := by decide +kernel
/-- Where this chain of the reduction ends on a device: at the half chunk from which its gather starts. -/
theorem own2 : ∀ d : Dev nD, ck 3 7 d = ag 2 0 d := by decide +kernel
/-- Where this chain of the reduction ends on a device: at the half chunk from which its gather starts. -/
theorem own2' : ∀ d : Dev nD, ck 2 8 d = ag 2 0 d := by decide +kernel

/-- The last landing of a round carries nothing that is still needed. -/
theorem ext6 (a : Fin 4) : (ext a (6 : Fin 8).val d : sProp 𝕄) ⊢ iprop(emp) := by
  unfold ext; split <;> exact BI.Entails.refl _

/-- A reduced half is the device's own contribution and the two arriving sums. -/
theorem fv0 : fv (prt I) (ag 0 0 d) 0 = accB (accB (prt I d (ck 1 7 d) 0) (sv (prt I) 1 6 (rt d))) (sv (prt I) 0 7 (lf d)) := by
  unfold fv; rw [if_pos rfl, home0]; rfl
/-- A reduced half is the device's own contribution and the two arriving sums. -/
theorem fv2 : fv (prt I) (ag 2 0 d) 1 = accB (accB (prt I d (ck 3 7 d) 1) (sv (prt I) 3 6 (lf d))) (sv (prt I) 2 7 (rt d)) := by
  unfold fv; rw [if_neg (by decide), home1]; rfl

/-- The reduction's last round. -/
theorem wp_rsLast {Q : PUnit → sProp 𝕄} (k : PB F) :
    iprop((Inv I K ∗ Dt d (I d) ∗ OW d 28) ∗ RlP d)
      ⊢ iprop((((Inv I K ∗ Dt d (I d) ∗ OW d 32) ∗ RlQ I d) -∗ WP d k Q) -∗ WP d (rsLastK d k) Q) := by
  unfold rsLastK RlP RlQ rs0K rs1K rs2K rs3K rsS0K rsS2K
  iintro ⟨⟨#HI, HD, HO⟩, ⟨W0, W1, W2, W3⟩, ⟨W07, W27⟩, ⟨H0, H1, H2, H3⟩, ⟨U0, U2⟩⟩ Hk
  iapply (wp_parts I d 6) $$ [HD H0 H1 H2 H3]
  · isplitl [HD]; · iexact HD
    isplitl [H0]; · iexact H0
    isplitl [H1]; · iexact H1
    isplitl [H2]; · iexact H2
    iexact H3
  iintro ⟨HD, H0, H1, H2, H3⟩
  iapply (wp_chain I K d 0 6 7 rfl rfl rfl (off13_rs d 6) rfl (off4_rs d 7)
    28 29 (by decide) rfl (by decide) iprop(emp) (SD d 0 6) (keep0 d 6 _)) $$ [W0 H0 U0 HO]
  · isplitr; · iexact HI
    isplitl [W0]; · iexact W0
    isplitl [H0]; · iexact H0
    isplitl [U0]; · iexact U0
    isplitr; · iempintro
    iexact HO
  iintro ⟨Z0, S0, C0, HO⟩
  iapply (wp_chain I K d 2 6 7 rfl rfl rfl (off17_rs d 6) rfl (off8_rs d 7)
    29 30 (by decide) rfl (by decide) iprop(emp) (SD d 2 6) (keep2 d 6 _)) $$ [W2 H2 U2 HO]
  · isplitr; · iexact HI
    isplitl [W2]; · iexact W2
    isplitl [H2]; · iexact H2
    isplitl [U2]; · iexact U2
    isplitr; · iempintro
    iexact HO
  iintro ⟨Z2, S2, C2, HO⟩
  ihave HO := (Entails.of_eq (OW_eq d (Oat_30 d))) $$ HO
  iapply (wp_end I K d 1 6 rfl (ck 1 7 d) 0 (prt I d (ck 1 7 d) 0) (off16_rs d 6) 32 (by decide)) $$ [W1 H1 HO]
  · isplitr; · iexact HI
    isplitl [W1]; · iexact W1
    isplitl [H1]; · iexact H1
    iexact HO
  iintro ⟨Z1, X1, S1, H1, HO⟩
  iapply (wp_end I K d 3 6 rfl (ck 3 7 d) 1 (prt I d (ck 3 7 d) 1) (off18_rs d 6) 32 (by decide)) $$ [W3 H3 HO]
  · isplitr; · iexact HI
    isplitl [W3]; · iexact W3
    isplitl [H3]; · iexact H3
    iexact HO
  iintro ⟨Z3, X3, S3, H3, HO⟩
  iapply (wp_end I K d 0 7 rfl (ck 1 7 d) 0 (accB (prt I d (ck 1 7 d) 0) (sv (prt I) 1 6 (rt d))) ((off13_rs d 7).trans (by rw [own0]; exact congrArg (fun c => cko c 0) (own0' d))) 32 (by decide)) $$ [W07 H1 HO]
  · isplitr; · iexact HI
    isplitl [W07]; · iexact W07
    isplitl [H1]; · iexact H1
    iexact HO
  iintro ⟨Z07, X07, S07, H1, HO⟩
  iapply (wp_end I K d 2 7 rfl (ck 3 7 d) 1 (accB (prt I d (ck 3 7 d) 1) (sv (prt I) 3 6 (lf d))) ((off17_rs d 7).trans (by rw [own2]; exact congrArg (fun c => cko c 1) (own2' d))) 32 (by decide)) $$ [W27 H3 HO]
  · isplitr; · iexact HI
    isplitl [W27]; · iexact W27
    isplitl [H3]; · iexact H3
    iexact HO
  iintro ⟨Z27, X27, S27, H3, HO⟩
  iapply Hk
  isplitl [HD HO]
  · isplitr; · iexact HI
    isplitl [HD]; · iexact HD
    iexact HO
  isplitl [C0 C2]
  · isplitl [C0]; · iexact C0
    iexact C2
  isplitl [Z0 Z1 Z2 Z3]
  · isplitl [Z0]; · iexact Z0
    isplitl [Z1]; · iexact Z1
    isplitl [Z2]; · iexact Z2
    iexact Z3
  isplitl [Z07 Z27]
  · isplitl [Z07]; · iexact Z07
    iexact Z27
  isplitl [S0 S1 S2 S3]
  · isplitl [S0]; · iexact S0
    isplitl [S1]; · iexact S1
    isplitl [S2]; · iexact S2
    iexact S3
  isplitl [S07 S27]
  · isplitl [S07]; · iexact S07
    iexact S27
  ihave X1 := (ext6 d 1) $$ X1
  ihave X3 := (ext6 d 3) $$ X3
  ihave X07 := (Entails.of_eq (ext_even0 _ d)) $$ X07
  ihave X27 := (Entails.of_eq (ext_even2 _ d)) $$ X27
  iclear X1 X3 X07 X27
  unfold Gt
  isplitl [H1]
  · rw [show hf 0 = 0 from rfl, fv0, ← own0 d]; iexact H1
  · rw [show hf 2 = 1 from rfl, fv2, ← own2 d]; iexact H3

end Cert.KernelIdeal.Moe

end
-- ==== Proof.Gather.lean ====
/- The gather: its first sends, its rounds, the combinations. -/
module

public import proofs.«01_k».proof.Proof.Reduce

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Kd → ℕ) (d : Dev nD)

/-! ## The first sends -/

/-- The two directions of the gather start from the same half chunk. -/
theorem ag_one : ∀ d : Dev nD, ag 1 0 d = ag 0 0 d := by decide +kernel
/-- The two directions of the gather start from the same half chunk. -/
theorem ag_three : ∀ d : Dev nD, ag 3 0 d = ag 2 0 d := by decide +kernel

/-- A half chunk's share in two. -/
theorem Gt_halve (q : PosShare TreeShare) (a : Fin 4) (h : ℕ) : Gt I d q a h ⊢ (iprop(Gt I d q.left a h ∗ Gt I d q.right a h) : sProp 𝕄) := by
  unfold Gt Rg
  exact (owns_halves (d : Thread nD τ) (ringV (cko (ag a h d) (hf a)) (cko_inb _ _)) q _).1

/-- The own half chunks: two quarters lent, a half kept. -/
theorem own_split :
    iprop(Gt I d fullShare 0 0 ∗ Gt I d fullShare 2 0)
      ⊢ (iprop((Gt I d (ls 0 0) 0 0 ∗ Gt I d (ls 1 0) 1 0 ∗ Gt I d (ls 2 0) 2 0 ∗ Gt I d (ls 3 0) 3 0) ∗ Gt I d fullShare.right 0 0 ∗ Gt I d fullShare.right 2 0) : sProp 𝕄) := by
  iintro ⟨H0, H2⟩
  ihave H0 := (Gt_halve I d fullShare 0 0) $$ H0
  ihave H2 := (Gt_halve I d fullShare 2 0) $$ H2
  icases H0 with ⟨L0, R0⟩
  icases H2 with ⟨L2, R2⟩
  ihave L0 := (Gt_halve I d fullShare.left 0 0) $$ L0
  ihave L2 := (Gt_halve I d fullShare.left 2 0) $$ L2
  icases L0 with ⟨L0, L1⟩
  icases L2 with ⟨L2, L3⟩
  ihave L1 := (Entails.of_eq (show (Gt I d fullShare.left.right 0 0 : sProp 𝕄) = Gt I d (ls 1 0) 1 0 from by unfold Gt; rw [ag_one]; rfl)) $$ L1
  ihave L3 := (Entails.of_eq (show (Gt I d fullShare.left.right 2 0 : sProp 𝕄) = Gt I d (ls 3 0) 3 0 from by unfold Gt; rw [ag_three]; rfl)) $$ L3
  ihave L0 := (Entails.of_eq (show (Gt I d fullShare.left.left 0 0 : sProp 𝕄) = Gt I d (ls 0 0) 0 0 from rfl)) $$ L0
  ihave L2 := (Entails.of_eq (show (Gt I d fullShare.left.left 2 0 : sProp 𝕄) = Gt I d (ls 2 0) 2 0 from rfl)) $$ L2
  isplitl [L0 L1 L2 L3]
  · isplitl [L0]; · iexact L0
    isplitl [L1]; · iexact L1
    isplitl [L2]; · iexact L2
    iexact L3
  isplitl [R0]; · iexact R0
  iexact R2

/-- What a send of the gather takes besides its source. -/
abbrev AU (a : Fin 4) (h : Fin 8) : sProp 𝕄 := iprop(AD d a h.val ∗ UG d a h)

/-- The first four sends of the gather. -/
theorem wp_agStart {k : PB F} {Q : PUnit → sProp 𝕄} :
    iprop(Inv I K ∗ (Gt I d (ls 0 0) 0 0 ∗ Gt I d (ls 1 0) 1 0 ∗ Gt I d (ls 2 0) 2 0 ∗ Gt I d (ls 3 0) 3 0)
        ∗ (AU d 0 0 ∗ AU d 1 0 ∗ AU d 2 0 ∗ AU d 3 0) ∗ OW d 32)
      ⊢ iprop((((crd d (some (2, 0, 0)) ∗ crd d (some (2, 1, 0)) ∗ crd d (some (2, 2, 0)) ∗ crd d (some (2, 3, 0))) ∗ OW d 36) -∗ WP d k Q)
        -∗ WP d (agS0K d 0 <| agS1K d 0 <| agS2K d 0 <| agS3K d 0 k) Q) := by
  unfold agS0K agS1K agS2K agS3K
  iintro ⟨#HI, ⟨L0, L1, L2, L3⟩, ⟨⟨D0, U0⟩, ⟨D1, U1⟩, ⟨D2, U2⟩, ⟨D3, U3⟩⟩, HO⟩ Hk
  iapply (wp_gsend I K d 0 0 rfl rfl (off4_ag d 0) 32 33 (by decide) rfl) $$ [L0 D0 U0 HO]
  · isplitr; · iexact HI
    isplitl [L0]; · iexact L0
    isplitl [D0]; · iexact D0
    isplitl [U0]; · iexact U0
    iexact HO
  iintro ⟨C0, HO⟩
  iapply (wp_gsend I K d 1 0 rfl rfl (off19_ag d 0) 33 34 (by decide) rfl) $$ [L1 D1 U1 HO]
  · isplitr; · iexact HI
    isplitl [L1]; · iexact L1
    isplitl [D1]; · iexact D1
    isplitl [U1]; · iexact U1
    iexact HO
  iintro ⟨C1, HO⟩
  iapply (wp_gsend I K d 2 0 rfl rfl (off20_ag d 0) 34 35 (by decide) rfl) $$ [L2 D2 U2 HO]
  · isplitr; · iexact HI
    isplitl [L2]; · iexact L2
    isplitl [D2]; · iexact D2
    isplitl [U2]; · iexact U2
    iexact HO
  iintro ⟨C2, HO⟩
  iapply (wp_gsend I K d 3 0 rfl rfl (off21_ag d 0) 35 36 (by decide) rfl) $$ [L3 D3 U3 HO]
  · isplitr; · iexact HI
    isplitl [L3]; · iexact L3
    isplitl [D3]; · iexact D3
    isplitl [U3]; · iexact U3
    iexact HO
  iintro ⟨C3, HO⟩
  iapply Hk
  isplitl [C0 C1 C2 C3]
  · isplitl [C0]; · iexact C0
    isplitl [C1]; · iexact C1
    isplitl [C2]; · iexact C2
    iexact C3
  iexact HO

/-! ## A round -/

/-- When a round's transfer of this chain is made. -/
theorem gk0 : ∀ h : Fin 6, rank (1, 0, h.succ.castSucc) = 32 + 4 * (h.val + 1) := by decide
/-- When a round's transfer of this chain is made. -/
theorem gk2 : ∀ h : Fin 6, rank (1, 2, h.succ.castSucc) = 32 + 4 * (h.val + 1) + 1 := by decide
/-- When a round's transfer of this chain is made. -/
theorem gk1 : ∀ h : Fin 6, rank (1, 1, h.succ.castSucc) = 32 + 4 * (h.val + 1) + 2 := by decide
/-- When a round's transfer of this chain is made. -/
theorem gk3 : ∀ h : Fin 6, rank (1, 3, h.succ.castSucc) = 32 + 4 * (h.val + 1) + 3 := by decide

/-- What round `h` of the gather takes; -/
def GdP (h : Fin 6) : sProp 𝕄 :=
  iprop((GW d 0 h.castSucc.castSucc ∗ GW d 1 h.castSucc.castSucc ∗ GW d 2 h.castSucc.castSucc ∗ GW d 3 h.castSucc.castSucc)
    ∗ (AU d 0 h.succ.castSucc ∗ AU d 1 h.succ.castSucc ∗ AU d 2 h.succ.castSucc ∗ AU d 3 h.succ.castSucc))
/-- and leaves, besides what it gathered. -/
def GdQ (h : Fin 6) : sProp 𝕄 :=
  iprop((semVal (cell d (some (3, 0, h.castSucc.castSucc))) 0 ∗ semVal (cell d (some (3, 1, h.castSucc.castSucc))) 0
      ∗ semVal (cell d (some (3, 2, h.castSucc.castSucc))) 0 ∗ semVal (cell d (some (3, 3, h.castSucc.castSucc))) 0)
    ∗ (crd d (some (2, 0, h.succ.castSucc)) ∗ crd d (some (2, 1, h.succ.castSucc)) ∗ crd d (some (2, 2, h.succ.castSucc)) ∗ crd d (some (2, 3, h.succ.castSucc))))

/-- A round of the gather. -/
theorem wp_agRound {Q : PUnit → sProp 𝕄} (h : Fin 6) (m m' : ℕ) (hm : m = 32 + 4 * (h.val + 1)) (hm' : m' = m + 4) (n : ℕ) (hn : n = h.val + 1) (k : PB F) :
    iprop(Inv I K ∗ GdP d h ∗ OW d m)
      ⊢ iprop(((GdQ d h ∗ Gt I d fullShare.right 0 n ∗ Gt I d fullShare.right 1 n ∗ Gt I d fullShare.right 2 n ∗ Gt I d fullShare.right 3 n ∗ OW d m') -∗ WP d k Q)
        -∗ WP d (agRoundK d h k) Q) := by
  subst hm hm' hn
  unfold agRoundK GdP GdQ agW0K agW1K agW2K agW3K agS0K agS1K agS2K agS3K
  iintro ⟨#HI, ⟨⟨W0, W1, W2, W3⟩, ⟨U0, U1, U2, U3⟩⟩, HO⟩ Hk
  iapply (wp_gchain I K d 0 h.castSucc.castSucc h.succ.castSucc rfl (used_a 0 h) (used_b 0 h) rfl (off4_ag d h.succ.castSucc)
    (32 + 4 * (h.val + 1)) (32 + 4 * (h.val + 1) + 1) (gk0 h) rfl (by show 8 + h.val < _; omega)) $$ [W0 U0 HO]
  · isplitr; · iexact HI
    isplitl [W0]; · iexact W0
    isplitl [U0]; · iexact U0
    iexact HO
  iintro ⟨Z0, R0, C0, HO⟩
  iapply (wp_gchain I K d 2 h.castSucc.castSucc h.succ.castSucc rfl (used_a 2 h) (used_b 2 h) rfl (off20_ag d h.succ.castSucc)
    (32 + 4 * (h.val + 1) + 1) (32 + 4 * (h.val + 1) + 2) (gk2 h) rfl (by show 8 + h.val < _; omega)) $$ [W2 U2 HO]
  · isplitr; · iexact HI
    isplitl [W2]; · iexact W2
    isplitl [U2]; · iexact U2
    iexact HO
  iintro ⟨Z2, R2, C2, HO⟩
  iapply (wp_gchain I K d 1 h.castSucc.castSucc h.succ.castSucc rfl (used_a 1 h) (used_b 1 h) rfl (off19_ag d h.succ)
    (32 + 4 * (h.val + 1) + 2) (32 + 4 * (h.val + 1) + 3) (gk1 h) rfl (by show 8 + h.val < _; omega)) $$ [W1 U1 HO]
  · isplitr; · iexact HI
    isplitl [W1]; · iexact W1
    isplitl [U1]; · iexact U1
    iexact HO
  iintro ⟨Z1, R1, C1, HO⟩
  iapply (wp_gchain I K d 3 h.castSucc.castSucc h.succ.castSucc rfl (used_a 3 h) (used_b 3 h) rfl (off21_ag d h.succ)
    (32 + 4 * (h.val + 1) + 3) (32 + 4 * (h.val + 1) + 4) (gk3 h) rfl (by show 8 + h.val < _; omega)) $$ [W3 U3 HO]
  · isplitr; · iexact HI
    isplitl [W3]; · iexact W3
    isplitl [U3]; · iexact U3
    iexact HO
  iintro ⟨Z3, R3, C3, HO⟩
  iapply Hk
  isplitl [Z0 Z1 Z2 Z3 C0 C1 C2 C3]
  · isplitl [Z0 Z1 Z2 Z3]
    · isplitl [Z0]; · iexact Z0
      isplitl [Z1]; · iexact Z1
      isplitl [Z2]; · iexact Z2
      iexact Z3
    isplitl [C0]; · iexact C0
    isplitl [C1]; · iexact C1
    isplitl [C2]; · iexact C2
    iexact C3
  isplitl [R0]; · iexact R0
  isplitl [R1]; · iexact R1
  isplitl [R2]; · iexact R2
  isplitl [R3]; · iexact R3
  iexact HO

/-! ## The combinations -/

/-- The half chunks the `r`-th combination reads, in the order of the gather: left half, -/
def tA : Fin 16 → Fin 4 × ℕ := ![(0, 1), (0, 0), (0, 2), (1, 1), (0, 3), (1, 2), (0, 4), (1, 3), (0, 5), (1, 4), (0, 6), (1, 5), (0, 7), (1, 7), (1, 6), (0, 8)]
/-- right half. -/
def tB : Fin 16 → Fin 4 × ℕ := ![(2, 1), (2, 2), (2, 0), (2, 3), (3, 1), (2, 4), (3, 2), (2, 5), (3, 3), (2, 6), (3, 4), (2, 7), (3, 5), (3, 7), (2, 8), (3, 6)]
/-- The `r`-th combined chunk. -/
def cb (r : Fin 16) (d : Dev nD) : Fin 16 := ag (tA r).1 (tA r).2 d
/-- Which chunk of the tokens a combination reads, -/
theorem comb_x : ∀ (d : Dev nD) (r : Fin 16), k0_off5 d (k0_off5_at (xAt r)) = ![128 * (cb r d).val, 0] := by decide +kernel
/-- which chunk of the output it writes, -/
theorem comb_o : ∀ (d : Dev nD) (r : Fin 16), k0_off22 d (k0_off22_at r) = ![128 * (cb r d).val, 0] := by decide +kernel
/-- and which half chunk arrived last for it. -/
theorem comb_b : ∀ (d : Dev nD) (r : Fin 16), ag (tB r).1 (tB r).2 d = cb r d := by decide +kernel
/-- Which half of the columns the chain of an arrival carries. -/
theorem comb_ha : ∀ r : Fin 16, hf (tA r).1 = 0 := by decide
/-- Which half of the columns the chain of an arrival carries. -/
theorem comb_hb : ∀ r : Fin 16, hf (tB r).1 = 1 := by decide
/-- The chunks combined before the `n`-th. -/
def Dn (d : Dev nD) : ℕ → Finset (Fin 16)
  | 0 => ∅
  | n + 1 => insert (cb (Fin.ofNat 16 n) d) (Dn d n)
/-- After the last combination every chunk is written. -/
theorem Dn_all : ∀ d : Dev nD, Dn d 16 = Finset.univ := by decide +kernel

/-- The output so far. -/
abbrev OutN (n : ℕ) : sProp 𝕄 := Out d (outB (fv (prt I)) (I d)) (Dn d n)

/-- The `r`-th combination. -/
theorem wp_combAt {Q : PUnit → sProp 𝕄} (r : Fin 16) (a : Fin 4) (ha : ℕ) (b : Fin 4) (hb : ℕ) (eA : tA r = (a, ha)) (eB : tB r = (b, hb)) (n n' : ℕ) (hn : n = r.val) (hn' : n' = n + 1) (k : PB F) :
    iprop(Dt d (I d) ∗ (Gt I d fullShare.right a ha ∗ Gt I d fullShare.right b hb) ∗ OutN I d n)
      ⊢ iprop(((Dt d (I d) ∗ Gt I d fullShare.right a ha ∗ Gt I d fullShare.right b hb ∗ OutN I d n') -∗ WP d k Q) -∗ WP d (combAtK d r k) Q) := by
  subst hn hn'
  have e1 : ag a ha d = cb r d := by unfold cb; rw [eA]
  have e2 : ag b hb d = cb r d := by rw [← comb_b, eB]
  have e3 : hf a = 0 := by have := comb_ha r; rw [eA] at this; exact this
  have e4 : hf b = 1 := by have := comb_hb r; rw [eB] at this; exact this
  unfold combAtK Gt OutN
  rw [e1, e2, e3, e4]
  iintro ⟨HD, ⟨HA, HB⟩, HO⟩ Hk
  iapply (wp_comb d (I d) (fv (prt I)) (Dn d r.val) fullShare.right (cb r d) (comb_x d r) (comb_o d r)) $$ [HD HA HB HO]
  · isplitl [HD]; · iexact HD
    isplitl [HA HB]
    · isplitl [HA]; · iexact HA
      iexact HB
    iexact HO
  iintro ⟨HD, ⟨HA, HB⟩, HO⟩
  iapply Hk
  isplitl [HD]; · iexact HD
  isplitl [HA]; · iexact HA
  isplitl [HB]; · iexact HB
  rw [show Dn d (r.val + 1) = insert (cb r d) (Dn d r.val) from by
    show insert (cb (Fin.ofNat 16 r.val) d) _ = _
    rw [show Fin.ofNat 16 r.val = r from Fin.ext (Nat.mod_eq_of_lt r.isLt)]]
  iexact HO

/-! ## The whole gather -/

/-- A round with the two combinations that follow it: one reads a half chunk `(a, ha)` got before and the right one just
    landed, the other the left one just landed and `(b, hb)` got before. -/
theorem wp_agRC {Q : PUnit → sProp 𝕄} (h : Fin 6) (r r' : Fin 16) (a : Fin 4) (ha : ℕ) (b : Fin 4) (hb n : ℕ) (hn : n = h.val + 1) (hr : r.val + 1 = 2 * h.val) (hr' : r'.val = r.val + 1)
    (eA : tA r = (a, ha)) (eB : tB r = (2, n)) (eA' : tA r' = (0, n)) (eB' : tB r' = (b, hb))
    (m m' : ℕ) (hm : m = 32 + 4 * (h.val + 1)) (hm' : m' = m + 4) (i i' : ℕ) (hi : i = r.val) (hi' : i' = i + 2) (k : PB F) :
    iprop(Inv I K ∗ GdP d h ∗ (Gt I d fullShare.right a ha ∗ Gt I d fullShare.right b hb) ∗ Dt d (I d) ∗ OutN I d i ∗ OW d m)
      ⊢ iprop(((GdQ d h ∗ (Gt I d fullShare.right 0 n ∗ Gt I d fullShare.right 1 n ∗ Gt I d fullShare.right 2 n ∗ Gt I d fullShare.right 3 n)
            ∗ (Gt I d fullShare.right a ha ∗ Gt I d fullShare.right b hb) ∗ Dt d (I d) ∗ OutN I d i' ∗ OW d m') -∗ WP d k Q)
        -∗ WP d (agRoundK d h <| combAtK d r <| combAtK d r' k) Q) := by
  iintro ⟨#HI, HP, ⟨HA, HB⟩, HD, Ho, HO⟩ Hk
  iapply (wp_agRound I K d h m m' hm hm' n hn) $$ [HP HO]
  · isplitr; · iexact HI
    isplitl [HP]; · iexact HP
    iexact HO
  iintro ⟨HQ, R0, R1, R2, R3, HO⟩
  iapply (wp_combAt I d r a ha 2 n eA eB i (i + 1) hi rfl) $$ [HD HA R2 Ho]
  · isplitl [HD]; · iexact HD
    isplitl [HA R2]
    · isplitl [HA]; · iexact HA
      iexact R2
    iexact Ho
  iintro ⟨HD, HA, R2, Ho⟩
  iapply (wp_combAt I d r' 0 n b hb eA' eB' (i + 1) i' (by omega) (by omega)) $$ [HD HB R0 Ho]
  · isplitl [HD]; · iexact HD
    isplitl [HB R0]
    · isplitl [R0]; · iexact R0
      iexact HB
    iexact Ho
  iintro ⟨HD, R0, HB, Ho⟩
  iapply Hk
  isplitl [HQ]; · iexact HQ
  isplitl [R0 R1 R2 R3]
  · isplitl [R0]; · iexact R0
    isplitl [R1]; · iexact R1
    isplitl [R2]; · iexact R2
    iexact R3
  isplitl [HA HB]
  · isplitl [HA]; · iexact HA
    iexact HB
  isplitl [HD]; · iexact HD
  isplitl [Ho]; · iexact Ho
  iexact HO

/-- What the gather's last round takes; -/
def GlP : sProp 𝕄 :=
  iprop((GW d 0 6 ∗ GW d 1 6 ∗ GW d 2 6 ∗ GW d 3 6) ∗ (GW d 0 7 ∗ GW d 2 7) ∗ (AU d 0 7 ∗ AU d 2 7))
/-- and leaves, besides what it gathered. -/
def GlQ : sProp 𝕄 :=
  iprop((semVal (cell d (some (3, 0, 6))) 0 ∗ semVal (cell d (some (3, 1, 6))) 0 ∗ semVal (cell d (some (3, 2, 6))) 0 ∗ semVal (cell d (some (3, 3, 6))) 0)
    ∗ (semVal (cell d (some (3, 0, 7))) 0 ∗ semVal (cell d (some (3, 2, 7))) 0)
    ∗ (crd d (some (2, 0, 7)) ∗ crd d (some (2, 2, 7)))
    ∗ (Gt I d fullShare.left 1 7 ∗ Gt I d fullShare.left 3 7 ∗ Gt I d fullShare.left 0 8 ∗ Gt I d fullShare.left 2 8))

/-- The last round's waits and sends, before its combinations. -/
theorem wp_agLast {Q : PUnit → sProp 𝕄} (k : PB F) :
    iprop(Inv I K ∗ GlP d ∗ (Gt I d fullShare.right 1 5 ∗ Gt I d fullShare.right 3 5 ∗ Gt I d fullShare.right 1 6 ∗ Gt I d fullShare.right 3 6) ∗ Dt d (I d) ∗ OutN I d 11 ∗ OW d 60)
      ⊢ iprop(((GlQ I d ∗ (Gt I d fullShare.right 0 7 ∗ Gt I d fullShare.right 1 7 ∗ Gt I d fullShare.right 2 7 ∗ Gt I d fullShare.right 3 7 ∗ Gt I d fullShare.right 0 8 ∗ Gt I d fullShare.right 2 8)
            ∗ (Gt I d fullShare.right 1 5 ∗ Gt I d fullShare.right 3 5 ∗ Gt I d fullShare.right 1 6 ∗ Gt I d fullShare.right 3 6) ∗ Dt d (I d) ∗ OutN I d 16 ∗ OW d 62) -∗ WP d k Q)
        -∗ WP d (agLastK d k) Q) := by
  unfold agLastK GlP GlQ agW0K agW1K agW2K agW3K agS0K agS2K
  iintro ⟨#HI, ⟨⟨W0, W1, W2, W3⟩, ⟨W07, W27⟩, ⟨U0, U2⟩⟩, ⟨R15, R35, R16, R36⟩, HD, Ho, HO⟩ Hk
  iapply (wp_gchain I K d 0 6 7 rfl rfl rfl rfl (off4_ag d 7) 60 61 (by decide) rfl (by decide)) $$ [W0 U0 HO]
  · isplitr; · iexact HI
    isplitl [W0]; · iexact W0
    isplitl [U0]; · iexact U0
    iexact HO
  iintro ⟨Z0, R07, C0, HO⟩
  iapply (wp_gchain I K d 2 6 7 rfl rfl rfl rfl (off20_ag d 7) 61 62 (by decide) rfl (by decide)) $$ [W2 U2 HO]
  · isplitr; · iexact HI
    isplitl [W2]; · iexact W2
    isplitl [U2]; · iexact U2
    iexact HO
  iintro ⟨Z2, R27, C2, HO⟩
  iapply (wp_gwait I K d 1 6 rfl 62 (by decide)) $$ [W1 HO]
  · isplitr; · iexact HI
    isplitl [W1]; · iexact W1
    iexact HO
  iintro ⟨Z1, L17, R17, HO⟩
  iapply (wp_gwait I K d 3 6 rfl 62 (by decide)) $$ [W3 HO]
  · isplitr; · iexact HI
    isplitl [W3]; · iexact W3
    iexact HO
  iintro ⟨Z3, L37, R37, HO⟩
  ihave R07 := (Entails.of_eq (show (Gt I d fullShare.right 0 (7 : Fin 8).val : sProp 𝕄) = Gt I d fullShare.right 0 7 from rfl)) $$ R07
  ihave R27 := (Entails.of_eq (show (Gt I d fullShare.right 2 (7 : Fin 8).val : sProp 𝕄) = Gt I d fullShare.right 2 7 from rfl)) $$ R27
  ihave R17 := (Entails.of_eq (show (Gt I d fullShare.right 1 ((6 : Fin 8).val + 1) : sProp 𝕄) = Gt I d fullShare.right 1 7 from rfl)) $$ R17
  ihave R37 := (Entails.of_eq (show (Gt I d fullShare.right 3 ((6 : Fin 8).val + 1) : sProp 𝕄) = Gt I d fullShare.right 3 7 from rfl)) $$ R37
  iapply (wp_combAt I d 11 1 5 2 7 rfl rfl 11 12 rfl rfl) $$ [HD R15 R27 Ho]
  · isplitl [HD]; · iexact HD
    isplitl [R15 R27]
    · isplitl [R15]; · iexact R15
      iexact R27
    iexact Ho
  iintro ⟨HD, R15, R27, Ho⟩
  iapply (wp_combAt I d 12 0 7 3 5 rfl rfl 12 13 rfl rfl) $$ [HD R07 R35 Ho]
  · isplitl [HD]; · iexact HD
    isplitl [R07 R35]
    · isplitl [R07]; · iexact R07
      iexact R35
    iexact Ho
  iintro ⟨HD, R07, R35, Ho⟩
  iapply (wp_combAt I d 13 1 7 3 7 rfl rfl 13 14 rfl rfl) $$ [HD R17 R37 Ho]
  · isplitl [HD]; · iexact HD
    isplitl [R17 R37]
    · isplitl [R17]; · iexact R17
      iexact R37
    iexact Ho
  iintro ⟨HD, R17, R37, Ho⟩
  ihave HO := (Entails.of_eq (OW_eq d (Oat_64 d))) $$ HO
  iapply (wp_gwait I K d 0 7 rfl 64 (by decide)) $$ [W07 HO]
  · isplitr; · iexact HI
    isplitl [W07]; · iexact W07
    iexact HO
  iintro ⟨Z07, L08, R08, HO⟩
  iapply (wp_gwait I K d 2 7 rfl 64 (by decide)) $$ [W27 HO]
  · isplitr; · iexact HI
    isplitl [W27]; · iexact W27
    iexact HO
  iintro ⟨Z27, L28, R28, HO⟩
  ihave HO := (Entails.of_eq (OW_eq d (Oat_64 d)).symm) $$ HO
  ihave R08 := (Entails.of_eq (show (Gt I d fullShare.right 0 ((7 : Fin 8).val + 1) : sProp 𝕄) = Gt I d fullShare.right 0 8 from rfl)) $$ R08
  ihave R28 := (Entails.of_eq (show (Gt I d fullShare.right 2 ((7 : Fin 8).val + 1) : sProp 𝕄) = Gt I d fullShare.right 2 8 from rfl)) $$ R28
  iapply (wp_combAt I d 14 1 6 2 8 rfl rfl 14 15 rfl rfl) $$ [HD R16 R28 Ho]
  · isplitl [HD]; · iexact HD
    isplitl [R16 R28]
    · isplitl [R16]; · iexact R16
      iexact R28
    iexact Ho
  iintro ⟨HD, R16, R28, Ho⟩
  iapply (wp_combAt I d 15 0 8 3 6 rfl rfl 15 16 rfl rfl) $$ [HD R08 R36 Ho]
  · isplitl [HD]; · iexact HD
    isplitl [R08 R36]
    · isplitl [R08]; · iexact R08
      iexact R36
    iexact Ho
  iintro ⟨HD, R08, R36, Ho⟩
  iapply Hk
  isplitl [Z0 Z1 Z2 Z3 Z07 Z27 C0 C2 L17 L37 L08 L28]
  · isplitl [Z0 Z1 Z2 Z3]
    · isplitl [Z0]; · iexact Z0
      isplitl [Z1]; · iexact Z1
      isplitl [Z2]; · iexact Z2
      iexact Z3
    isplitl [Z07 Z27]
    · isplitl [Z07]; · iexact Z07
      iexact Z27
    isplitl [C0 C2]
    · isplitl [C0]; · iexact C0
      iexact C2
    isplitl [L17]; · iexact L17
    isplitl [L37]; · iexact L37
    isplitl [L08]; · iexact L08
    iexact L28
  isplitl [R07 R17 R27 R37 R08 R28]
  · isplitl [R07]; · iexact R07
    isplitl [R17]; · iexact R17
    isplitl [R27]; · iexact R27
    isplitl [R37]; · iexact R37
    isplitl [R08]; · iexact R08
    iexact R28
  isplitl [R15 R35 R16 R36]
  · isplitl [R15]; · iexact R15
    isplitl [R35]; · iexact R35
    isplitl [R16]; · iexact R16
    iexact R36
  isplitl [HD]; · iexact HD
  isplitl [Ho]; · iexact Ho
  iexact HO

/-- The right halves a round gathers. -/
abbrev Rs (n : ℕ) : sProp 𝕄 := iprop(Gt I d fullShare.right 0 n ∗ Gt I d fullShare.right 1 n ∗ Gt I d fullShare.right 2 n ∗ Gt I d fullShare.right 3 n)

/-- The gather. -/
theorem wp_gather {Q : PUnit → sProp 𝕄} (k : PB F) :
    iprop(Inv I K ∗ (Gt I d fullShare 0 0 ∗ Gt I d fullShare 2 0) ∗ (AU d 0 0 ∗ AU d 1 0 ∗ AU d 2 0 ∗ AU d 3 0)
        ∗ (GdP d 0 ∗ GdP d 1 ∗ GdP d 2 ∗ GdP d 3 ∗ GdP d 4 ∗ GdP d 5) ∗ GlP d ∗ Dt d (I d) ∗ OutN I d 0 ∗ OW d 32)
      ⊢ iprop((((crd d (some (2, 0, 0)) ∗ crd d (some (2, 1, 0)) ∗ crd d (some (2, 2, 0)) ∗ crd d (some (2, 3, 0)))
          ∗ (GdQ d 0 ∗ GdQ d 1 ∗ GdQ d 2 ∗ GdQ d 3 ∗ GdQ d 4 ∗ GdQ d 5) ∗ GlQ I d
          ∗ (Gt I d fullShare.right 0 0 ∗ Gt I d fullShare.right 2 0) ∗ (Rs I d 1 ∗ Rs I d 2 ∗ Rs I d 3 ∗ Rs I d 4 ∗ Rs I d 5 ∗ Rs I d 6 ∗ Rs I d 7)
          ∗ (Gt I d fullShare.right 0 8 ∗ Gt I d fullShare.right 2 8) ∗ Dt d (I d) ∗ OutN I d 16 ∗ OW d 62) -∗ WP d k Q)
        -∗ WP d (agS0K d 0 <| agS1K d 0 <| agS2K d 0 <| agS3K d 0 <|
            agRoundK d 0 <| combAtK d 0 <| agRoundK d 1 <| combAtK d 1 <| combAtK d 2 <| agRoundK d 2 <| combAtK d 3 <| combAtK d 4 <|
            agRoundK d 3 <| combAtK d 5 <| combAtK d 6 <| agRoundK d 4 <| combAtK d 7 <| combAtK d 8 <| agRoundK d 5 <| combAtK d 9 <| combAtK d 10 <| agLastK d k) Q) := by
  iintro ⟨#HI, HG, HU, ⟨P0, P1, P2, P3, P4, P5⟩, PL, HD, Ho, HO⟩ Hk
  ihave HG := (own_split I d) $$ HG
  icases HG with ⟨HL, R00, R20⟩
  iapply (wp_agStart I K d) $$ [HL HU HO]
  · isplitr; · iexact HI
    isplitl [HL]; · iexact HL
    isplitl [HU]; · iexact HU
    iexact HO
  iintro ⟨HC, HO⟩
  iapply (wp_agRound I K d 0 36 40 rfl rfl 1 rfl) $$ [P0 HO]
  · isplitr; · iexact HI
    isplitl [P0]; · iexact P0
    iexact HO
  iintro ⟨Q0, R01, R11, R21, R31, HO⟩
  iapply (wp_combAt I d 0 0 1 2 1 rfl rfl 0 1 rfl rfl) $$ [HD R01 R21 Ho]
  · isplitl [HD]; · iexact HD
    isplitl [R01 R21]
    · isplitl [R01]; · iexact R01
      iexact R21
    iexact Ho
  iintro ⟨HD, R01, R21, Ho⟩
  iapply (wp_agRC I K d 1 1 2 0 0 2 0 2 rfl rfl rfl rfl rfl rfl rfl 40 44 rfl rfl 1 3 rfl rfl) $$ [P1 R00 R20 HD Ho HO]
  · isplitr; · iexact HI
    isplitl [P1]; · iexact P1
    isplitl [R00 R20]
    · isplitl [R00]; · iexact R00
      iexact R20
    isplitl [HD]; · iexact HD
    isplitl [Ho]; · iexact Ho
    iexact HO
  iintro ⟨Q1, ⟨R02, R12, R22, R32⟩, ⟨R00, R20⟩, HD, Ho, HO⟩
  iapply (wp_agRC I K d 2 3 4 1 1 3 1 3 rfl rfl rfl rfl rfl rfl rfl 44 48 rfl rfl 3 5 rfl rfl) $$ [P2 R11 R31 HD Ho HO]
  · isplitr; · iexact HI
    isplitl [P2]; · iexact P2
    isplitl [R11 R31]
    · isplitl [R11]; · iexact R11
      iexact R31
    isplitl [HD]; · iexact HD
    isplitl [Ho]; · iexact Ho
    iexact HO
  iintro ⟨Q2, ⟨R03, R13, R23, R33⟩, ⟨R11, R31⟩, HD, Ho, HO⟩
  iapply (wp_agRC I K d 3 5 6 1 2 3 2 4 rfl rfl rfl rfl rfl rfl rfl 48 52 rfl rfl 5 7 rfl rfl) $$ [P3 R12 R32 HD Ho HO]
  · isplitr; · iexact HI
    isplitl [P3]; · iexact P3
    isplitl [R12 R32]
    · isplitl [R12]; · iexact R12
      iexact R32
    isplitl [HD]; · iexact HD
    isplitl [Ho]; · iexact Ho
    iexact HO
  iintro ⟨Q3, ⟨R04, R14, R24, R34⟩, ⟨R12, R32⟩, HD, Ho, HO⟩
  iapply (wp_agRC I K d 4 7 8 1 3 3 3 5 rfl rfl rfl rfl rfl rfl rfl 52 56 rfl rfl 7 9 rfl rfl) $$ [P4 R13 R33 HD Ho HO]
  · isplitr; · iexact HI
    isplitl [P4]; · iexact P4
    isplitl [R13 R33]
    · isplitl [R13]; · iexact R13
      iexact R33
    isplitl [HD]; · iexact HD
    isplitl [Ho]; · iexact Ho
    iexact HO
  iintro ⟨Q4, ⟨R05, R15, R25, R35⟩, ⟨R13, R33⟩, HD, Ho, HO⟩
  iapply (wp_agRC I K d 5 9 10 1 4 3 4 6 rfl rfl rfl rfl rfl rfl rfl 56 60 rfl rfl 9 11 rfl rfl) $$ [P5 R14 R34 HD Ho HO]
  · isplitr; · iexact HI
    isplitl [P5]; · iexact P5
    isplitl [R14 R34]
    · isplitl [R14]; · iexact R14
      iexact R34
    isplitl [HD]; · iexact HD
    isplitl [Ho]; · iexact Ho
    iexact HO
  iintro ⟨Q5, ⟨R06, R16, R26, R36⟩, ⟨R14, R34⟩, HD, Ho, HO⟩
  iapply (wp_agLast I K d) $$ [PL R15 R35 R16 R36 HD Ho HO]
  · isplitr; · iexact HI
    isplitl [PL]; · iexact PL
    isplitl [R15 R35 R16 R36]
    · isplitl [R15]; · iexact R15
      isplitl [R35]; · iexact R35
      isplitl [R16]; · iexact R16
      iexact R36
    isplitl [HD]; · iexact HD
    isplitl [Ho]; · iexact Ho
    iexact HO
  iintro ⟨QL, ⟨R07, R17, R27, R37, R08, R28⟩, ⟨R15, R35, R16, R36⟩, HD, Ho, HO⟩
  iapply Hk
  isplitl [HC]; · iexact HC
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [QL]; · iexact QL
  isplitl [R00 R20]
  · isplitl [R00]; · iexact R00
    iexact R20
  isplitl [R01 R11 R21 R31 R02 R12 R22 R32 R03 R13 R23 R33 R04 R14 R24 R34 R05 R15 R25 R35 R06 R16 R26 R36 R07 R17 R27 R37]
  · isplitl [R01 R11 R21 R31]
    · isplitl [R01]; · iexact R01
      isplitl [R11]; · iexact R11
      isplitl [R21]; · iexact R21
      iexact R31
    isplitl [R02 R12 R22 R32]
    · isplitl [R02]; · iexact R02
      isplitl [R12]; · iexact R12
      isplitl [R22]; · iexact R22
      iexact R32
    isplitl [R03 R13 R23 R33]
    · isplitl [R03]; · iexact R03
      isplitl [R13]; · iexact R13
      isplitl [R23]; · iexact R23
      iexact R33
    isplitl [R04 R14 R24 R34]
    · isplitl [R04]; · iexact R04
      isplitl [R14]; · iexact R14
      isplitl [R24]; · iexact R24
      iexact R34
    isplitl [R05 R15 R25 R35]
    · isplitl [R05]; · iexact R05
      isplitl [R15]; · iexact R15
      isplitl [R25]; · iexact R25
      iexact R35
    isplitl [R06 R16 R26 R36]
    · isplitl [R06]; · iexact R06
      isplitl [R16]; · iexact R16
      isplitl [R26]; · iexact R26
      iexact R36
    isplitl [R07]; · iexact R07
    isplitl [R17]; · iexact R17
    isplitl [R27]; · iexact R27
    iexact R37
  isplitl [R08 R28]
  · isplitl [R08]; · iexact R08
    iexact R28
  isplitl [HD]; · iexact HD
  isplitl [Ho]; · iexact Ho
  iexact HO

end Cert.KernelIdeal.Moe

end
-- ==== Proof.Families.lean ====
/- Resources for every step of the four chains, and for what is left of them. -/
module

public import proofs.«01_k».proof.Proof.Gather

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rearranging -/

/-- Separating conjunction is associative and commutative, as equations. -/
instance sepAssoc : _root_.Std.Associative (α := sProp 𝕄) BIBase.sep := ⟨fun _ _ _ => equiv_iff.mp ⟨BI.sep_assoc, BI.sep_assoc'⟩⟩
@[inherit_doc sepAssoc] instance sepComm : _root_.Std.Commutative (α := sProp 𝕄) BIBase.sep := ⟨fun _ _ => equiv_iff.mp ⟨BI.sep_comm, BI.sep_comm⟩⟩

/-- A list's resources are its members'. -/
theorem sepL_eq {ι : Type} [DecidableEq ι] (P : ι → sProp 𝕄) : ∀ l : List ι, l.Nodup → sepL P l = bigSep l.toFinset P
  | [], _ => by unfold sepL; rw [List.toFinset_nil, bigSep_empty]; rfl
  | i :: l, h => by
      unfold sepL
      rw [sepL_eq P l (List.nodup_cons.mp h).2, List.toFinset_cons]
      exact (bigSep_insert (fun hm => (List.nodup_cons.mp h).1 (List.mem_toFinset.mp hm))).symm

/-- A family over a finite type, listed. -/
theorem sepL_univ {ι : Type} [Fintype ι] [DecidableEq ι] (P : ι → sProp 𝕄) (l : List ι) (hl : Finset.univ = l.toFinset) (hn : l.Nodup) : sepL P l = bigSep Finset.univ P := by
  rw [hl]; exact sepL_eq P l hn

/-- A family over a few steps, written out. -/
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- A family over a few steps, written out. -/
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- A family over a few steps, written out. -/
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A family over a few steps, written out. -/
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over a chain's steps, with its first or last ones apart. -/
theorem fin8_front (Φ : Fin 8 → sProp 𝕄) : bigSep Finset.univ Φ = iprop(Φ 0 ∗ (bigSep Finset.univ fun h : Fin 6 => Φ h.succ.castSucc) ∗ Φ 7) := by
  rw [fin8, fin6]
  show iprop(Φ 0 ∗ Φ 1 ∗ Φ 2 ∗ Φ 3 ∗ Φ 4 ∗ Φ 5 ∗ Φ 6 ∗ Φ 7) = iprop(Φ 0 ∗ (Φ 1 ∗ Φ 2 ∗ Φ 3 ∗ Φ 4 ∗ Φ 5 ∗ Φ 6) ∗ Φ 7)
  ac_rfl
/-- A family over a chain's steps, with its first or last ones apart. -/
theorem fin8_back (Φ : Fin 8 → sProp 𝕄) : bigSep Finset.univ Φ = iprop((bigSep Finset.univ fun h : Fin 6 => Φ h.castSucc.castSucc) ∗ Φ 6 ∗ Φ 7) := by
  rw [fin8, fin6]
  show iprop(Φ 0 ∗ Φ 1 ∗ Φ 2 ∗ Φ 3 ∗ Φ 4 ∗ Φ 5 ∗ Φ 6 ∗ Φ 7) = iprop((Φ 0 ∗ Φ 1 ∗ Φ 2 ∗ Φ 3 ∗ Φ 4 ∗ Φ 5) ∗ Φ 6 ∗ Φ 7)
  ac_rfl
/-- A family over a chain's steps, with its first or last ones apart. -/
theorem fin7_front (Φ : Fin 8 → sProp 𝕄) : (bigSep Finset.univ fun h : Fin 7 => Φ h.castSucc) = iprop(Φ 0 ∗ bigSep Finset.univ fun h : Fin 6 => Φ h.succ.castSucc) := by
  rw [fin7, fin6]; rfl
/-- A family over a chain's steps, with its first or last ones apart. -/
theorem fin7_back (Φ : Fin 8 → sProp 𝕄) : (bigSep Finset.univ fun h : Fin 7 => Φ h.castSucc) = iprop((bigSep Finset.univ fun h : Fin 6 => Φ h.castSucc.castSucc) ∗ Φ 6) := by
  rw [fin7, fin6]
  show iprop(Φ 0 ∗ Φ 1 ∗ Φ 2 ∗ Φ 3 ∗ Φ 4 ∗ Φ 5 ∗ Φ 6) = iprop((Φ 0 ∗ Φ 1 ∗ Φ 2 ∗ Φ 3 ∗ Φ 4 ∗ Φ 5) ∗ Φ 6)
  ac_rfl
/-- A family over a chain's steps, with its first or last ones apart. -/
theorem fin8_seven (Φ : Fin 8 → sProp 𝕄) : bigSep Finset.univ Φ = iprop((bigSep Finset.univ fun h : Fin 7 => Φ h.castSucc) ∗ Φ 7) := by
  rw [fin8, fin7]
  show iprop(Φ 0 ∗ Φ 1 ∗ Φ 2 ∗ Φ 3 ∗ Φ 4 ∗ Φ 5 ∗ Φ 6 ∗ Φ 7) = iprop((Φ 0 ∗ Φ 1 ∗ Φ 2 ∗ Φ 3 ∗ Φ 4 ∗ Φ 5 ∗ Φ 6) ∗ Φ 7)
  ac_rfl

/-- A resource for each step the chains make: eight of the long chains, seven of the short. -/
def fam (Φ : Fin 4 → Fin 8 → sProp 𝕄) : sProp 𝕄 :=
  iprop((bigSep Finset.univ fun h : Fin 8 => Φ 0 h) ∗ (bigSep Finset.univ fun h : Fin 7 => Φ 1 h.castSucc)
    ∗ (bigSep Finset.univ fun h : Fin 8 => Φ 2 h) ∗ (bigSep Finset.univ fun h : Fin 7 => Φ 3 h.castSucc))

/-- Four at a time. -/
abbrev four (Φ : Fin 4 → Fin 8 → sProp 𝕄) (h : Fin 8) : sProp 𝕄 := iprop(Φ 0 h ∗ Φ 1 h ∗ Φ 2 h ∗ Φ 3 h)

/-- The first step, the later ones, the last. -/
theorem fam_front (Φ : Fin 4 → Fin 8 → sProp 𝕄) :
    fam Φ = iprop(four Φ 0 ∗ (bigSep Finset.univ fun h : Fin 6 => four Φ h.succ.castSucc) ∗ (Φ 0 7 ∗ Φ 2 7)) := by
  unfold fam four
  rw [fin8_front (Φ 0), fin8_front (Φ 2), fin7_front (Φ 1), fin7_front (Φ 3)]
  simp only [bigSep_sep']
  ac_rfl
/-- The first six steps, the seventh, the last. -/
theorem fam_back (Φ : Fin 4 → Fin 8 → sProp 𝕄) :
    fam Φ = iprop((bigSep Finset.univ fun h : Fin 6 => four Φ h.castSucc.castSucc) ∗ four Φ 6 ∗ (Φ 0 7 ∗ Φ 2 7)) := by
  unfold fam four
  rw [fin8_back (Φ 0), fin8_back (Φ 2), fin7_back (Φ 1), fin7_back (Φ 3)]
  simp only [bigSep_sep']
  ac_rfl
/-- A family of pairs is the pair of the families. -/
theorem fam_sep (Φ Ψ : Fin 4 → Fin 8 → sProp 𝕄) : fam (fun a h => iprop(Φ a h ∗ Ψ a h)) = iprop(fam Φ ∗ fam Ψ) := by
  unfold fam
  simp only [bigSep_sep']
  ac_rfl
/-- A resource for every slot. -/
theorem fam_univ (Φ : Fin 4 → Fin 8 → sProp 𝕄) :
    (bigSep Finset.univ fun x : Fin 4 × Fin 8 => Φ x.1 x.2) = iprop(fam Φ ∗ Φ 1 7 ∗ Φ 3 7) := by
  rw [bigSep_univ_prod (fun x : Fin 4 × Fin 8 => Φ x.1 x.2), fin4]
  unfold fam
  rw [fin8_seven (fun h => Φ ((1 : Fin 4), h).1 h), fin8_seven (fun h => Φ ((3 : Fin 4), h).1 h)]
  ac_rfl
/-- A family over all slots, one thing where a transfer is made and another where none is. -/
theorem fam_used (Φ Ψ : Fin 4 → Fin 8 → sProp 𝕄) :
    (bigSep Finset.univ fun x : Fin 4 × Fin 8 => if used x.1 x.2 = true then Φ x.1 x.2 else Ψ x.1 x.2) = iprop(fam Φ ∗ Ψ 1 7 ∗ Ψ 3 7) := by
  rw [fam_univ fun a h => if used a h = true then Φ a h else Ψ a h]
  have e8 : ∀ h : Fin 8, used 0 h = true := by decide
  have e8' : ∀ h : Fin 8, used 2 h = true := by decide
  have e7 : ∀ h : Fin 7, used 1 h.castSucc = true := by decide
  have e7' : ∀ h : Fin 7, used 3 h.castSucc = true := by decide
  unfold fam
  simp only [e8, e8', e7, e7', if_true, show used 1 7 = false from rfl, show used 3 7 = false from rfl, Bool.false_eq_true, if_false]

variable (I : Dev nD → Ins F) (K : Dev nD × Kd → ℕ) (d : Dev nD)

/-! ## The reduction -/

/-- What the reduction leaves of its sources. -/
def Left : sProp 𝕄 :=
  iprop((bigSep Finset.univ fun h : Fin 6 => iprop(Lft d 1 h.val ∗ SD d 1 h.val ∗ Lft d 3 h.val ∗ SD d 3 h.val))
    ∗ (SD d 0 6 ∗ SD d 1 6 ∗ SD d 2 6 ∗ SD d 3 6) ∗ (SD d 0 7 ∗ SD d 2 7))

/-- The reduction's waits, by rounds. -/
theorem rounds_in : fam (RW d) = (iprop((bigSep Finset.univ fun h : Fin 6 => four (RW d) h.castSucc.castSucc) ∗ four (RW d) 6 ∗ (RW d 0 7 ∗ RW d 2 7)) : sProp 𝕄) := fam_back _

/-- What all rounds of the reduction need or leave, round by round. -/
theorem RdP_all : (bigSep Finset.univ (RdP d) : sProp 𝕄)
    = iprop((bigSep Finset.univ fun h : Fin 6 => four (RW d) h.castSucc.castSucc) ∗ (bigSep Finset.univ fun h : Fin 6 => four (fun a h => Rk d a h.val) h.succ.castSucc)
      ∗ bigSep Finset.univ fun h : Fin 6 => four (US d) h.succ.castSucc) := by
  rw [← bigSep_sep', ← bigSep_sep']; rfl
/-- What all rounds of the reduction need or leave, round by round. -/
theorem RdQ_all : (bigSep Finset.univ (RdQ d) : sProp 𝕄)
    = iprop((bigSep Finset.univ fun h : Fin 6 => four (fun a h => crd d (some (0, a, h))) h.succ.castSucc) ∗ (bigSep Finset.univ fun h : Fin 6 => four (RZ d) h.castSucc.castSucc)
      ∗ bigSep Finset.univ fun h : Fin 6 => iprop(Lft d 1 h.val ∗ SD d 1 h.val ∗ Lft d 3 h.val ∗ SD d 3 h.val)) := by
  rw [← bigSep_sep', ← bigSep_sep']; rfl

/-- The reduction. -/
theorem wp_reduce {Q : PUnit → sProp 𝕄} (k : PB F) :
    iprop(Inv I K ∗ Dt d (I d) ∗ OW d 0 ∗ fam (RW d) ∗ (fam (fun a h => Rk d a h.val) ∗ Rk d 1 7 ∗ Rk d 3 7) ∗ fam (US d))
      ⊢ iprop(((Dt d (I d) ∗ OW d 32 ∗ fam (fun a h => crd d (some (0, a, h))) ∗ fam (RZ d) ∗ Left d ∗ (Gt I d fullShare 0 0 ∗ Gt I d fullShare 2 0)) -∗ WP d k Q)
        -∗ WP d (rsStartK d <| seqK (rsRoundK d) [0, 1, 2, 3, 4, 5] <| rsLastK d k) Q) := by
  rw [fam_back (RW d), fam_front (fun a h => Rk d a h.val), fam_front (US d), fam_front (fun a h => crd d (some (0, a, h))), fam_back (RZ d)]
  iintro ⟨#HI, HD, HO, ⟨W, W6, W7⟩, ⟨⟨R0, R, R7⟩, R17, R37⟩, ⟨U0, U, U7⟩⟩ Hk
  iapply (wp_rsStart I K d) $$ [HD R0 U0 HO]
  · isplitr; · iexact HI
    isplitl [HD]; · iexact HD
    isplitl [R0]; · iexact R0
    isplitl [U0]; · iexact U0
    iexact HO
  iintro ⟨HD, C0, HO⟩
  ihave HP := (Entails.of_eq (RdP_all d).symm) $$ [W R U]
  · isplitl [W]; · iexact W
    isplitl [R]; · iexact R
    iexact U
  ihave HP := (Entails.of_eq (sepL_univ (RdP d) [0, 1, 2, 3, 4, 5] (by decide) (by decide)).symm) $$ HP
  iapply (wp_seqK d (rsRoundK d) Fin.val (fun n => iprop(Inv I K ∗ Dt d (I d) ∗ OW d (4 * (n + 1)))) (RdP d) (RdQ d) (fun h k => wp_rsRound I K d h k) [0, 1, 2, 3, 4, 5] 0 (by decide)) $$ [HD HO HP]
  · isplitl [HD HO]
    · isplitr; · iexact HI
      isplitl [HD]; · iexact HD
      iexact HO
    iexact HP
  iintro ⟨⟨-, HD, HO⟩, HQ⟩
  ihave HQ := (Entails.of_eq (sepL_univ (RdQ d) [0, 1, 2, 3, 4, 5] (by decide) (by decide))) $$ HQ
  ihave HQ := (Entails.of_eq (RdQ_all d)) $$ HQ
  icases HQ with ⟨C, Z, L⟩
  icases R7 with ⟨R07, R27⟩
  iapply (wp_rsLast I K d) $$ [HD HO W6 W7 R07 R17 R27 R37 U7]
  · isplitl [HD HO]
    · isplitr; · iexact HI
      isplitl [HD]; · iexact HD
      iexact HO
    unfold RlP
    isplitl [W6]; · iexact W6
    isplitl [W7]; · iexact W7
    isplitl [R07 R17 R27 R37]
    · isplitl [R07]; · iexact R07
      isplitl [R17]; · iexact R17
      isplitl [R27]; · iexact R27
      iexact R37
    iexact U7
  unfold RlQ
  iintro ⟨⟨-, HD, HO⟩, C7, Z6, Z7, S6, S7, HG⟩
  iapply Hk
  isplitl [HD]; · iexact HD
  isplitl [HO]; · iexact HO
  isplitl [C0 C C7]
  · isplitl [C0]; · iexact C0
    isplitl [C]; · iexact C
    iexact C7
  isplitl [Z Z6 Z7]
  · isplitl [Z]; · iexact Z
    isplitl [Z6]; · iexact Z6
    iexact Z7
  isplitl [L S6 S7]
  · unfold Left
    isplitl [L]; · iexact L
    isplitl [S6]; · iexact S6
    iexact S7
  iexact HG

/-! ## The gather's destinations -/

/-- Into which half chunk of the neighbour this chain of the gather writes: one that the reduction sent from. -/
theorem ad_long0 : ∀ (h : Fin 7) (d : Dev nD), ag 0 h.val d = ck 1 (6 - h.val) (rt d) := by decide +kernel
/-- Into which half chunk of the neighbour this chain of the gather writes: one that the reduction sent from. -/
theorem ad_short1 : ∀ (h : Fin 7) (d : Dev nD), ag 1 h.val d = ck 0 (7 - h.val) (lf d) := by decide +kernel
/-- Into which half chunk of the neighbour this chain of the gather writes: one that the reduction sent from. -/
theorem ad_last0 : ∀ d : Dev nD, ag 0 7 d = ck 0 0 (rt d) := by decide +kernel
/-- Into which half chunk of the neighbour this chain of the gather writes: one that the reduction sent from. -/
theorem ad_long2 : ∀ (h : Fin 7) (d : Dev nD), ag 2 h.val d = ck 3 (6 - h.val) (lf d) := by decide +kernel
/-- Into which half chunk of the neighbour this chain of the gather writes: one that the reduction sent from. -/
theorem ad_short3 : ∀ (h : Fin 7) (d : Dev nD), ag 3 h.val d = ck 2 (7 - h.val) (rt d) := by decide +kernel
/-- Into which half chunk of the neighbour this chain of the gather writes: one that the reduction sent from. -/
theorem ad_last2 : ∀ d : Dev nD, ag 2 7 d = ck 2 0 (lf d) := by decide +kernel

/-- The place that this chain of the gather writes is the one the reduction's source left. -/
theorem AD_long0 (h : Fin 7) : (AD d 0 h.val : sProp 𝕄) = SD d 1 (6 - h.val) := by unfold AD SD; rw [ad_long0]; rfl
/-- The place that this chain of the gather writes is the one the reduction's source left. -/
theorem AD_short1 (h : Fin 7) : (AD d 1 h.val : sProp 𝕄) = SD d 0 (7 - h.val) := by unfold AD SD; rw [ad_short1]; rfl
/-- The place that this chain of the gather writes is the one the reduction's source left. -/
theorem AD_last0 : (AD d 0 7 : sProp 𝕄) = Ra (pv 1 d) (ck (ev 1) 0 (pv 1 d)) (hf 1) := by unfold AD; rw [ad_last0]; rfl
/-- The place that this chain of the gather writes is the one the reduction's source left. -/
theorem AD_long2 (h : Fin 7) : (AD d 2 h.val : sProp 𝕄) = SD d 3 (6 - h.val) := by unfold AD SD; rw [ad_long2]; rfl
/-- The place that this chain of the gather writes is the one the reduction's source left. -/
theorem AD_short3 (h : Fin 7) : (AD d 3 h.val : sProp 𝕄) = SD d 2 (7 - h.val) := by unfold AD SD; rw [ad_short3]; rfl
/-- The place that this chain of the gather writes is the one the reduction's source left. -/
theorem AD_last2 : (AD d 2 7 : sProp 𝕄) = Ra (pv 3 d) (ck (ev 3) 0 (pv 3 d)) (hf 3) := by unfold AD; rw [ad_last2]; rfl

/-- What a landing of the short chain leaves, by round. -/
theorem Lft_0 (a : Fin 4) : (Lft d a 0 : sProp 𝕄) = iprop(emp) := rfl
/-- What a landing of the short chain leaves, at one step. -/
theorem Lft_2 (a : Fin 4) : (Lft d a 2 : sProp 𝕄) = iprop(SD d (ev a) 2 ∗ Ra (pv a d) (ck (ev a) 0 (pv a d)) (hf a)) := rfl
/-- What a landing of the short chain leaves, at one step. -/
theorem Lft_ne (a : Fin 4) (h : ℕ) (h0 : h ≠ 0) (h2 : h ≠ 2) : (Lft d a h : sProp 𝕄) = SD d (ev a) h := by
  unfold Lft; rw [if_neg h0, if_neg h2]

/-- What the reduction leaves is where the gather lands. -/
theorem Left_eq : (Left d : sProp 𝕄) = fam (fun a h => AD d a h.val) := by
  unfold Left fam
  rw [fin6, fin8_seven (fun h => AD d 0 h.val), fin8_seven (fun h => AD d 2 h.val)]
  show iprop(((Lft d 1 0 ∗ SD d 1 0 ∗ Lft d 3 0 ∗ SD d 3 0) ∗ (Lft d 1 1 ∗ SD d 1 1 ∗ Lft d 3 1 ∗ SD d 3 1) ∗ (Lft d 1 2 ∗ SD d 1 2 ∗ Lft d 3 2 ∗ SD d 3 2)
      ∗ (Lft d 1 3 ∗ SD d 1 3 ∗ Lft d 3 3 ∗ SD d 3 3) ∗ (Lft d 1 4 ∗ SD d 1 4 ∗ Lft d 3 4 ∗ SD d 3 4) ∗ (Lft d 1 5 ∗ SD d 1 5 ∗ Lft d 3 5 ∗ SD d 3 5)) ∗ _)
    = iprop(((bigSep Finset.univ fun h : Fin 7 => AD d 0 h.val) ∗ AD d 0 7) ∗ (bigSep Finset.univ fun h : Fin 7 => AD d 1 h.val)
      ∗ ((bigSep Finset.univ fun h : Fin 7 => AD d 2 h.val) ∗ AD d 2 7) ∗ (bigSep Finset.univ fun h : Fin 7 => AD d 3 h.val))
  rw [AD_last0, AD_last2, bigSep_congr (fun h _ => AD_long0 d h), bigSep_congr (fun h _ => AD_short1 d h), bigSep_congr (fun h _ => AD_long2 d h), bigSep_congr (fun h _ => AD_short3 d h),
    fin7, fin7, fin7, fin7, Lft_0, Lft_0, Lft_2, Lft_2, Lft_ne d 1 1 (by decide) (by decide), Lft_ne d 3 1 (by decide) (by decide), Lft_ne d 1 3 (by decide) (by decide), Lft_ne d 3 3 (by decide) (by decide),
    Lft_ne d 1 4 (by decide) (by decide), Lft_ne d 3 4 (by decide) (by decide), Lft_ne d 1 5 (by decide) (by decide), Lft_ne d 3 5 (by decide) (by decide)]
  rw [show (iprop(emp ∗ SD d 1 0 ∗ emp ∗ SD d 3 0) : sProp 𝕄) = iprop(SD d 1 0 ∗ SD d 3 0) from by
    rw [show (iprop(emp ∗ SD d 1 0 ∗ emp ∗ SD d 3 0) : sProp 𝕄) = iprop(SD d 1 0 ∗ emp ∗ SD d 3 0) from equiv_iff.mp BI.emp_sep,
      show (iprop(emp ∗ SD d 3 0) : sProp 𝕄) = SD d 3 0 from equiv_iff.mp BI.emp_sep]]
  show iprop(((SD d 1 0 ∗ SD d 3 0) ∗ (SD d 0 1 ∗ SD d 1 1 ∗ SD d 2 1 ∗ SD d 3 1) ∗ ((SD d 0 2 ∗ Ra (pv 1 d) (ck (ev 1) 0 (pv 1 d)) (hf 1)) ∗ SD d 1 2 ∗ (SD d 2 2 ∗ Ra (pv 3 d) (ck (ev 3) 0 (pv 3 d)) (hf 3)) ∗ SD d 3 2)
      ∗ (SD d 0 3 ∗ SD d 1 3 ∗ SD d 2 3 ∗ SD d 3 3) ∗ (SD d 0 4 ∗ SD d 1 4 ∗ SD d 2 4 ∗ SD d 3 4) ∗ (SD d 0 5 ∗ SD d 1 5 ∗ SD d 2 5 ∗ SD d 3 5)) ∗ (SD d 0 6 ∗ SD d 1 6 ∗ SD d 2 6 ∗ SD d 3 6) ∗ (SD d 0 7 ∗ SD d 2 7))
    = iprop(((SD d 1 6 ∗ SD d 1 5 ∗ SD d 1 4 ∗ SD d 1 3 ∗ SD d 1 2 ∗ SD d 1 1 ∗ SD d 1 0) ∗ Ra (pv 1 d) (ck (ev 1) 0 (pv 1 d)) (hf 1))
      ∗ (SD d 0 7 ∗ SD d 0 6 ∗ SD d 0 5 ∗ SD d 0 4 ∗ SD d 0 3 ∗ SD d 0 2 ∗ SD d 0 1)
      ∗ ((SD d 3 6 ∗ SD d 3 5 ∗ SD d 3 4 ∗ SD d 3 3 ∗ SD d 3 2 ∗ SD d 3 1 ∗ SD d 3 0) ∗ Ra (pv 3 d) (ck (ev 3) 0 (pv 3 d)) (hf 3))
      ∗ (SD d 2 7 ∗ SD d 2 6 ∗ SD d 2 5 ∗ SD d 2 4 ∗ SD d 2 3 ∗ SD d 2 2 ∗ SD d 2 1))
  ac_rfl

/-! ## The gather -/

/-- What all rounds of the gather need or leave, round by round. -/
theorem GdP_all : (bigSep Finset.univ (GdP d) : sProp 𝕄)
    = iprop((bigSep Finset.univ fun h : Fin 6 => four (GW d) h.castSucc.castSucc) ∗ bigSep Finset.univ fun h : Fin 6 => four (AU d) h.succ.castSucc) := by
  rw [← bigSep_sep']; rfl
/-- What all rounds of the gather need or leave, round by round. -/
theorem GdQ_all : (bigSep Finset.univ (GdQ d) : sProp 𝕄)
    = iprop((bigSep Finset.univ fun h : Fin 6 => four (fun a h => semVal (cell d (some (3, a, h))) 0) h.castSucc.castSucc)
      ∗ bigSep Finset.univ fun h : Fin 6 => four (fun a h => crd d (some (2, a, h))) h.succ.castSucc) := by
  rw [← bigSep_sep']; rfl

/-- What the gather keeps: a share of every half chunk. -/
def Kept : sProp 𝕄 :=
  iprop((Gt I d fullShare.right 0 0 ∗ Gt I d fullShare.right 2 0) ∗ (Rs I d 1 ∗ Rs I d 2 ∗ Rs I d 3 ∗ Rs I d 4 ∗ Rs I d 5 ∗ Rs I d 6 ∗ Rs I d 7)
    ∗ (Gt I d fullShare.right 0 8 ∗ Gt I d fullShare.right 2 8) ∗ (Gt I d fullShare.left 1 7 ∗ Gt I d fullShare.left 3 7 ∗ Gt I d fullShare.left 0 8 ∗ Gt I d fullShare.left 2 8))

/-- The gather with its combinations. -/
theorem wp_gatherAll {Q : PUnit → sProp 𝕄} (k : PB F) :
    iprop(Inv I K ∗ (Gt I d fullShare 0 0 ∗ Gt I d fullShare 2 0) ∗ fam (AU d) ∗ fam (GW d) ∗ Dt d (I d) ∗ OutN I d 0 ∗ OW d 32)
      ⊢ iprop(((fam (fun a h => crd d (some (2, a, h))) ∗ fam (fun a h => semVal (cell d (some (3, a, h))) 0) ∗ Kept I d ∗ Dt d (I d) ∗ OutN I d 16 ∗ OW d 62) -∗ WP d k Q)
        -∗ WP d (agS0K d 0 <| agS1K d 0 <| agS2K d 0 <| agS3K d 0 <|
            agRoundK d 0 <| combAtK d 0 <| agRoundK d 1 <| combAtK d 1 <| combAtK d 2 <| agRoundK d 2 <| combAtK d 3 <| combAtK d 4 <|
            agRoundK d 3 <| combAtK d 5 <| combAtK d 6 <| agRoundK d 4 <| combAtK d 7 <| combAtK d 8 <| agRoundK d 5 <| combAtK d 9 <| combAtK d 10 <| agLastK d k) Q) := by
  rw [fam_front (AU d), fam_back (GW d), fam_front (fun a h => crd d (some (2, a, h))), fam_back (fun a h => semVal (cell d (some (3, a, h))) 0)]
  iintro ⟨#HI, HG, ⟨A0, A, A7⟩, ⟨G, G6, G7⟩, HD, Ho, HO⟩ Hk
  ihave HP := (Entails.of_eq (GdP_all d).symm) $$ [G A]
  · isplitl [G]; · iexact G
    iexact A
  ihave HP := (Entails.of_eq (fin6 (GdP d))) $$ HP
  iapply (wp_gather I K d) $$ [HG A0 HP A7 G6 G7 HD Ho HO]
  · isplitr; · iexact HI
    isplitl [HG]; · iexact HG
    isplitl [A0]; · iexact A0
    isplitl [HP]; · iexact HP
    isplitl [G6 G7 A7]
    · unfold GlP
      isplitl [G6]; · iexact G6
      isplitl [G7]; · iexact G7
      iexact A7
    isplitl [HD]; · iexact HD
    isplitl [Ho]; · iexact Ho
    iexact HO
  unfold GlQ
  iintro ⟨C0, HQ, ⟨Z6, Z7, C7, HL⟩, HR0, HR, HR8, HD, Ho, HO⟩
  ihave HQ := (Entails.of_eq (fin6 (GdQ d)).symm) $$ HQ
  ihave HQ := (Entails.of_eq (GdQ_all d)) $$ HQ
  icases HQ with ⟨Z, C⟩
  iapply Hk
  isplitl [C0 C C7]
  · isplitl [C0]; · iexact C0
    isplitl [C]; · iexact C
    iexact C7
  isplitl [Z Z6 Z7]
  · isplitl [Z]; · iexact Z
    isplitl [Z6]; · iexact Z6
    iexact Z7
  isplitl [HR0 HR HR8 HL]
  · unfold Kept
    isplitl [HR0]; · iexact HR0
    isplitl [HR]; · iexact HR
    isplitl [HR8]; · iexact HR8
    iexact HL
  isplitl [HD]; · iexact HD
  isplitl [Ho]; · iexact Ho
  iexact HO

/-! ## The waits for the sources -/

/-- A row of waits for the sources of the reduction; -/
theorem wp_rsRow {ι : Type} [Fintype ι] [DecidableEq ι] (a : Fin 4) (e : ι → Fin 8) (hu : ∀ i, used a (e i) = true) (l : List ι) (hl : Finset.univ = l.toFinset) (hn : l.Nodup) (v : ι → ℕ) (hv : l.map v = List.range' 0 l.length)
    (o : ι → Fin 2 → Nat) (ho : ∀ i, InbR (o i)) (hw : ∀ i, WordsR (o i) (ho i)) {Q : PUnit → sProp 𝕄} (k : PB F) :
    iprop(Inv I K ∗ OW d 62 ∗ bigSep Finset.univ fun i => iprop(crd d (some (0, a, e i)) ∗ at_ d (some (0, a, e i))))
      ⊢ iprop(((OW d 62 ∗ bigSep Finset.univ fun i => semVal (cell d (some (0, a, e i))) 0) -∗ WP d k Q) -∗ WP d (seqK (fun i => rsDoneK a (e i) (o i) (ho i) (hw i)) l k) Q) := by
  rw [hl, ← sepL_eq _ l hn, ← sepL_eq _ l hn]
  iintro ⟨#HI, HO, HP⟩ Hk
  iapply (wp_seqK d (fun i => rsDoneK a (e i) (o i) (ho i) (hw i)) v (fun _ => iprop(Inv I K ∗ OW d 62)) (fun i => iprop(crd d (some (0, a, e i)) ∗ at_ d (some (0, a, e i)))) (fun i => semVal (cell d (some (0, a, e i))) 0) ?_ l 0 hv) $$ [HO HP]
  · intro i k
    unfold Inv
    iintro ⟨⟨⟨#HR, #HL⟩, HO⟩, Hc, Hat⟩ Hk
    iapply (wp_rsDone (prt I) K d a (e i) (hu i)) $$ [HO Hc Hat]
    · isplitr; · iexact HR
      isplitr; · iexact HL
      isplitl [Hc]; · iexact Hc
      isplitl [Hat]; · iexact Hat
      iexact HO
    iintro ⟨-, Hz, HO⟩
    iapply Hk
    isplitl [HO]
    · isplitr
      · isplitr; · iexact HR
        iexact HL
      iexact HO
    iexact Hz
  · isplitl [HO]
    · isplitr; · iexact HI
      iexact HO
    iexact HP
  iintro ⟨⟨-, HO⟩, HZ⟩
  iapply Hk
  isplitl [HO]; · iexact HO
  iexact HZ

/-- and of the gather, which gives the lent shares back. -/
theorem wp_agRow {ι : Type} [Fintype ι] [DecidableEq ι] (a : Fin 4) (e : ι → Fin 8) (hu : ∀ i, used a (e i) = true) (l : List ι) (hl : Finset.univ = l.toFinset) (hn : l.Nodup) (v : ι → ℕ) (hv : l.map v = List.range' 0 l.length)
    (o : ι → Fin 2 → Nat) (ho : ∀ i, InbR (o i)) (hw : ∀ i, WordsR (o i) (ho i)) {Q : PUnit → sProp 𝕄} (k : PB F) :
    iprop(Inv I K ∗ OW d 62 ∗ bigSep Finset.univ fun i => iprop(crd d (some (2, a, e i)) ∗ at_ d (some (2, a, e i))))
      ⊢ iprop(((OW d 62 ∗ bigSep Finset.univ fun i => iprop(Gt I d (ls a (e i).val) a (e i).val ∗ semVal (cell d (some (2, a, e i))) 0)) -∗ WP d k Q) -∗ WP d (seqK (fun i => agDoneK a (e i) (o i) (ho i) (hw i)) l k) Q) := by
  rw [hl, ← sepL_eq _ l hn, ← sepL_eq _ l hn]
  iintro ⟨#HI, HO, HP⟩ Hk
  iapply (wp_seqK d (fun i => agDoneK a (e i) (o i) (ho i) (hw i)) v (fun _ => iprop(Inv I K ∗ OW d 62)) (fun i => iprop(crd d (some (2, a, e i)) ∗ at_ d (some (2, a, e i))))
    (fun i => iprop(Gt I d (ls a (e i).val) a (e i).val ∗ semVal (cell d (some (2, a, e i))) 0)) ?_ l 0 hv) $$ [HO HP]
  · intro i k
    unfold Inv
    iintro ⟨⟨⟨#HR, #HL⟩, HO⟩, Hc, Hat⟩ Hk
    iapply (wp_agDone (prt I) K d a (e i) (hu i)) $$ [HO Hc Hat]
    · isplitr; · iexact HR
      isplitr; · iexact HL
      isplitl [Hc]; · iexact Hc
      isplitl [Hat]; · iexact Hat
      iexact HO
    iintro ⟨Hg, Hz, HO⟩
    iapply Hk
    isplitl [HO]
    · isplitr
      · isplitr; · iexact HR
        iexact HL
      iexact HO
    isplitl [Hg]; · unfold Gt; iexact Hg
    iexact Hz
  · isplitl [HO]
    · isplitr; · iexact HI
      iexact HO
    iexact HP
  iintro ⟨⟨-, HO⟩, HZ⟩
  iapply Hk
  isplitl [HO]; · iexact HO
  iexact HZ

/-- Which transfers this chain makes. -/
theorem us0 : ∀ h : Fin 8, used 0 h = true := by decide
/-- Which transfers this chain makes. -/
theorem us1 : ∀ h : Fin 7, used 1 h.castSucc = true := by decide
/-- Which transfers this chain makes. -/
theorem us2 : ∀ h : Fin 8, used 2 h = true := by decide
/-- Which transfers this chain makes. -/
theorem us3 : ∀ h : Fin 7, used 3 h.castSucc = true := by decide

/-- The waits for the reduction's sources. -/
theorem wp_rsTail {Q : PUnit → sProp 𝕄} (k : PB F) :
    iprop(Inv I K ∗ OW d 62 ∗ fam fun a h => iprop(crd d (some (0, a, h)) ∗ at_ d (some (0, a, h))))
      ⊢ iprop(((OW d 62 ∗ fam fun a h => semVal (cell d (some (0, a, h))) 0) -∗ WP d k Q) -∗ WP d (rsTailK d k) Q) := by
  unfold fam rsTailK
  iintro ⟨#HI, HO, P0, P1, P2, P3⟩ Hk
  iapply (wp_rsRow I K d 0 (fun h => h) us0 [0, 1, 2, 3, 4, 5, 6, 7] (by decide) (by decide) Fin.val (by decide)
    (fun h => k0_off4 d 9#32 (.ofNat 32 h.val)) (fun h => k0_off4_inb d 1 h) (fun h => k0_off4_wordsbf16 d 1 h)) $$ [HO P0]
  · isplitr; · iexact HI
    isplitl [HO]; · iexact HO
    iexact P0
  iintro ⟨HO, Z0⟩
  iapply (wp_rsRow I K d 1 (fun h : Fin 7 => h.castSucc) us1 [0, 1, 2, 3, 4, 5, 6] (by decide) (by decide) Fin.val (by decide)
    (fun h : Fin 7 => k0_off9 d (.ofNat 32 h.val)) (fun h => k0_off9_inb d h) (fun h => k0_off9_wordsbf16 d h)) $$ [HO P1]
  · isplitr; · iexact HI
    isplitl [HO]; · iexact HO
    iexact P1
  iintro ⟨HO, Z1⟩
  iapply (wp_rsRow I K d 2 (fun h => h) us2 [0, 1, 2, 3, 4, 5, 6, 7] (by decide) (by decide) Fin.val (by decide)
    (fun h => k0_off8 d (.ofNat 32 h.val)) (fun h => k0_off8_inb d h) (fun h => k0_off8_wordsbf16 d h)) $$ [HO P2]
  · isplitr; · iexact HI
    isplitl [HO]; · iexact HO
    iexact P2
  iintro ⟨HO, Z2⟩
  iapply (wp_rsRow I K d 3 (fun h : Fin 7 => h.castSucc) us3 [0, 1, 2, 3, 4, 5, 6] (by decide) (by decide) Fin.val (by decide)
    (fun h : Fin 7 => k0_off10 d (.ofNat 32 h.val)) (fun h => k0_off10_inb d h) (fun h => k0_off10_wordsbf16 d h)) $$ [HO P3]
  · isplitr; · iexact HI
    isplitl [HO]; · iexact HO
    iexact P3
  iintro ⟨HO, Z3⟩
  iapply Hk
  isplitl [HO]; · iexact HO
  isplitl [Z0]; · iexact Z0
  isplitl [Z1]; · iexact Z1
  isplitl [Z2]; · iexact Z2
  iexact Z3

/-- The waits for the gather's sources. -/
theorem wp_agTail {Q : PUnit → sProp 𝕄} (k : PB F) :
    iprop(Inv I K ∗ OW d 62 ∗ fam fun a h => iprop(crd d (some (2, a, h)) ∗ at_ d (some (2, a, h))))
      ⊢ iprop(((OW d 62 ∗ fam fun a h => iprop(Gt I d (ls a h.val) a h.val ∗ semVal (cell d (some (2, a, h))) 0)) -∗ WP d k Q) -∗ WP d (agTailK d k) Q) := by
  unfold fam agTailK
  iintro ⟨#HI, HO, P0, P1, P2, P3⟩ Hk
  iapply (wp_agRow I K d 0 (fun h => h) us0 [0, 1, 2, 3, 4, 5, 6, 7] (by decide) (by decide) Fin.val (by decide)
    (fun h => k0_off4 d 1#32 (.ofNat 32 h.val)) (fun h => k0_off4_inb d 0 h) (fun h => k0_off4_wordsbf16 d 0 h)) $$ [HO P0]
  · isplitr; · iexact HI
    isplitl [HO]; · iexact HO
    iexact P0
  iintro ⟨HO, Z0⟩
  iapply (wp_agRow I K d 1 (fun h : Fin 7 => h.castSucc) us1 [0, 1, 2, 3, 4, 5, 6] (by decide) (by decide) Fin.val (by decide)
    (fun h : Fin 7 => k0_off19 d (.ofNat 32 h.val)) (fun h => k0_off19_inb d h) (fun h => k0_off19_wordsbf16 d h)) $$ [HO P1]
  · isplitr; · iexact HI
    isplitl [HO]; · iexact HO
    iexact P1
  iintro ⟨HO, Z1⟩
  iapply (wp_agRow I K d 2 (fun h => h) us2 [0, 1, 2, 3, 4, 5, 6, 7] (by decide) (by decide) Fin.val (by decide)
    (fun h => k0_off20 d (.ofNat 32 h.val)) (fun h => k0_off20_inb d h) (fun h => k0_off20_wordsbf16 d h)) $$ [HO P2]
  · isplitr; · iexact HI
    isplitl [HO]; · iexact HO
    iexact P2
  iintro ⟨HO, Z2⟩
  iapply (wp_agRow I K d 3 (fun h : Fin 7 => h.castSucc) us3 [0, 1, 2, 3, 4, 5, 6] (by decide) (by decide) Fin.val (by decide)
    (fun h : Fin 7 => k0_off21 d (.ofNat 32 h.val)) (fun h => k0_off21_inb d h) (fun h => k0_off21_wordsbf16 d h)) $$ [HO P3]
  · isplitr; · iexact HI
    isplitl [HO]; · iexact HO
    iexact P3
  iintro ⟨HO, Z3⟩
  iapply Hk
  isplitl [HO]; · iexact HO
  isplitl [Z0]; · iexact Z0
  isplitl [Z1]; · iexact Z1
  isplitl [Z2]; · iexact Z2
  iexact Z3

end Cert.KernelIdeal.Moe

end
-- ==== Proof.Body.lean ====
/- The whole body on a symbolic device: from its buffers, positions, credits and tokens to the output. -/
module

public import proofs.«01_k».proof.Proof.Families

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Kd → ℕ) (d : Dev nD)

/-! ## The landing slots -/

/-- The slots the four chains write, two chains per neighbour. -/
theorem slots_eq (n : Fin 4 → Dev nD) :
    iprop((bigSep Finset.univ fun h : Fin 8 => iprop(Cu (n 0) 0 h ∗ Cu (n 3) 3 h)) ∗ bigSep Finset.univ fun h : Fin 8 => iprop(Cu (n 1) 1 h ∗ Cu (n 2) 2 h))
      = (fam (fun a h => Ca (n a) a h) : sProp 𝕄) := by
  have e := fam_used (F := F) (fun a h => Ca (n a) a h) (fun _ _ => iprop(emp))
  rw [bigSep_univ_prod (fun x : Fin 4 × Fin 8 => if used x.1 x.2 = true then Ca (n x.1) x.1 x.2 else iprop(emp)), fin4] at e
  have e2 : iprop(fam (fun a h => Ca (n a) a h) ∗ emp ∗ emp) = (fam (fun a h => Ca (n a) a h) : sProp 𝕄) := by
    rw [show iprop(emp ∗ emp) = (iprop(emp) : sProp 𝕄) from equiv_iff.mp BI.sep_emp]; exact equiv_iff.mp BI.sep_emp
  rw [← e2, ← e, bigSep_sep', bigSep_sep']
  show iprop(((bigSep Finset.univ fun h : Fin 8 => Cu (n 0) 0 h) ∗ bigSep Finset.univ fun h : Fin 8 => Cu (n 3) 3 h) ∗ (bigSep Finset.univ fun h : Fin 8 => Cu (n 1) 1 h) ∗ bigSep Finset.univ fun h : Fin 8 => Cu (n 2) 2 h)
    = iprop((bigSep Finset.univ fun h : Fin 8 => Cu (n 0) 0 h) ∗ (bigSep Finset.univ fun h : Fin 8 => Cu (n 1) 1 h) ∗ (bigSep Finset.univ fun h : Fin 8 => Cu (n 2) 2 h) ∗ bigSep Finset.univ fun h : Fin 8 => Cu (n 3) 3 h)
  ac_rfl

/-! ## The ring buffer -/

/-- The half chunks that the reduction's steps fill are all different. -/
theorem rk_inj : ∀ (d : Dev nD) (x y : Fin 4 × Fin 8), (ck x.1 x.2.val d, hf x.1) = (ck y.1 y.2.val d, hf y.1) → x = y := by decide +kernel
/-- The four chains of the reduction name every half chunk once. -/
def rkE (d : Dev nD) : Fin 4 × Fin 8 ≃ Fin 16 × Fin 2 :=
  Equiv.ofBijective (fun x => (ck x.1 x.2.val d, hf x.1)) ((Fintype.bijective_iff_injective_and_card _).mpr ⟨fun x y => rk_inj d x y, by simp⟩)

/-- The ring buffer by the steps that fill it. -/
theorem ring_fam : (bigSep Finset.univ fun x : Fin 16 × Fin 2 => Ra d x.1 x.2) = (iprop(fam (fun a h => Rk d a h.val) ∗ Rk d 1 7 ∗ Rk d 3 7) : sProp 𝕄) := by
  rw [bigSep_univ_equiv (rkE d)]
  exact fam_univ (fun a h => Rk d a h.val)

/-- The chain and step at which a gathered half chunk is held. -/
def gi (a : Fin 4) (h : Fin 8) : Fin 4 × ℕ :=
  if a = 0 ∨ a = 2 then (a, h.val) else if h.val < 7 then (a, h.val + 1) else (ev a, 8)
/-- The half chunks that the gather's steps bring are all different. -/
theorem gi_inj : ∀ (d : Dev nD) (x y : Fin 4 × Fin 8),
    (ag (gi x.1 x.2).1 (gi x.1 x.2).2 d, hf (gi x.1 x.2).1) = (ag (gi y.1 y.2).1 (gi y.1 y.2).2 d, hf (gi y.1 y.2).1) → x = y := by decide +kernel
/-- The gathered half chunks are all of them. -/
def giE (d : Dev nD) : Fin 4 × Fin 8 ≃ Fin 16 × Fin 2 :=
  Equiv.ofBijective (fun x => (ag (gi x.1 x.2).1 (gi x.1 x.2).2 d, hf (gi x.1 x.2).1)) ((Fintype.bijective_iff_injective_and_card _).mpr ⟨fun x y => gi_inj d x y, by simp⟩)

/-- Two shares of a gathered half chunk are one share. -/
theorem Gt_join (q : PosShare TreeShare) (a : Fin 4) (h : ℕ) : iprop(Gt I d q.left a h ∗ Gt I d q.right a h) ⊢ (Gt I d q a h : sProp 𝕄) := by
  unfold Gt Rg
  exact (owns_halves (d : Thread nD τ) (ringV (cko (ag a h d) (hf a)) (cko_inb _ _)) q _).2

/-- The quarters of the own half chunks, together again. -/
theorem own_join :
    iprop(Gt I d (ls 0 0) 0 0 ∗ Gt I d (ls 1 0) 1 0 ∗ Gt I d (ls 2 0) 2 0 ∗ Gt I d (ls 3 0) 3 0)
      ⊢ (iprop(Gt I d fullShare.left 0 0 ∗ Gt I d fullShare.left 2 0) : sProp 𝕄) := by
  iintro ⟨L0, L1, L2, L3⟩
  ihave L1 := (Entails.of_eq (show (Gt I d (ls 1 0) 1 0 : sProp 𝕄) = Gt I d fullShare.left.right 0 0 from by unfold Gt; rw [ag_one]; rfl)) $$ L1
  ihave L3 := (Entails.of_eq (show (Gt I d (ls 3 0) 3 0 : sProp 𝕄) = Gt I d fullShare.left.right 2 0 from by unfold Gt; rw [ag_three]; rfl)) $$ L3
  ihave L0 := (Entails.of_eq (show (Gt I d (ls 0 0) 0 0 : sProp 𝕄) = Gt I d fullShare.left.left 0 0 from rfl)) $$ L0
  ihave L2 := (Entails.of_eq (show (Gt I d (ls 2 0) 2 0 : sProp 𝕄) = Gt I d fullShare.left.left 2 0 from rfl)) $$ L2
  isplitl [L0 L1]
  · iapply (Gt_join I d fullShare.left 0 0); isplitl [L0]; · iexact L0
    iexact L1
  · iapply (Gt_join I d fullShare.left 2 0); isplitl [L2]; · iexact L2
    iexact L3

/-- A family over eight steps, its first apart. -/
theorem fin8_succ (Φ : Fin 8 → sProp 𝕄) : bigSep Finset.univ Φ = iprop(Φ 0 ∗ bigSep Finset.univ fun h : Fin 7 => Φ h.succ) := by
  rw [fin8, fin7]; rfl

/-- A share of what the gather moves. -/
def Mid (q : PosShare TreeShare) : sProp 𝕄 :=
  iprop((bigSep Finset.univ fun h : Fin 7 => Gt I d q 0 (h.val + 1)) ∗ (bigSep Finset.univ fun h : Fin 7 => Gt I d q 1 (h.val + 1))
    ∗ (bigSep Finset.univ fun h : Fin 7 => Gt I d q 2 (h.val + 1)) ∗ (bigSep Finset.univ fun h : Fin 7 => Gt I d q 3 (h.val + 1)))
/-- A share of every half chunk. -/
def Both (q : PosShare TreeShare) : sProp 𝕄 := bigSep Finset.univ fun x : Fin 4 × Fin 8 => Gt I d q (gi x.1 x.2).1 (gi x.1 x.2).2

/-- The gathered halves of all chunks, by chains. -/
theorem Both_eq (q : PosShare TreeShare) : (Both I d q : sProp 𝕄)
    = iprop((Gt I d q 0 0 ∗ Gt I d q 2 0) ∗ Mid I d q ∗ Gt I d q 0 8 ∗ Gt I d q 2 8) := by
  unfold Both
  rw [fam_univ (fun a h => Gt I d q (gi a h).1 (gi a h).2)]
  unfold fam Mid
  rw [fin8_succ (fun h => Gt I d q (gi 0 h).1 (gi 0 h).2), fin8_succ (fun h => Gt I d q (gi 2 h).1 (gi 2 h).2)]
  have e0 : (bigSep Finset.univ fun h : Fin 7 => (Gt I d q (gi 0 h.succ).1 (gi 0 h.succ).2 : sProp 𝕄)) = bigSep Finset.univ fun h : Fin 7 => Gt I d q 0 (h.val + 1) := by rw [fin7, fin7]; rfl
  have e1 : (bigSep Finset.univ fun h : Fin 7 => (Gt I d q (gi 1 h.castSucc).1 (gi 1 h.castSucc).2 : sProp 𝕄)) = bigSep Finset.univ fun h : Fin 7 => Gt I d q 1 (h.val + 1) := by rw [fin7, fin7]; rfl
  have e2 : (bigSep Finset.univ fun h : Fin 7 => (Gt I d q (gi 2 h.succ).1 (gi 2 h.succ).2 : sProp 𝕄)) = bigSep Finset.univ fun h : Fin 7 => Gt I d q 2 (h.val + 1) := by rw [fin7, fin7]; rfl
  have e3 : (bigSep Finset.univ fun h : Fin 7 => (Gt I d q (gi 3 h.castSucc).1 (gi 3 h.castSucc).2 : sProp 𝕄)) = bigSep Finset.univ fun h : Fin 7 => Gt I d q 3 (h.val + 1) := by rw [fin7, fin7]; rfl
  rw [e0, e1, e2, e3]
  generalize (bigSep Finset.univ fun h : Fin 7 => (Gt I d q 0 (h.val + 1) : sProp 𝕄)) = A0
  generalize (bigSep Finset.univ fun h : Fin 7 => (Gt I d q 1 (h.val + 1) : sProp 𝕄)) = A1
  generalize (bigSep Finset.univ fun h : Fin 7 => (Gt I d q 2 (h.val + 1) : sProp 𝕄)) = A2
  generalize (bigSep Finset.univ fun h : Fin 7 => (Gt I d q 3 (h.val + 1) : sProp 𝕄)) = A3
  show iprop(((Gt I d q 0 0 ∗ A0) ∗ A1 ∗ (Gt I d q 2 0 ∗ A2) ∗ A3) ∗ Gt I d q 0 8 ∗ Gt I d q 2 8)
    = iprop((Gt I d q 0 0 ∗ Gt I d q 2 0) ∗ (A0 ∗ A1 ∗ A2 ∗ A3) ∗ Gt I d q 0 8 ∗ Gt I d q 2 8)
  ac_rfl

/-- What the rounds between the first and the last bring. -/
theorem Rs_mid : (iprop(Rs I d 1 ∗ Rs I d 2 ∗ Rs I d 3 ∗ Rs I d 4 ∗ Rs I d 5 ∗ Rs I d 6 ∗ Rs I d 7) : sProp 𝕄) = Mid I d fullShare.right := by
  have e : (iprop(Rs I d 1 ∗ Rs I d 2 ∗ Rs I d 3 ∗ Rs I d 4 ∗ Rs I d 5 ∗ Rs I d 6 ∗ Rs I d 7) : sProp 𝕄) = bigSep Finset.univ fun h : Fin 7 => Rs I d (h.val + 1) :=
    (fin7 (fun h : Fin 7 => Rs I d (h.val + 1))).symm
  rw [e, bigSep_sep', bigSep_sep', bigSep_sep']; rfl

/-- What the gather lent, with the last shares. -/
theorem lent_mid :
    (iprop((fam fun a h => Gt I d (ls a h.val) a h.val) ∗ Gt I d fullShare.left 1 7 ∗ Gt I d fullShare.left 3 7) : sProp 𝕄)
      = iprop((Gt I d (ls 0 0) 0 0 ∗ Gt I d (ls 1 0) 1 0 ∗ Gt I d (ls 2 0) 2 0 ∗ Gt I d (ls 3 0) 3 0) ∗ Mid I d fullShare.left) := by
  unfold fam Mid
  rw [fin8_succ (fun h => Gt I d (ls 0 h.val) 0 h.val), fin8_succ (fun h => Gt I d (ls 2 h.val) 2 h.val), fin7_front (fun h => Gt I d (ls 1 h.val) 1 h.val), fin7_front (fun h => Gt I d (ls 3 h.val) 3 h.val)]
  have e0 : (bigSep Finset.univ fun h : Fin 7 => (Gt I d (ls 0 h.succ.val) 0 h.succ.val : sProp 𝕄)) = bigSep Finset.univ fun h : Fin 7 => Gt I d fullShare.left 0 (h.val + 1) := by rw [fin7, fin7]; rfl
  have e2 : (bigSep Finset.univ fun h : Fin 7 => (Gt I d (ls 2 h.succ.val) 2 h.succ.val : sProp 𝕄)) = bigSep Finset.univ fun h : Fin 7 => Gt I d fullShare.left 2 (h.val + 1) := by rw [fin7, fin7]; rfl
  have e1 : (bigSep Finset.univ fun h : Fin 7 => (Gt I d fullShare.left 1 (h.val + 1) : sProp 𝕄)) = iprop((bigSep Finset.univ fun h : Fin 6 => Gt I d (ls 1 h.succ.castSucc.val) 1 h.succ.castSucc.val) ∗ Gt I d fullShare.left 1 7) := by
    rw [fin7, fin6]
    show iprop(Gt I d fullShare.left 1 1 ∗ Gt I d fullShare.left 1 2 ∗ Gt I d fullShare.left 1 3 ∗ Gt I d fullShare.left 1 4 ∗ Gt I d fullShare.left 1 5 ∗ Gt I d fullShare.left 1 6 ∗ Gt I d fullShare.left 1 7)
      = iprop((Gt I d fullShare.left 1 1 ∗ Gt I d fullShare.left 1 2 ∗ Gt I d fullShare.left 1 3 ∗ Gt I d fullShare.left 1 4 ∗ Gt I d fullShare.left 1 5 ∗ Gt I d fullShare.left 1 6) ∗ Gt I d fullShare.left 1 7)
    ac_rfl
  have e3 : (bigSep Finset.univ fun h : Fin 7 => (Gt I d fullShare.left 3 (h.val + 1) : sProp 𝕄)) = iprop((bigSep Finset.univ fun h : Fin 6 => Gt I d (ls 3 h.succ.castSucc.val) 3 h.succ.castSucc.val) ∗ Gt I d fullShare.left 3 7) := by
    rw [fin7, fin6]
    show iprop(Gt I d fullShare.left 3 1 ∗ Gt I d fullShare.left 3 2 ∗ Gt I d fullShare.left 3 3 ∗ Gt I d fullShare.left 3 4 ∗ Gt I d fullShare.left 3 5 ∗ Gt I d fullShare.left 3 6 ∗ Gt I d fullShare.left 3 7)
      = iprop((Gt I d fullShare.left 3 1 ∗ Gt I d fullShare.left 3 2 ∗ Gt I d fullShare.left 3 3 ∗ Gt I d fullShare.left 3 4 ∗ Gt I d fullShare.left 3 5 ∗ Gt I d fullShare.left 3 6) ∗ Gt I d fullShare.left 3 7)
    ac_rfl
  rw [e0, e1, e2, e3]
  generalize (bigSep Finset.univ fun h : Fin 7 => (Gt I d fullShare.left 0 (h.val + 1) : sProp 𝕄)) = A0
  generalize (bigSep Finset.univ fun h : Fin 7 => (Gt I d fullShare.left 2 (h.val + 1) : sProp 𝕄)) = A2
  generalize (bigSep Finset.univ fun h : Fin 6 => (Gt I d (ls 1 h.succ.castSucc.val) 1 h.succ.castSucc.val : sProp 𝕄)) = A1
  generalize (bigSep Finset.univ fun h : Fin 6 => (Gt I d (ls 3 h.succ.castSucc.val) 3 h.succ.castSucc.val : sProp 𝕄)) = A3
  show iprop(((Gt I d (ls 0 0) 0 0 ∗ A0) ∗ (Gt I d (ls 1 0) 1 0 ∗ A1) ∗ (Gt I d (ls 2 0) 2 0 ∗ A2) ∗ (Gt I d (ls 3 0) 3 0 ∗ A3)) ∗ Gt I d fullShare.left 1 7 ∗ Gt I d fullShare.left 3 7) = _
  ac_rfl

/-- All shares of all half chunks are the ring buffer. -/
theorem kept_ring :
    iprop(Kept I d ∗ (fam fun a h => Gt I d (ls a h.val) a h.val)) ⊢ (bigSep Finset.univ fun x : Fin 16 × Fin 2 => Ra d x.1 x.2 : sProp 𝕄) := by
  unfold Kept
  rw [Rs_mid, bigSep_univ_equiv (giE d)]
  have hj : iprop(Both I d fullShare.left ∗ Both I d fullShare.right) ⊢ (bigSep Finset.univ fun x : Fin 4 × Fin 8 => Ra d (giE d x).1 (giE d x).2 : sProp 𝕄) := by
    unfold Both
    rw [← bigSep_sep']
    refine bigSep_mono fun x _ => (Gt_join I d fullShare (gi x.1 x.2).1 (gi x.1 x.2).2).trans ?_
    show (Rg d (ag (gi x.1 x.2).1 (gi x.1 x.2).2 d) (hf (gi x.1 x.2).1) fullShare _ : sProp 𝕄) ⊢ Ra d (ag (gi x.1 x.2).1 (gi x.1 x.2).2 d) (hf (gi x.1 x.2).1)
    unfold Ra
    iintro H; iexists _; iexact H
  refine .trans ?_ hj
  rw [Both_eq, Both_eq]
  iintro ⟨⟨R0, R, R8, L17, L37, L8⟩, HF⟩
  ihave HM := (Entails.of_eq (lent_mid I d)) $$ [HF L17 L37]
  · isplitl [HF]; · iexact HF
    isplitl [L17]; · iexact L17
    iexact L37
  icases HM with ⟨H4, HM⟩
  ihave H4 := (own_join I d) $$ H4
  isplitl [H4 HM L8]
  · isplitl [H4]; · iexact H4
    isplitl [HM]; · iexact HM
    iexact L8
  · isplitl [R0]; · iexact R0
    isplitl [R]; · iexact R
    iexact R8

/-! ## The semaphores no chain uses -/

/-- A cell without duties closes. -/
theorem close_cell (k : Kd) (hk : dut k = ∅) : iprop(Inv I K ∗ at_ d k) ⊢ (|={Set.univ}=> semVal (cell d k) 0 : sProp 𝕄) := by
  unfold Inv
  iintro ⟨⟨#HR, -⟩, Hat⟩
  iapply (Rounds.cell_close ER (Rd (prt I)) (Set.mem_univ (K (d, k))) (fun h => h) (R := 0) (fun r _ => by
    rcases Nat.eq_zero_or_pos r with rfl | hr
    · rw [duties_cell, hk]
    · exact duties_later (prt I) (cell d k) r hr))
  isplitr; · iapply (inv_at (prt I) K d k); iexact HR
  iexact Hat

/-- A device's semaphores of one purpose, the used and the unused ones. -/
theorem sems_eq (Φ : Fin 4 × Fin 4 × Fin 8 → sProp 𝕄) : bigSep Finset.univ Φ
    = iprop((fam (fun a h => Φ (0, a, h)) ∗ Φ (0, 1, 7) ∗ Φ (0, 3, 7)) ∗ (fam (fun a h => Φ (1, a, h)) ∗ Φ (1, 1, 7) ∗ Φ (1, 3, 7))
      ∗ (fam (fun a h => Φ (2, a, h)) ∗ Φ (2, 1, 7) ∗ Φ (2, 3, 7)) ∗ (fam (fun a h => Φ (3, a, h)) ∗ Φ (3, 1, 7) ∗ Φ (3, 3, 7))) := by
  rw [bigSep_univ_prod Φ, fin4]
  rw [fam_univ (fun a h => Φ (0, a, h)), fam_univ (fun a h => Φ (1, a, h)), fam_univ (fun a h => Φ (2, a, h)), fam_univ (fun a h => Φ (3, a, h))]

/-! ## The body -/

/-- What the launch leaves device `d`: the records, what it owes, its tokens, credits and positions. -/
def Begin : sProp 𝕄 :=
  iprop(Inv I K
    ∗ (tok (lf d) none true ∗ tok (rt d) none false ∗ cred (tallyAt (cell d none) () 2) ∗ at_ d none)
    ∗ (bigSep Finset.univ fun x : Fin 4 × Fin 4 × Fin 8 => at_ d (some x))
    ∗ (fam (fun a h => crd d (some (1, a, h))) ∗ fam (fun a h => crd d (some (3, a, h))))
    ∗ (fam (fun a h => tok d (some (0, a, h)) false) ∗ fam (fun a h => tok (nb a d) (some (1, a, h)) false)
      ∗ fam (fun a h => tok d (some (2, a, h)) false) ∗ fam (fun a h => tok (nb a d) (some (3, a, h)) false)))
/-- The body's scratch buffers, at some contents. -/
def Scr : sProp 𝕄 := iprop((∃ f, At d rgM f) ∗ (∃ f, At d cmM f) ∗ (∃ f : Vec F S2048x1 .f32, At d cfM f))
/-- The inputs in their buffers. -/
def Inp (i : Ins F) : sProp 𝕄 := iprop(At d xM i.x ∗ At d rwM i.rw ∗ At d riM i.ri ∗ At d ewM i.ew ∗ At d swM i.sw)
/-- The result on device `d`. -/
def fin : Vec F S2048x1024 .f32 := outC (outB (fv (prt I)) (I d))
/-- What the body ends with. -/
def End : sProp 𝕄 :=
  iprop(Inp d (I d) ∗ At d outM (fin I d) ∗ Scr d ∗ (bigSep Finset.univ fun x : Fin 4 × Fin 4 × Fin 8 => semVal (cell d (some x)) 0)
    ∗ semVal (cell d none) 0 ∗ ∃ W : Waits sig Unit, owes (d : Thread nD τ) 0 W)

/-- At the end nothing is owed. -/
theorem OW_end : OW d 62 ⊢ (iprop(∃ W : Waits sig Unit, owes (d : Thread nD τ) 0 W) : sProp 𝕄) := by
  unfold OW; rw [Oat_62]

/-- A program that has returned. -/
theorem wp_done {Q : PUnit → sProp 𝕄} : Q ⟨⟩ ⊢ WP d (.ret ⟨⟩) Q := by
  show Q ⟨⟩ ⊢ wp frame (wpE (defs₀ (F := F)) 𝒱₀ (d : Thread nD τ) none) Set.univ (.ret ⟨⟩) Q
  rw [wp_ret]; iintro H; imodintro; iexact H

/-- The output before any chunk is written. -/
theorem Out_start (oB : Fin 16 → Vec F S128x1024 .f32) (f : Buf (Elt F) (outM.view.loc (d : Thread nD τ))) : (At d outM f : sProp 𝕄) ⊢ Out d oB ∅ := by
  unfold Out
  iintro H; iexists f; isplitr
  · ipureintro; exact fun c hc => absurd hc (Finset.notMem_empty c)
  · iexact H

set_option maxHeartbeats 1000000 in
/-- The body. -/
theorem wp_body {Q : PUnit → sProp 𝕄} :
    iprop(Begin I K d ∗ (∃ W : Waits sig Unit, owes (d : Thread nD τ) (O₀ d) W) ∗ Scr d ∗ Inp d (I d) ∗ (∃ f, At d outM f))
      ⊢ iprop((End I d -∗ Q ⟨⟩) -∗ WP d body Q) := by
  unfold body Begin Scr Inp
  simp only [wp_deviceId]
  rw [sems_eq (fun x => at_ d (some x))]
  iintro ⟨⟨#HI, ⟨HtL, HtR, Hcb, Hab⟩, ⟨⟨A0, A017, A037⟩, ⟨A1, A117, A137⟩, ⟨A2, A217, A237⟩, A3, A317, A337⟩, ⟨C1, C3⟩, T0, T1, T2, T3⟩, HO, ⟨⟨%fr, Hrg⟩, ⟨%fc, Hcm⟩, Hcf⟩, ⟨Hx, Hrw, Hri, Hew, Hsw⟩, ⟨%fo, Hout⟩⟩ Hk
  -- the buffers as blocks
  ihave Hrg := (ring_split d fr) $$ Hrg
  ihave Hrg := (Entails.of_eq (ring_fam d)) $$ Hrg
  ihave Hcm := (comm_split d fc) $$ Hcm
  ihave Hcm := (Entails.of_eq (fam_univ (fun a h => Ca d a h))) $$ Hcm
  icases Hcm with ⟨Hcm, Hc17, Hc37⟩
  ihave Hcm := (Entails.of_eq (slots_eq (fun _ => d)).symm) $$ Hcm
  icases Hcm with ⟨Hc03, Hc12⟩
  ihave Hout := (Out_start d (outB (fv (prt I)) (I d)) fo) $$ Hout
  ihave Hout := (Entails.of_eq (show (Out d (outB (fv (prt I)) (I d)) ∅ : sProp 𝕄) = OutN I d 0 from rfl)) $$ Hout
  -- the coefficients
  iapply (wp_coef d (I d)) $$ [Hx Hrw Hri Hew Hsw Hcf]
  · isplitl [Hx]; · iexact Hx
    isplitl [Hrw]; · iexact Hrw
    isplitl [Hri]; · iexact Hri
    isplitl [Hew]; · iexact Hew
    isplitl [Hsw]; · iexact Hsw
    iexact Hcf
  iintro HD
  -- the barrier
  ihave HI' := (show (Inv I K : sProp 𝕄) ⊢ iprop(records (prt I) K ∗ levAts L lv) from Entails.of_eq rfl) $$ HI
  icases HI' with ⟨#HR, #HL⟩
  iapply (wp_bar (prt I) K d) $$ [HO HtL HtR Hcb Hab Hc03 Hc12]
  · isplitr; · iexact HR
    isplitr; · iexact HL
    isplitl [HO]; · iexact HO
    isplitl [HtL]; · iexact HtL
    isplitl [HtR]; · iexact HtR
    isplitl [Hcb]; · iexact Hcb
    isplitl [Hab]; · iexact Hab
    isplitl [Hc03]; · iexact Hc03
    iexact Hc12
  iintro ⟨Hn03, Hn12, Hzb, HO⟩
  ihave Hn := (Entails.of_eq (slots_eq (fun a => nb a d))) $$ [Hn03 Hn12]
  · isplitl [Hn03]; · iexact Hn03
    iexact Hn12
  -- the reduction
  ihave HU := (show iprop(fam (fun a h => Ca (nb a d) a h) ∗ fam (fun a h => tok d (some (0, a, h)) false) ∗ fam (fun a h => tok (nb a d) (some (1, a, h)) false)) ⊢ (fam (US d) : sProp 𝕄) from
    Entails.of_eq (by rw [← fam_sep, ← fam_sep]; rfl)) $$ [Hn T0 T1]
  · isplitl [Hn]; · iexact Hn
    isplitl [T0]; · iexact T0
    iexact T1
  ihave HW := (show iprop(fam (fun a h => crd d (some (1, a, h))) ∗ fam (fun a h => at_ d (some (1, a, h)))) ⊢ (fam (RW d) : sProp 𝕄) from
    Entails.of_eq (by rw [← fam_sep]; rfl)) $$ [C1 A1]
  · isplitl [C1]; · iexact C1
    iexact A1
  unfold mainK
  iapply (wp_reduce I K d) $$ [HD HO HW Hrg HU]
  · isplitr; · iexact HI
    isplitl [HD]; · iexact HD
    isplitl [HO]; · iexact HO
    isplitl [HW]; · iexact HW
    isplitl [Hrg]; · iexact Hrg
    iexact HU
  iintro ⟨HD, HO, C0, HZ1, HLf, HG⟩
  -- the gather
  ihave HLf := (Entails.of_eq (Left_eq d)) $$ HLf
  ihave HU := (show iprop(fam (fun a h => AD d a h.val) ∗ fam (fun a h => tok d (some (2, a, h)) false) ∗ fam (fun a h => tok (nb a d) (some (3, a, h)) false)) ⊢ (fam (AU d) : sProp 𝕄) from
    Entails.of_eq (by rw [← fam_sep, ← fam_sep]; rfl)) $$ [HLf T2 T3]
  · isplitl [HLf]; · iexact HLf
    isplitl [T2]; · iexact T2
    iexact T3
  ihave HW := (show iprop(fam (fun a h => crd d (some (3, a, h))) ∗ fam (fun a h => at_ d (some (3, a, h)))) ⊢ (fam (GW d) : sProp 𝕄) from
    Entails.of_eq (by rw [← fam_sep]; rfl)) $$ [C3 A3]
  · isplitl [C3]; · iexact C3
    iexact A3
  iapply (wp_gatherAll I K d) $$ [HG HU HW HD Hout HO]
  · isplitr; · iexact HI
    isplitl [HG]; · iexact HG
    isplitl [HU]; · iexact HU
    isplitl [HW]; · iexact HW
    isplitl [HD]; · iexact HD
    isplitl [Hout]; · iexact Hout
    iexact HO
  iintro ⟨C2, HZ3, HKp, HD, Hout, HO⟩
  -- the waits for the sources
  ihave HP := (Entails.of_eq (fam_sep (fun a h => crd d (some (0, a, h))) (fun a h => at_ d (some (0, a, h)))).symm) $$ [C0 A0]
  · isplitl [C0]; · iexact C0
    iexact A0
  iapply (wp_rsTail I K d) $$ [HO HP]
  · isplitr; · iexact HI
    isplitl [HO]; · iexact HO
    iexact HP
  iintro ⟨HO, HZ0⟩
  ihave HP := (Entails.of_eq (fam_sep (fun a h => crd d (some (2, a, h))) (fun a h => at_ d (some (2, a, h)))).symm) $$ [C2 A2]
  · isplitl [C2]; · iexact C2
    iexact A2
  iapply (wp_agTail I K d) $$ [HO HP]
  · isplitr; · iexact HI
    isplitl [HO]; · iexact HO
    iexact HP
  iintro ⟨HO, HT⟩
  ihave HT := (Entails.of_eq (fam_sep (fun a h => Gt I d (ls a h.val) a h.val) (fun a h => semVal (cell d (some (2, a, h))) 0))) $$ HT
  icases HT with ⟨HGt, HZ2⟩
  ihave HZ1 := (show (fam (RZ d) : sProp 𝕄) ⊢ iprop(fam (fun a h => semVal (cell d (some (1, a, h))) 0) ∗ fam (fun a h => Ca d a h)) from Entails.of_eq (by rw [← fam_sep]; rfl)) $$ HZ1
  icases HZ1 with ⟨HZ1, Hcm⟩
  -- the unused cells close
  imod (close_cell I K d (some (0, 1, 7)) rfl) $$ [A017] with Z017
  · isplitr; · iexact HI
    iexact A017
  imod (close_cell I K d (some (0, 3, 7)) rfl) $$ [A037] with Z037
  · isplitr; · iexact HI
    iexact A037
  imod (close_cell I K d (some (1, 1, 7)) rfl) $$ [A117] with Z117
  · isplitr; · iexact HI
    iexact A117
  imod (close_cell I K d (some (1, 3, 7)) rfl) $$ [A137] with Z137
  · isplitr; · iexact HI
    iexact A137
  imod (close_cell I K d (some (2, 1, 7)) rfl) $$ [A217] with Z217
  · isplitr; · iexact HI
    iexact A217
  imod (close_cell I K d (some (2, 3, 7)) rfl) $$ [A237] with Z237
  · isplitr; · iexact HI
    iexact A237
  imod (close_cell I K d (some (3, 1, 7)) rfl) $$ [A317] with Z317
  · isplitr; · iexact HI
    iexact A317
  imod (close_cell I K d (some (3, 3, 7)) rfl) $$ [A337] with Z337
  · isplitr; · iexact HI
    iexact A337
  -- the buffers whole again
  ihave Hrg := (kept_ring I d) $$ [HKp HGt]
  · isplitl [HKp]; · iexact HKp
    iexact HGt
  ihave Hrg := (ring_join d) $$ Hrg
  ihave Hcm := (Entails.of_eq (fam_univ (fun a h => Ca d a h)).symm) $$ [Hcm Hc17 Hc37]
  · isplitl [Hcm]; · iexact Hcm
    isplitl [Hc17]; · iexact Hc17
    iexact Hc37
  ihave Hcm := (comm_join d) $$ Hcm
  ihave Hout := (Entails.of_eq (show (OutN I d 16 : sProp 𝕄) = Out d (outB (fv (prt I)) (I d)) Finset.univ from by rw [OutN, Dn_all])) $$ Hout
  ihave Hout := (Out_all d (outB (fv (prt I)) (I d))) $$ Hout
  ihave HO := (OW_end d) $$ HO
  ihave HD := (show (Dt d (I d) : sProp 𝕄) ⊢ iprop(At d xM (I d).x ∗ At d rwM (I d).rw ∗ At d riM (I d).ri ∗ At d ewM (I d).ew ∗ At d swM (I d).sw ∗ At d cfM (I d).cf) from Entails.of_eq rfl) $$ HD
  icases HD with ⟨Hx, Hrw, Hri, Hew, Hsw, Hcf⟩
  iapply (wp_done d)
  iapply Hk
  unfold End Inp Scr fin
  rw [sems_eq (fun x => semVal (cell d (some x)) 0)]
  isplitl [Hx Hrw Hri Hew Hsw]
  · isplitl [Hx]; · iexact Hx
    isplitl [Hrw]; · iexact Hrw
    isplitl [Hri]; · iexact Hri
    isplitl [Hew]; · iexact Hew
    iexact Hsw
  isplitl [Hout]; · iexact Hout
  isplitl [Hrg Hcm Hcf]
  · isplitl [Hrg]; · iexact Hrg
    isplitl [Hcm]; · iexact Hcm
    iexists _; iexact Hcf
  isplitr [Hzb HO]
  · isplitl [HZ0 Z017 Z037]
    · isplitl [HZ0]; · iexact HZ0
      isplitl [Z017]; · iexact Z017
      iexact Z037
    isplitl [HZ1 Z117 Z137]
    · isplitl [HZ1]; · iexact HZ1
      isplitl [Z117]; · iexact Z117
      iexact Z137
    isplitl [HZ2 Z217 Z237]
    · isplitl [HZ2]; · iexact HZ2
      isplitl [Z217]; · iexact Z217
      iexact Z237
    isplitl [HZ3]; · iexact HZ3
    isplitl [Z317]; · iexact Z317
    iexact Z337
  isplitl [Hzb]; · iexact Hzb
  iexact HO

end Cert.KernelIdeal.Moe

end
-- ==== Proof.Launch.lean ====
/- The launch: what every device starts from, made for all devices at once, and the run of the whole program. -/
module

public import proofs.«01_k».proof.Proof.Body
public import proofs.«01_k».proof.Proof.Gen.KernelIdeal.Points
public import proofs.«01_k».proof.Proof.Gen.KernelIdeal.Frame

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the region -/

/-- The launch has one point. -/
theorem cfg0_N : cfg0.N = 1 := N_0
/-- The grid's one point. -/
def t₀ : Fin cfg0.N := t0_0

/-- The inputs of device `d`, as staged. -/
def ins (d : Dev nD) : Ins F where
  x := iblk m d 0 t₀
  rw := iblk m d 1 t₀
  ri := iblk m d 2 t₀
  ew := iblk m d 3 t₀
  sw := iblk m d 4 t₀

/-- What device `d`'s body starts from; -/
def start (d : Dev nD) : sProp 𝕄 := iprop(∃ K, Begin (ins m) K d)
/-- with the scratch buffers; -/
def Φ₀ (d : Dev nD) : sProp 𝕄 := iprop(start m d ∗ Scr d)
/-- and what it leaves. -/
def Φ₁ (d : Dev nD) : sProp 𝕄 :=
  iprop(Scr d ∗ (bigSep Finset.univ fun x : Fin 4 × Fin 4 × Fin 8 => semVal (cell d (some x)) 0) ∗ semVal (cell d none) 0)

/-- The region's arrays, blocks and what it owes. -/
def dats (_ : Fin 1) (d : Dev nD) : Dat τ (Elt F) Unit ℕ UU ℕ cfg0 d where
  A w := m ((cfg0.win w).arr.view.loc (d : Thread nD τ))
  after w t := match w with
    | ⟨0, _⟩ => iblk m d 0 t
    | ⟨1, _⟩ => iblk m d 1 t
    | ⟨2, _⟩ => iblk m d 2 t
    | ⟨3, _⟩ => iblk m d 3 t
    | ⟨4, _⟩ => iblk m d 4 t
    | ⟨5, _⟩ => fin (ins m) d
  Φ t := match t with
    | ⟨0, _⟩ => Φ₀ m d
    | ⟨_ + 1, _⟩ => Φ₁ d
  q _ := fullShare
  owed t := match t with
    | ⟨0, _⟩ => O₀ d
    | ⟨_ + 1, _⟩ => 0

omit [FloatOps F] in
/-- Owning a whole buffer. -/
theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

/-- A staging buffer holding `X`. -/
abbrev stg (d : Dev nD) (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

omit [FloatOps F] in
/-- A family over the six windows, written out. -/
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A fetched window's buffer holds its block. -/
theorem before_in (d : Dev nD) (w : Fin cfg0.W) (h : (cfg0.win w).fetch t₀ = true) (e) : (dats m 0 d).before w t₀ e = (dats m 0 d).fetched w t₀ e := if_pos h

/-- What the body is entered with, -/
def bodyPre (d : Dev nD) : sProp 𝕄 :=
  iprop(Φ₀ m d ∗ (dats m 0 d).owesAt () t₀.castSucc
    ∗ (∃ e, stg d cc0_stg0_0 ((dats m 0 d).before (0 : Fin 6) t₀ e)) ∗ (∃ e, stg d cc0_stg1_0 ((dats m 0 d).before (1 : Fin 6) t₀ e))
    ∗ (∃ e, stg d cc0_stg2_0 ((dats m 0 d).before (2 : Fin 6) t₀ e)) ∗ (∃ e, stg d cc0_stg3_0 ((dats m 0 d).before (3 : Fin 6) t₀ e))
    ∗ (∃ e, stg d cc0_stg4_0 ((dats m 0 d).before (4 : Fin 6) t₀ e)) ∗ (∃ e, stg d cc0_stg5_0 ((dats m 0 d).before (5 : Fin 6) t₀ e)))
/-- and left with. -/
def bodyPost (d : Dev nD) : sProp 𝕄 :=
  iprop(Φ₁ d ∗ (dats m 0 d).owesAt () t₀.succ
    ∗ stg d cc0_stg0_0 (ins m d).x ∗ stg d cc0_stg1_0 (ins m d).rw ∗ stg d cc0_stg2_0 (ins m d).ri ∗ stg d cc0_stg3_0 (ins m d).ew ∗ stg d cc0_stg4_0 (ins m d).sw
    ∗ stg d cc0_stg5_0 (fin (ins m) d))

omit [FloatOps F] in
/-- A buffer with known contents is a staged one. -/
theorem stg_intro (d : Dev nD) (b : Ref sig .tc) (X : b.ty.Contents (Elt F)) : (((d : Thread nD τ).loc b) ↦{fullShare} X : sProp 𝕄) ⊢ stg d b X := by
  iintro H; iexists X; isplitr
  · ipureintro; rfl
  · iexact H

/-- What the body ends with is what the launch asks for. -/
theorem end_post (d : Dev nD) : End (ins m) d ⊢ bodyPost m d := by
  unfold End bodyPost Inp Φ₁ Dat.owesAt Pipeline.owesWithin
  rw [show (dats m 0 d).owed t₀.succ = 0 from rfl]
  iintro ⟨⟨Hx, Hrw, Hri, Hew, Hsw⟩, Hout, Hscr, HZ, Hz, ⟨%W, HO⟩⟩
  isplitl [Hscr HZ Hz]
  · isplitl [Hscr]; · iexact Hscr
    isplitl [HZ]; · iexact HZ
    iexact Hz
  isplitl [HO]
  · iexists W; isplitr; · ipureintro; exact fun _ _ => Or.inl trivial
    iexact HO
  isplitl [Hx]; · iapply (stg_intro d cc0_stg0_0 (ins m d).x); iexact Hx
  isplitl [Hrw]; · iapply (stg_intro d cc0_stg1_0 (ins m d).rw); iexact Hrw
  isplitl [Hri]; · iapply (stg_intro d cc0_stg2_0 (ins m d).ri); iexact Hri
  isplitl [Hew]; · iapply (stg_intro d cc0_stg3_0 (ins m d).ew); iexact Hew
  isplitl [Hsw]; · iapply (stg_intro d cc0_stg4_0 (ins m d).sw); iexact Hsw
  iapply (stg_intro d cc0_stg5_0 (fin (ins m) d)); iexact Hout

set_option maxHeartbeats 800000 in
/-- The body from what the launch gives it to what the launch asks for. -/
theorem pre_body (d : Dev nD) : bodyPre m d ⊢ WP d body (fun _ => bodyPost m d) := by
  unfold bodyPre Φ₀ start Dat.owesAt Pipeline.owesWithin
  rw [show (dats m 0 d).owed t₀.castSucc = O₀ d from rfl]
  iintro ⟨⟨⟨%K, Hb⟩, Hscr⟩, ⟨%W, %hW, HO⟩, ⟨%e0, %g0, %h0, H0⟩, ⟨%e1, %g1, %h1, H1⟩, ⟨%e2, %g2, %h2, H2⟩, ⟨%e3, %g3, %h3, H3⟩, ⟨%e4, %g4, %h4, H4⟩, ⟨%e5, %g5, %h5, H5⟩⟩
  have h0 : g0 = (ins m d).x := h0.trans ((before_in m d 0 (fetch0_0 t₀) e0).trans rfl)
  have h1 : g1 = (ins m d).rw := h1.trans ((before_in m d 1 (fetch0_1 t₀) e1).trans rfl)
  have h2 : g2 = (ins m d).ri := h2.trans ((before_in m d 2 (fetch0_2 t₀) e2).trans rfl)
  have h3 : g3 = (ins m d).ew := h3.trans ((before_in m d 3 (fetch0_3 t₀) e3).trans rfl)
  have h4 : g4 = (ins m d).sw := h4.trans ((before_in m d 4 (fetch0_4 t₀) e4).trans rfl)
  subst h0 h1 h2 h3 h4
  iapply (wp_body (ins m) K d) $$ [Hb HO Hscr H0 H1 H2 H3 H4 H5]
  · isplitl [Hb]; · iexact Hb
    isplitl [HO]; · iexists W; iexact HO
    isplitl [Hscr]; · iexact Hscr
    isplitl [H0 H1 H2 H3 H4]
    · unfold Inp
      isplitl [H0]; · iexact H0
      isplitl [H1]; · iexact H1
      isplitl [H2]; · iexact H2
      isplitl [H3]; · iexact H3
      iexact H4
    iexists g5; iexact H5
  iintro He
  iapply (end_post m d); iexact He

/-- The program of the launch's one point is the kernel's body. -/
theorem program_at' : (defs₀ (F := F)) Proc.tc 0 (t₀, cfg0.slots t₀) = bodyAt0 t₀ := rfl
/-- The program of the launch's one point is the kernel's body. -/
theorem program_at'' : bodyAt0 (F := F) t₀ = cc0_body (F := F) xM (Memref.isWhole_whole _) rwM (Memref.isWhole_whole _) riM (Memref.isWhole_whole _) ewM (Memref.isWhole_whole _)
      swM (Memref.isWhole_whole _) outM (Memref.isWhole_whole _) rgM (Memref.isWhole_whole _) cmM (Memref.isWhole_whole _)
      cfM (Memref.isWhole_whole _) cc0_scratch3 cc0_scratch4 cc0_scratch5 cc0_scratch6 := rfl
/-- The region's program at the one point. -/
theorem program_at : (defs₀ (F := F)) Proc.tc 0 (t₀, cfg0.slots t₀) = body := program_at'.trans (program_at''.trans body_eq)

/-- What is had before the point, -/
theorem pre_eq (d : Dev nD) : (dats (F := F) m 0 d).Φ t₀.castSucc = Φ₀ m d := rfl
/-- and after it. -/
theorem post_eq (d : Dev nD) : (dats (F := F) m 0 d).Φ t₀.succ = Φ₁ d := rfl

/-- An input's window holds after the body what it held before; -/
theorem after0 (d : Dev nD) : (dats (F := F) m 0 d).after (0 : Fin 6) t₀ = (ins m d).x := rfl
/-- An input's window holds after the body what it held before; -/
theorem after1 (d : Dev nD) : (dats (F := F) m 0 d).after (1 : Fin 6) t₀ = (ins m d).rw := rfl
/-- An input's window holds after the body what it held before; -/
theorem after2 (d : Dev nD) : (dats (F := F) m 0 d).after (2 : Fin 6) t₀ = (ins m d).ri := rfl
/-- An input's window holds after the body what it held before; -/
theorem after3 (d : Dev nD) : (dats (F := F) m 0 d).after (3 : Fin 6) t₀ = (ins m d).ew := rfl
/-- An input's window holds after the body what it held before; -/
theorem after4 (d : Dev nD) : (dats (F := F) m 0 d).after (4 : Fin 6) t₀ = (ins m d).sw := rfl
/-- the output's holds what the body computes. -/
theorem after5 (d : Dev nD) : (dats (F := F) m 0 d).after (5 : Fin 6) t₀ = fin (ins m) d := rfl

/-- The body, run from what it is entered with. -/
theorem body_obligation (d : Dev nD) : BodyObligation (dats (F := F) m 0 d) (defs₀ (F := F)) 𝒱₀ () Set.univ := fun t => by
  rw [show t = t₀ from fin_N0 t]
  rw [bigSep_W, bigSep_W]
  simp only [owns_whole_eq]
  rw [program_at, pre_eq, post_eq, after0, after1, after2, after3, after4, after5]
  have h := pre_body m d
  unfold bodyPre bodyPost at h
  generalize (body : PB F) = b at h ⊢
  exact h

end Cert.KernelIdeal.Moe

end
-- ==== Proof.Deal.lean ====
/- What the launch makes for all devices at once: the cells' invariants, the tokens dealt to the devices that pay them,
   and the credit of what every device owes. -/
module

public import proofs.«01_k».proof.Proof.Body

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (part : Dev nD → Fin 16 → Fin 2 → Blk F)

/-- A transfer's semaphore. -/
abbrev Sm : Type := Fin 4 × Fin 4 × Fin 8

/-- Over the barrier and the transfers: the barrier, and the transfers. -/
theorem bigSep_option {α : Type} [Fintype α] [DecidableEq α] (Φ : Option α → sProp 𝕄) :
    bigSep Finset.univ Φ = iprop(Φ none ∗ bigSep Finset.univ fun x => Φ (some x)) := by
  rw [bigSep_univ_at Φ none]
  congr 1
  rw [show (Finset.univ.erase none : Finset (Option α)) = Finset.univ.map Function.Embedding.some from by
    ext x; cases x <;> simp, bigSep_map]
  rfl

/-! ## The ghost state -/

/-- The protocol's cells. -/
def ringCells : Finset (GSem nD τ sig) := Finset.univ.map ⟨fun x : Dev nD × Kd => cell x.1 x.2, fun x y h => Prod.ext (cell_inj h).1 (cell_inj h).2⟩

/-- A device's own cells' duties: its barrier's two, a transfer's one. -/
def tokOf (x : Dev nD × (Bool ⊕ Sm)) : GSem nD τ sig × ℕ × Bool := match x.2 with
  | .inl b => (cell x.1 none, 0, b)
  | .inr s => (cell x.1 (some s), 0, false)
/-- Every token is dealt once. -/
theorem tokOf_injective : Function.Injective tokOf := by
  rintro ⟨d, j⟩ ⟨d', j'⟩ h
  have h1 := congrArg (fun x : GSem nD τ sig × ℕ × Bool => x.1) h
  have h2 := congrArg (fun x : GSem nD τ sig × ℕ × Bool => x.2.2) h
  rcases j with b | s <;> rcases j' with b' | s' <;> obtain ⟨rfl, hk⟩ := cell_inj h1
  · obtain rfl : b = b' := h2; rfl
  · cases hk
  · cases hk
  · obtain rfl := Option.some.inj hk; rfl
def ringToks : Finset (GSem nD τ sig × ℕ × Bool) := Finset.univ.map ⟨tokOf, tokOf_injective⟩

/-- The ghost state at the launch. -/
def u₀ : UU := (initOf (Pipeline.cells cfgs cellOf_inj) (Pipeline.launchToks cfgs cellOf_inj), initOf ringCells ringToks)

/-- The tokens of the duties of device `d`'s own cells. -/
def toks (d : Dev nD) : sProp 𝕄 :=
  iprop((tok d none false ∗ tok d none true) ∗ bigSep Finset.univ fun s : Sm => tok d (some s) false)

/-- What the launch deals device `d`. -/
def G (d : Dev nD) : sProp 𝕄 :=
  iprop((bigSep Finset.univ fun k : Kd => roundState ER (Rd part) (cell d k) 0)
    ∗ (bigSep Finset.univ fun k : Kd => iprop(at_ d k ∗ reached ER (cell d k) 0)) ∗ toks d)

/-- The tokens of the duties device `d` pays. -/
def payToks (d : Dev nD) : sProp 𝕄 :=
  iprop((tok (rt d) none false ∗ tok (lf d) none true)
    ∗ (fam (fun a h => tok d (some (0, a, h)) false) ∗ fam (fun a h => tok (nb a d) (some (1, a, h)) false)
      ∗ fam (fun a h => tok d (some (2, a, h)) false) ∗ fam (fun a h => tok (nb a d) (some (3, a, h)) false)))

/-- What is made of it. -/
def G' (d : Dev nD) : sProp 𝕄 :=
  iprop(∃ K, records part K ∗ (bigSep Finset.univ fun k : Kd => at_ d k) ∗ payToks d)

/-- The protocol's resources for all devices. -/
theorem fund_ring : BI.own (ER (initOf ringCells ringToks)) ⊢ (|==> bigSep Finset.univ (G part) : sProp 𝕄) := by
  have hX (Φ : GSem nD τ sig → sProp 𝕄) : bigSep ringCells Φ = bigSep Finset.univ fun d : Dev nD => bigSep Finset.univ fun k : Kd => Φ (cell d k) := by
    unfold ringCells; rw [bigSep_map, bigSep_univ_prod]; rfl
  have hT : bigSep ringToks (fun x => (dutyTok ER x.1 x.2.1 x.2.2 : sProp 𝕄)) = bigSep Finset.univ fun d : Dev nD => toks d := by
    unfold ringToks; rw [bigSep_map, bigSep_univ_prod]
    refine bigSep_congr fun d _ => ?_
    unfold toks
    rw [bigSep_univ_sum, bigSep_univ_eq_bigSepL [false, true] (by decide) (by decide), bigSepL_cons_cons, bigSepL_singleton]
    rfl
  iintro HX
  imod (Rounds.fund ER (Rd part) ringCells ringToks) $$ HX with ⟨Hst, Hr, Hat, Htok⟩
  imodintro
  ihave Hst' := (Entails.of_eq (hX fun g => roundState ER (Rd part) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfers' semaphores are the kernel's own; -/
def osem : Sm → SemLoc sig := fun s => csem (some s)
/-- A device's semaphores at zero, by their kinds. -/
theorem ownSems0_eq (d : Dev nD) : (Pipeline.ownSems0 (Ix := Unit) (Name := ℕ) (U := UU) (Lvl := ℕ) (Val := Elt F) (τ := τ) osem d : sProp 𝕄)
    = bigSep Finset.univ fun s : Sm => semVal (cell d (some s)) 0 := rfl
/-- the barrier's the program's one. -/
theorem unscopedSems0_eq (d : Dev nD) : (unscopedSems0 d : sProp 𝕄) = semVal (cell d none) 0 := by
  unfold unscopedSems0; rw [bigSep_eq_bigSepL_of_eq [SemLoc.reg barS] (by decide +kernel) (by decide)]; rfl

/-- A device's cells, each with its invariant, from its semaphores at zero. -/
theorem core_alloc (d : Dev nD) :
    iprop(Pipeline.ownSems0 (Ix := Unit) (Name := ℕ) (U := UU) (Lvl := ℕ) (Val := Elt F) (τ := τ) osem d ∗ unscopedSems0 d ∗ G part d)
      ⊢ |={Set.univ}=> iprop((bigSep Finset.univ fun k : Kd => iprop(∃ κ : ℕ, cellInv ER (Rd part) κ (cell d k)))
          ∗ (bigSep Finset.univ fun k : Kd => iprop(at_ d k ∗ reached ER (cell d k) 0)) ∗ toks d) := by
  unfold G
  rw [ownSems0_eq, unscopedSems0_eq]
  iintro ⟨Hos, Hus, Hst, Hat, Htok⟩
  ihave Hv := (Entails.of_eq (bigSep_option (F := F) fun k => semVal (cell d k) 0).symm) $$ [Hos Hus]
  · isplitl [Hus] <;> iassumption
  imod (show iprop((bigSep Finset.univ fun k : Kd => semVal (cell d k) 0) ∗ bigSep Finset.univ fun k : Kd => roundState ER (Rd part) (cell d k) 0)
      ⊢ (|={Set.univ}=> bigSep Finset.univ fun k : Kd => iprop(∃ κ : ℕ, cellInv ER (Rd part) κ (cell d k)) : sProp 𝕄) from by
        rw [← bigSep_sep']
        exact (bigSep_mono fun k _ => (Rounds.body_intro ER (Rd part) (cell d k)).trans inv_alloc).trans (bigSep_fupd _ _)) $$ [Hv Hst] with Hinv
  · isplitl [Hv] <;> iassumption
  imodintro
  isplitl [Hinv]; · iexact Hinv
  isplitl [Hat]; · iexact Hat
  iexact Htok

/-- A family over all devices, moved along the chains. -/
theorem fam_around (Ψ : Dev nD → Fin 4 → Fin 8 → sProp 𝕄) :
    (bigSep Finset.univ fun d : Dev nD => fam (Ψ d)) = bigSep Finset.univ fun d : Dev nD => fam fun a h => Ψ (nb a d) a h := by
  unfold fam
  simp only [bigSep_sep']
  congr 1
  · exact bigSep_univ_equiv (nbE 0) _
  congr 1
  · exact bigSep_univ_equiv (nbE 1) _
  congr 1
  · exact bigSep_univ_equiv (nbE 2) _
  · exact bigSep_univ_equiv (nbE 3) _

/-- The tokens, dealt to the devices that pay. -/
theorem toks_around : (bigSep Finset.univ fun d : Dev nD => (toks d : sProp 𝕄)) ⊢ bigSep Finset.univ fun d : Dev nD => payToks d := by
  unfold toks payToks
  simp only [sems_eq, bigSep_sep']
  rw [fam_around (F := F) fun d a h => tok d (some (1, a, h)) false, fam_around (F := F) fun d a h => tok d (some (3, a, h)) false,
    bigSep_univ_equiv ring (fun d : Dev nD => (tok d none false : sProp 𝕄)),
    bigSep_univ_equiv ring.symm (fun d : Dev nD => (tok d none true : sProp 𝕄))]
  iintro ⟨⟨H1, H2⟩, ⟨A0, -⟩, ⟨A1, -⟩, ⟨A2, -⟩, ⟨A3, -⟩⟩
  isplitl [H1 H2]
  · isplitl [H1]; · iexact H1
    iexact H2
  isplitl [A0]; · iexact A0
  isplitl [A1]; · iexact A1
  isplitl [A2]; · iexact A2
  iexact A3

/-- What may be used again is had beside every member of a family. -/
theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's part of the start. -/
theorem G'_intro (K : Dev nD × Kd → ℕ) (d : Dev nD) :
    iprop(records part K ∗ (bigSep Finset.univ fun k : Kd => at_ d k) ∗ payToks d) ⊢ G' part d := by
  unfold G'; iintro H; iexists K; iexact H

/-- From what is made per cell to what each device starts from. -/
theorem regroup :
    (bigSep Finset.univ fun d : Dev nD => iprop((bigSep Finset.univ fun k : Kd => iprop(∃ κ : ℕ, cellInv ER (Rd part) κ (cell d k)))
          ∗ (bigSep Finset.univ fun k : Kd => iprop(at_ d k ∗ reached ER (cell d k) 0)) ∗ toks d) : sProp 𝕄)
      ⊢ bigSep Finset.univ (G' part) := by
  rw [bigSep_sep', bigSep_sep', ← bigSep_univ_prod (fun x : Dev nD × Kd => iprop(∃ κ : ℕ, cellInv ER (Rd part) κ (cell x.1 x.2))),
    bigSep_congr (s := Finset.univ) (fun (d : Dev nD) _ => bigSep_sep' Finset.univ (fun k : Kd => (at_ d k : sProp 𝕄)) (fun k => reached ER (cell d k) 0)),
    bigSep_sep', ← bigSep_univ_prod (fun x : Dev nD × Kd => (reached ER (cell x.1 x.2) 0 : sProp 𝕄))]
  iintro ⟨HI, ⟨Hat, #HR⟩, Htok⟩
  ihave HK := (BI.bigSep_exists_pi Finset.univ (fun (x : Dev nD × Kd) (κ : ℕ) => (cellInv ER (Rd part) κ (cell x.1 x.2) : sProp 𝕄))) $$ HI
  icases HK with ⟨%K, #HI⟩
  ihave Htk := (toks_around (F := F)) $$ Htok
  iapply (with_persistent (R := records part K) fun d _ => G'_intro part K d)
  isplitr
  · unfold records; isplitl; · iexact HI
    iexact HR
  · iapply (Entails.of_eq (bigSep_sep' Finset.univ (fun d : Dev nD => bigSep Finset.univ fun k : Kd => (at_ d k : sProp 𝕄)) payToks).symm)
    isplitl [Hat]; · iexact Hat
    iexact Htk

/-- All devices' semaphores at once, made into what each starts from. -/
theorem glob : (bigSep Finset.univ fun d => iprop(Pipeline.ownSems0 (Ix := Unit) (Name := ℕ) (U := UU) (Lvl := ℕ) (Val := Elt F) (τ := τ) osem d ∗ unscopedSems0 d ∗ G part d) : sProp 𝕄)
    ⊢ |={Set.univ}=> bigSep Finset.univ (G' part) :=
  ((bigSep_mono fun d _ => core_alloc part d).trans (bigSep_fupd _ _)).trans (BI.fupd_mono (regroup part))

/-! ## The credit -/

/-- Cells of one transfer are equal where the devices are. -/
theorem cell_eq_iff {a b : Dev nD} {k : Kd} : Iff (cell a k = cell b k) (a = b) := ⟨fun h => (cell_inj h).1, fun h => h ▸ rfl⟩

/-- Nothing is owed to a barrier by a device past its own. -/
theorem Oat_none (d c : Dev nD) (n : ℕ) : Oat d n (cell c none) () = 0 := by
  by_contra h
  obtain ⟨x, _, hx⟩ := Oat_pos (Nat.pos_of_ne_zero h)
  cases (cell_inj hx).2

/-- One device of a permuted family counts. -/
theorem sum_ite_inj {α : Type} [Fintype α] [DecidableEq α] (e : Dev nD ≃ Dev nD) (c : Dev nD) (v : ℕ) :
    (∑ d : Dev nD, if c = e d then v else 0) = v := by
  rw [Finset.sum_congr rfl fun d _ => if_congr (show Iff (c = e d) (e.symm c = d) from ⟨fun h => by rw [h, e.symm_apply_apply], fun h => by rw [← h, e.apply_symm_apply]⟩) rfl rfl,
    Finset.sum_ite_eq, if_pos (Finset.mem_univ _)]

/-- A barrier is owed two units, one by each neighbour; -/
theorem owed_bar (c : Dev nD) : ∑ d : Dev nD, O₀ d (cell c none) () = 2 := by
  unfold O₀ O₁
  rw [Finset.sum_congr rfl fun d _ => by
    rw [Pi.add_apply, Finsupp.add_apply, Pi.add_apply, Finsupp.add_apply, Oat_none, Nat.zero_add, tallyAt_apply, tallyAt_apply,
      if_congr (show Iff (cell c none = cell (rt d) none ∧ () = ()) (c = ring d) from ⟨fun h => cell_eq_iff.mp h.1, fun h => ⟨cell_eq_iff.mpr h, rfl⟩⟩) rfl rfl,
      if_congr (show Iff (cell c none = cell (lf d) none ∧ () = ()) (c = ring.symm d) from ⟨fun h => cell_eq_iff.mp h.1, fun h => ⟨cell_eq_iff.mpr h, rfl⟩⟩) rfl rfl],
    Finset.sum_add_distrib, sum_ite_inj (α := Unit) ring, sum_ite_inj (α := Unit) ring.symm]

/-- a transfer's landing its amount, by the device it comes from. -/
theorem owed_land (c : Dev nD) (p : Fin 2) (a : Fin 4) (h : Fin 8) (hu : used a h = true) :
    ∑ d : Dev nD, O₀ d (cell c (some (if p = 0 then 1 else 3, a, h))) () = N := by
  have hne : ∀ d' : Dev nD, ¬ (cell c (some ((if p = 0 then 1 else 3 : Fin 4), a, h)) = cell d' none ∧ () = ()) := fun d' h' => by cases (cell_inj h'.1).2
  have hp : (p, a, h) ∈ pend 0 := Finset.mem_filter.mpr ⟨Finset.mem_univ _, hu, Nat.zero_le _⟩
  unfold O₀ O₁ Oat
  rw [Finset.sum_congr rfl fun d _ => by
    rw [Pi.add_apply, Finsupp.add_apply, Pi.add_apply, Finsupp.add_apply, tallyAt_apply (cell (rt d) none), tallyAt_apply (cell (lf d) none), if_neg (hne _), if_neg (hne _), Nat.add_zero, Finset.sum_apply, Finsupp.finset_sum_apply, Finset.sum_eq_single_of_mem (p, a, h) hp (fun y _ hy => by
        rw [tallyAt_apply, if_neg]
        rintro ⟨h', -⟩
        have hk := Option.some.inj (cell_inj h').2
        have h1 : (if p = 0 then 1 else 3 : Fin 4) = if y.1 = 0 then 1 else 3 := congrArg Prod.fst hk
        have h2 : (a, h) = y.2 := congrArg Prod.snd hk
        exact hy (Prod.ext ((by decide : ∀ p q : Fin 2, (if p = 0 then 1 else 3 : Fin 4) = (if q = 0 then 1 else 3) → q = p) p y.1 h1) h2.symm)),
      tallyAt_apply, if_congr (show Iff (cell c (some ((if p = 0 then 1 else 3 : Fin 4), a, h)) = lcell (p, a, h) d ∧ () = ()) (c = nbE a d) from
        ⟨fun h => (cell_inj h.1).1, fun h => ⟨by unfold lcell; rw [h]; rfl, rfl⟩⟩) rfl rfl],
    sum_ite_inj (α := Unit) (nbE a)]

/-- The credit of a cell, by what all devices owe it. -/
theorem launch_at (c : Dev nD) (k : Kd) (v : ℕ) (h : ∑ d : Dev nD, O₀ d (cell c k) () = v) :
    tallyOn (cell c k) (launchCredit (Pipeline.owing O₀) 0 (cell c k)) = (tallyAt (cell c k) () v : CellTallies nD τ sig Unit) := by
  unfold tallyAt; refine congrArg _ (Finsupp.ext fun u => ?_); cases u
  rw [Pipeline.launchCredit_owing, Finsupp.single_eq_same, h]

/-- Some of the resources are kept, the rest dropped. -/
theorem keep (A P U B U' Q R C V : sProp 𝕄) : iprop(A ∗ (P ∗ U ∗ U') ∗ (B ∗ Q) ∗ R ∗ (C ∗ V)) ⊢ iprop(A ∗ B ∗ C) := by
  iintro ⟨H, -, ⟨H1, -⟩, -, ⟨H3, -⟩⟩
  isplitl [H]; · iexact H
  isplitl [H1]; · iexact H1
  iexact H3

/-- The credit device `c` starts with: of its barrier, and of its landings. -/
theorem creds (c : Dev nD) : (Pipeline.launchCred O₀ c : sProp 𝕄)
    ⊢ iprop(cred (tallyAt (cell c none) () 2) ∗ fam (fun a h => crd c (some (1, a, h))) ∗ fam (fun a h => crd c (some (3, a, h)))) := by
  have hl (p : Fin 2) (t : Fin 4) (ht : t = if p = 0 then 1 else 3) :
      (fam fun a h => cred (tallyOn (cell c (some (t, a, h))) (launchCredit (Pipeline.owing O₀) 0 (cell c (some (t, a, h))))) : sProp 𝕄)
        = fam fun a h => crd c (some (t, a, h)) := by
    subst ht
    unfold fam
    congr 1
    · exact bigSep_congr fun h _ => congrArg cred (launch_at c _ N (owed_land c p 0 h (us0 h)))
    congr 1
    · exact bigSep_congr fun h _ => congrArg cred (launch_at c _ N (owed_land c p 1 _ (us1 h)))
    congr 1
    · exact bigSep_congr fun h _ => congrArg cred (launch_at c _ N (owed_land c p 2 h (us2 h)))
    · exact bigSep_congr fun h _ => congrArg cred (launch_at c _ N (owed_land c p 3 _ (us3 h)))
  unfold Pipeline.launchCred
  refine (bigSep_subset (Finset.subset_univ (Finset.univ.map ⟨csem, csem_inj⟩))).trans ?_
  rw [bigSep_map, bigSep_option, sems_eq]
  rw [← hl 0 1 rfl, ← hl 1 3 rfl, ← launch_at c none 2 (owed_bar c)]
  exact keep _ _ _ _ _ _ _ _ _

end Cert.KernelIdeal.Moe

end
-- ==== Proof.Run.lean ====
/- The run of the whole program on all devices: it ends, the inputs unchanged, every semaphore at zero and each device's
   result at the computed contents. -/
module

public import proofs.«01_k».proof.Proof.Launch
public import proofs.«01_k».proof.Proof.Deal
public import Idealize.ShloMosaic.Lib.Pipeline.CollectiveSegs

@[expose] public section

noncomputable section

namespace Cert.KernelIdeal.Moe

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The transfers' semaphores are scoped, apart, and none stages a window. -/
theorem ownSemFacts : Pipeline.OwnSemFacts cfg0.spec osem := by decide +kernel

/-- Every window is owned in full. -/
theorem share_eq (d : Dev nD) (w : Fin cfg0.W) : (dats m 0 d).share w = fullShare := by unfold Dat.share; split <;> rfl

/-- What each device starts the launch from. -/
theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' (prt (ins m)) d)
      ⊢ |={Set.univ}=> iprop(start m d ∗ emp) := by
  unfold start G' payToks Begin Inv
  iintro ⟨-, Hlev, Hcr, -, ⟨%K, HR, Hat, ⟨Htf, Htt⟩, Htoks⟩⟩
  ihave Hc := (creds (F := F) d) $$ Hcr
  icases Hc with ⟨Hb, H1, H3⟩
  ihave Hat := (Entails.of_eq (bigSep_option (F := F) fun k => at_ d k)) $$ Hat
  icases Hat with ⟨Han, Has⟩
  imodintro
  isplitl
  · iexists K
    isplitl [HR Hlev]
    · isplitl [HR] <;> iassumption
    isplitl [Htf Htt Hb Han]
    · isplitl [Htt]; · iexact Htt
      isplitl [Htf]; · iexact Htf
      isplitl [Hb]; · iexact Hb
      iexact Han
    isplitl [Has]; · iexact Has
    isplitl [H1 H3]
    · isplitl [H1]; · iexact H1
      iexact H3
    iexact Htoks
  · iempintro

/-- What is had before the body. -/
theorem phi0_intro (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Φ₀ Scr
  iintro ⟨Hs, -, H1, H2, H3⟩
  isplitl [Hs]; · iexact Hs
  isplitl [H1]; · iexact H1
  isplitl [H2]; · iexact H2
  iexact H3

/-- What is left after the body. -/
theorem phi1_exit (d : Dev nD) :
    (dats m 0 d).Φ (Fin.last cfg0.N) ⊢ iprop(unscopedSems0 d ∗ Pipeline.ownSems0 osem d ∗ Pipeline.scopedRest cfg0.spec d) := by
  rw [show (dats m 0 d).Φ (Fin.last cfg0.N) = Φ₁ d from rfl, scopedRest0_eq, ownSems0_eq, unscopedSems0_eq]
  unfold Φ₁ Scr
  iintro ⟨⟨H1, H2, H3⟩, Hz, Hn⟩
  isplitl [Hn]; · iexact Hn
  isplitl [Hz]; · iexact Hz
  isplitl [H1]; · iexact H1
  isplitl [H2]; · iexact H2
  iexact H3

/-- The semaphores of the staging are at the lowest level. -/
theorem lv_low (d : Dev nD) (q : DmaSem sig) (hq : q.val < 6) : lv ((d : Thread nD τ), .dma q) () = 0 := by
  unfold lv
  cases hd : dk (.dma q) with
  | none => rfl
  | some k =>
    exfalso
    have hk := csem_of_dk hd
    rcases k with _ | ⟨t, a, h⟩
    · cases hk
    · have := congrArg Fin.val (SemLoc.dma.inj hk)
      rw [semV_val] at this; omega

/-- The staging may wait on its semaphores. -/
theorem waits (d : Dev nD) : (levAts L lv : sProp 𝕄) ⊢ Pipeline.cellsWaits cfgs (dats m) () 0 d :=
  Pipeline.cellsWaits_intro cfgs (dats m) () 0 d fun w s t =>
    mayWait_stage d _ (lv_low d _ (by revert s; revert w; decide +kernel)) _ (by
      rcases t with ⟨_ | _, ht⟩
      · exact Or.inl rfl
      · exact Or.inr rfl)

/-- Array `w` of device `d` at the end. -/
def finalA (d : Dev nD) (w : Fin cfg0.W) : Buf (Elt F) ((cfg0.win w).arr.view.loc (d : Thread nD τ)) := (dats m 0 d).arrAt w cfg0.N

def QC : PUnit × MemSt nD τ sig (Elt F) → Prop := fun r =>
  ∀ d : Dev nD, ∀ w : Fin cfg0.W, r.2.mem ((cfg0.win w).arr.view.loc (d : Thread nD τ)) = finalA m d w

set_option maxRecDepth 40000 in
/-- At any float values, from any memory: every execution ends, each array at its final contents and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (prt (ins m))) (G' := G' (prt (ins m))) (u₀ := u₀)
    (hu₀ := by
      unfold u₀
      iintro Hu
      ihave H := (ownU_pair _ _) $$ Hu
      icases H with ⟨HP, HX⟩
      imod (fund_ring (prt (ins m))) $$ HX with HG
      imodintro
      isplitl [HP] <;> iassumption)
    (hglob := glob (prt (ins m)))
    (hA := fun _ _ => rfl) (hpf := fun _ k => k.elim0)
    (X := start m) (Y := fun d => unscopedSems0 d) (Z := fun _ => iprop(emp))
    (hX := start_intro m ρ) (hin := phi0_intro m) (hout := phi1_exit m)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The inputs end as they began, and every semaphore at zero. -/
theorem run_frame : θ_run defs (onTc (τ := τ) (main (F := F))) (s₀ m ρ) (fun r => (∀ d : Dev nD,
      r.2.mem ((d : Thread nD τ).loc main_arg0) = m ((d : Thread nD τ).loc main_arg0) ∧ r.2.mem ((d : Thread nD τ).loc main_arg1) = m ((d : Thread nD τ).loc main_arg1)
      ∧ r.2.mem ((d : Thread nD τ).loc main_arg2) = m ((d : Thread nD τ).loc main_arg2) ∧ r.2.mem ((d : Thread nD τ).loc main_arg3) = m ((d : Thread nD τ).loc main_arg3)
      ∧ r.2.mem ((d : Thread nD τ).loc main_arg4) = m ((d : Thread nD τ).loc main_arg4)) ∧ r.2.sem = fun _ => 0) :=
  (θ_run defs _ _).mono (fun r h => ⟨fun d => ⟨
    (h.1 d 0).trans ((dats m 0 d).arrAt_in 0 rfl _), (h.1 d 1).trans ((dats m 0 d).arrAt_in 1 rfl _), (h.1 d 2).trans ((dats m 0 d).arrAt_in 2 rfl _),
    (h.1 d 3).trans ((dats m 0 d).arrAt_in 3 rfl _), (h.1 d 4).trans ((dats m 0 d).arrAt_in 4 rfl _)⟩, h.2⟩) (run_main m ρ)

end Cert.KernelIdeal.Moe

end
-- ==== Proof.Gate.lean ====
/- One row of the router over the extended reals: with finite scores the softmax weights are nonnegative reals, which
   distribute over every sum. -/
module

public import Idealize.ShloMosaic.PureOps.Ideal.Laws
public import Idealize.ShloMosaic.Lib.IdealHost
public import Idealize.ShloMosaic.Lib.Pointwise

@[expose] public section

noncomputable section

open Idealize.ShloMosaic

namespace Cert.KernelIdeal.Moe

/-! ## One row's softmax over the extended reals -/

/-- The largest score of a row. -/
def rowMax (b : EReal) (s : Fin 128 → EReal) : EReal := Finset.univ.fold max b s
/-- The exponential of a score less the largest one. -/
def rowExp (b : EReal) (s : Fin 128 → EReal) (e : Fin 128) : EReal := Ideal.exp (s e - rowMax b s)
/-- The softmax weight of expert `e`. -/
def rowProb (b : EReal) (s : Fin 128 → EReal) (e : Fin 128) : EReal := Ideal.div (rowExp b s e) (∑ j, rowExp b s j)

/-- The row's scores are all finite. -/
def RowFinite (s : Fin 128 → EReal) : Prop := ∀ e, s e ≠ ⊤ ∧ s e ≠ ⊥

/-- The exponential of a real number is positive. -/
theorem exp_coe_pos (r : ℝ) : 0 < Ideal.exp (r : EReal) := EReal.coe_pos.2 (Real.exp_pos r)

/-- With finite scores the largest one is finite. -/
theorem rowMax_finite {b : EReal} (hb : b ≠ ⊤) {s : Fin 128 → EReal} (hs : RowFinite s) : rowMax b s ≠ ⊤ ∧ rowMax b s ≠ ⊥ := by
  constructor
  · exact ne_of_lt ((Finset.fold_max_lt (c := ⊤)).2 ⟨lt_top_iff_ne_top.2 hb, fun e _ => lt_top_iff_ne_top.2 (hs e).1⟩)
  · exact ne_of_gt (lt_of_lt_of_le (bot_lt_iff_ne_bot.2 (hs 0).2) ((Finset.le_fold_max (s 0)).2 (.inr ⟨0, Finset.mem_univ _, le_rfl⟩)))

/-- With finite scores every exponential is a positive real. -/
theorem rowExp_coe {b : EReal} (hb : b ≠ ⊤) {s : Fin 128 → EReal} (hs : RowFinite s) (e : Fin 128) :
    ∃ r : ℝ, 0 < r ∧ rowExp b s e = (r : EReal) := by
  obtain ⟨h1, h2⟩ := rowMax_finite hb hs
  obtain ⟨h3, h4⟩ := hs e
  unfold rowExp
  lift s e to ℝ using ⟨h3, h4⟩ with a
  lift rowMax b s to ℝ using ⟨h1, h2⟩ with c
  exact ⟨Real.exp (a - c), Real.exp_pos _, by rw [← EReal.coe_sub]; rfl⟩

/-- With finite scores a weight is a nonnegative real. -/
theorem rowProb_coe {b : EReal} (hb : b ≠ ⊤) {s : Fin 128 → EReal} (hs : RowFinite s) (e : Fin 128) :
    0 ≤ rowProb b s e ∧ rowProb b s e ≠ ⊤ := by
  choose f hf hfe using rowExp_coe hb hs
  have hd : ∑ j, rowExp b s j = ((∑ j, f j : ℝ) : EReal) := by
    rw [Finset.sum_congr rfl fun j _ => hfe j]
    induction (Finset.univ : Finset (Fin 128)) using Finset.induction_on with
    | empty => simp
    | insert a t ha ih => rw [Finset.sum_insert ha, Finset.sum_insert ha, ih, EReal.coe_add]
  have hp : 0 < ∑ j, f j := Finset.sum_pos (fun j _ => hf j) ⟨0, Finset.mem_univ _⟩
  have : rowProb b s e = ((f e * (∑ j, f j)⁻¹ : ℝ) : EReal) := by
    unfold rowProb Ideal.div
    rw [hd, hfe e, if_neg (by rw [← EReal.coe_zero, EReal.coe_eq_coe_iff]; exact hp.ne'), ← EReal.coe_inv, ← EReal.coe_mul]
  rw [this]
  exact ⟨EReal.coe_nonneg.2 (mul_nonneg (hf e).le (inv_nonneg.2 hp.le)), EReal.coe_ne_top _⟩

/-- A nonnegative finite factor moves into a sum. -/
theorem mul_sum_of_nonneg {ι : Type} (t : Finset ι) (f : ι → EReal) {c : EReal} (h0 : 0 ≤ c) (hc : c ≠ ⊤) :
    c * ∑ k ∈ t, f k = ∑ k ∈ t, c * f k := by
  classical
  induction t using Finset.induction_on with
  | empty => simp
  | insert a t ha ih => rw [Finset.sum_insert ha, Finset.sum_insert ha, ← ih, EReal.left_distrib_of_nonneg_of_ne_top h0 hc]

/-- What one expert adds to a token: the row scaled by the token's coefficient if the token is routed there, times a
    column of the expert's matrix, is the expert's gate times the row's product with the column. -/
theorem gate_row {b : EReal} (hb : b ≠ ⊤) {s : Fin 128 → EReal} (hs : RowFinite s) (p : Fin 128 → Prop) [DecidablePred p]
    (hp : ∀ e e', p e → p e' → e = e') (x W : Fin 512 → EReal) (e : Fin 128) :
    (∑ k, if p e then x k * Ideal.div (∑ j, if p j then rowExp b s j else 0) (∑ j, rowExp b s j) * W k else 0)
      = (if p e then rowProb b s e else 0) * ∑ k, x k * W k := by
  by_cases h : p e
  · have h1 : (∑ j, if p j then rowExp b s j else 0) = rowExp b s e := by
      rw [Finset.sum_eq_single e (fun j _ hj => if_neg fun hpj => hj (hp j e hpj h)) (fun h' => absurd (Finset.mem_univ e) h'), if_pos h]
    obtain ⟨h0, ht⟩ := rowProb_coe hb hs e
    simp only [if_pos h, h1]
    rw [mul_sum_of_nonneg _ _ h0 ht]
    refine Finset.sum_congr rfl fun k _ => ?_
    rw [mul_comm (x k), mul_assoc]; rfl
  · simp only [if_neg h, zero_mul, Finset.sum_const_zero]

/-- A sum over the 128 experts, device by device. -/
theorem sum_experts (f : Fin 128 → EReal) :
    ∑ d : Fin 16, ∑ e : Fin 8, f ⟨8 * d.val + e.val, by omega⟩ = ∑ e, f e := by
  rw [← Fintype.sum_prod_type', ← finProdFinEquiv (m := 16) (n := 8) |>.sum_comp f]
  exact Finset.sum_congr rfl fun x _ => congrArg f (Fin.ext (Nat.add_comm _ _))

/-! ## What kernel and reference share -/

/-- The value every row's maximum starts from. -/
abbrev mInit : EReal := Ideal.ofBits FTy.f32 0xFF800000#32

/-- That value is not +∞. -/
theorem mInit_ne_top : mInit ≠ ⊤ := by
  simp [mInit, Ideal.ofBits, Ideal.ieee]

/-- A choice by an equality of words. -/
theorem select_eq {α : Type} (a b : BitVec 32) (x y : α) : Scalar.select (IntOp.cmpi .eq a b) x y = if a = b then x else y := by
  by_cases h : a = b
  · subst h; simp [Scalar.select, IntOp.cmpi]
  · simp [Scalar.select, IntOp.cmpi, h, beq_eq_false_iff_ne.2 h]

/-- Row `i`'s router scores. -/
def scoreRow (x : (⟨2, ![2048, 512]⟩ : Shape).Idx → EReal) (rw : (⟨2, ![512, 128]⟩ : Shape).Idx → EReal) (i : Fin 2048) (e : Fin 128) : EReal :=
  ∑ k : Fin 512, x (ix2 i k) * rw (ix2 k e)

end Cert.KernelIdeal.Moe
end
-- ==== Proof.Value.lean ====
/- The kernel's result at an index, over the extended reals: the sum of all devices' parts and the shared expert's product. -/
module

public import proofs.«01_k».proof.Proof.Body
public import proofs.«01_k».proof.Proof.Gate
public import Idealize.ShloMosaic.Lib.Pointwise
public import Idealize.ShloMosaic.Lib.Pointwise.IndexBridge

@[expose] public section

set_option maxRecDepth 16384

noncomputable section

open Idealize.ShloMosaic Idealize.ShloMosaic.TcCoe
open Cert.KernelIdeal Cert.KernelIdeal.Gen

namespace Cert.KernelIdeal.Moe

/-! ## The body's operations read at an index, over the extended reals -/

/-- A token's coefficient: the exponential at its own expert over the sum of all. -/
theorem coefVal_apply (x : Vec Ideal S2048x512 .f32) (rw : Vec Ideal S512x128 .f32) (ri : Vec Ideal S2048x1 .i32) (i : Fin 2048) :
    coefVal x rw ri (ix2 i 0)
      = Ideal.div (∑ j : Fin 128, if BitVec.ofNat 32 j.val = ri (ix2 i 0) then rowExp mInit (scoreRow x rw i) j else 0) (∑ j, rowExp mInit (scoreRow x rw i) j) := by
  pointwise [coefVal]
  simp only [select_eq]
  rfl

/-- What one expert adds to an element. -/
theorem expVal_apply (dw e : BitVec 32) (x : Vec Ideal S128x512 .f32) (ri : Vec Ideal S128x1 .i32) (cf : Vec Ideal S128x1 .f32)
    (w : Vec Ideal S1x512x512 .f32) (i : Fin 128) (h : Fin 512) :
    expVal dw e x ri cf w (ix2 i h)
      = ∑ k : Fin 512, if ri (ix2 i 0) = Scalar.addi (Scalar.muli dw 8#32) e then x (ix2 i k) * cf (ix2 i 0) * w (ix3 0 k h) else 0 := by
  pointwise [expVal]
  simp only [select_eq]

/-- What a device adds to an element: its eight experts' parts. -/
theorem partVal_apply (dw : BitVec 32) (x : Vec Ideal S128x512 .f32) (ri : Vec Ideal S128x1 .i32) (cf : Vec Ideal S128x1 .f32)
    (w0 w1 w2 w3 w4 w5 w6 w7 : Vec Ideal S1x512x512 .f32) (i : Fin 128) (h : Fin 512) :
    partVal dw x ri cf w0 w1 w2 w3 w4 w5 w6 w7 (ix2 i h)
      = expVal dw 0#32 x ri cf w0 (ix2 i h) + expVal dw 1#32 x ri cf w1 (ix2 i h) + expVal dw 2#32 x ri cf w2 (ix2 i h)
        + expVal dw 3#32 x ri cf w3 (ix2 i h) + expVal dw 4#32 x ri cf w4 (ix2 i h) + expVal dw 5#32 x ri cf w5 (ix2 i h)
        + expVal dw 6#32 x ri cf w6 (ix2 i h) + expVal dw 7#32 x ri cf w7 (ix2 i h) := by
  pointwise [partVal]

/-- The combination: the routed sum plus the shared expert's product. -/
theorem combVal_apply (x : Vec Ideal S128x512 .f32) (sw : Vec Ideal S512x1024 .f32) (r : Vec Ideal S128x1024 .bf16) (i : Fin 128) (h : Fin 1024) :
    combVal x sw r (ix2 i h) = r (ix2 i h) + ∑ k : Fin 512, x (ix2 i k) * sw (ix2 k h) := by
  pointwise [combVal]

/-- An accumulation adds. -/
theorem accB_apply (r X : Blk Ideal) (y : S128x512.Idx) : accB r X y = (r y + X y : EReal) := by
  idx_vars y
  pointwise [accB]

/-- A chunk of the tokens, at an index; -/
theorem xB_apply (f : Vec Ideal S2048x512 .f32) (k : Fin 16) (i : Fin 128) (h : Fin 512) :
    xB f k (ix2 i h) = f (ix2 ⟨128 * k.val + i.val, by omega⟩ h) := by
  pointwise [xB]

/-- of a column with one entry a token; -/
theorem colB_apply {e : EltTy} (f : Vec Ideal S2048x1 e) (k : Fin 16) (i : Fin 128) :
    colB f k (ix2 i 0) = f (ix2 ⟨128 * k.val + i.val, by omega⟩ 0) := by
  pointwise [colB]

/-- half of an expert's columns, at an index. -/
theorem ewB_apply (f : Vec Ideal S8x512x1024 .f32) (s : Fin 2) (e : Fin 8) (k : Fin 512) (h : Fin 512) :
    ewB f s e (ix3 0 k h) = f (ix3 e k ⟨512 * s.val + h.val, by omega⟩) := by
  pointwise [ewB]

/-! ## One device's part -/

/-- What device `d` adds to element (`r`, `h`): over its experts, the token's row times the coefficient, if it is routed there. -/
def devSum (I : Ins Ideal) (d : Dev nD) (r : Fin 2048) (h : Fin 1024) : EReal :=
  ∑ e : Fin 8, ∑ k : Fin 512, if I.ri (ix2 r 0) = BitVec.ofNat 32 (8 * d.val + e.val) then I.x (ix2 r k) * I.cf (ix2 r 0) * I.ew (ix3 e k h) else 0

/-- A device's experts have consecutive words. -/
theorem expert_word : ∀ (d : Dev nD) (e : Fin 8), Scalar.addi (Scalar.muli (devW d) 8#32) (BitVec.ofNat 32 e.val) = BitVec.ofNat 32 (8 * d.val + e.val) := by
  decide +kernel

/-- The contribution to a half chunk, at an index: the device's part. -/
theorem prt_apply (I : Dev nD → Ins Ideal) (d : Dev nD) (k : Fin 16) (s : Fin 2) (i : Fin 128) (h : Fin 512) :
    prt I d k s (ix2 i h) = devSum (I d) d ⟨128 * k.val + i.val, by omega⟩ ⟨512 * s.val + h.val, by omega⟩ := by
  unfold prt devSum
  rw [partVal_apply, Fin.sum_univ_eight]
  simp only [expVal_apply, xB_apply, colB_apply, ewB_apply]
  simp only [← expert_word]
  rfl

/-! ## The ring's sums -/

/-- What a chain sends after `h` steps is the sum of the parts of the devices it has passed. -/
theorem sv_apply (part : Dev nD → Fin 16 → Fin 2 → Blk Ideal) (a : Fin 4) (y : S128x512.Idx) : ∀ (h : ℕ), h < 8 → ∀ d : Dev nD,
    sv part a h d y = (∑ j ∈ Finset.range (h + 1), part ((pv a)^[j] d) (ck a h d) (hf a) y : EReal)
  | 0, _, d => by simp [sv]
  | h + 1, hh, d => by
    rw [Finset.sum_range_succ', show sv part a (h + 1) d = accB (part d (ck a (h + 1) d) (hf a)) (sv part a h (pv a d)) from rfl, accB_apply,
      sv_apply part a y h (by omega) (pv a d), add_comm]
    congr 1
    refine Finset.sum_congr rfl fun j _ => ?_
    rw [show ck a h (pv a d) = ck a (h + 1) d from ck_pv a ⟨h, by omega⟩ d]
    rfl

/-- The devices in the order in which half `s` of chunk `k` collects them. -/
def path (k : Fin 16) (s : Fin 2) (j : Fin 16) : Dev nD :=
  if s = 0 then if j.val < 8 then (pv 1)^[j.val] (home k 0) else (pv 0)^[j.val - 8] (lf (home k 0))
  else if j.val < 8 then (pv 3)^[j.val] (home k 1) else (pv 2)^[j.val - 8] (rt (home k 1))

/-- The path meets every device once. -/
theorem path_inj : ∀ (k : Fin 16) (s : Fin 2) (i j : Fin 16), path k s i = path k s j → i = j := by decide +kernel

/-- Which chunk arrives at a half's last device. -/
theorem home_ck : ∀ k : Fin 16, ck 1 7 (home k 0) = k ∧ ck 0 7 (lf (home k 0)) = k ∧ ck 3 7 (home k 1) = k ∧ ck 2 7 (rt (home k 1)) = k := by decide +kernel

/-- The reduced half is the sum of all devices' parts. -/
theorem fv_apply (part : Dev nD → Fin 16 → Fin 2 → Blk Ideal) (k : Fin 16) (s : Fin 2) (y : S128x512.Idx) :
    fv part k s y = (∑ d : Dev nD, part d k s y : EReal) := by
  rw [← Function.Bijective.sum_comp (Finite.injective_iff_bijective.1 (show Function.Injective (path k s) from fun i j h => path_inj k s i j h)) fun d => (part d k s y : EReal)]
  obtain ⟨h1, h2, h3, h4⟩ := home_ck k
  rw [Fin.sum_univ_add (a := 8) (b := 8)]
  unfold fv
  match s with
  | 0 =>
    rw [if_pos rfl, accB_apply, sv_apply part 1 y 7 (by omega), sv_apply part 0 y 7 (by omega), h1, h2, Finset.sum_range, Finset.sum_range]
    refine congrArg₂ _ (Finset.sum_congr rfl fun j _ => ?_) (Finset.sum_congr rfl fun j _ => ?_) <;> simp [path, hf]
  | 1 =>
    rw [if_neg (by decide), accB_apply, sv_apply part 3 y 7 (by omega), sv_apply part 2 y 7 (by omega), h3, h4, Finset.sum_range, Finset.sum_range]
    refine congrArg₂ _ (Finset.sum_congr rfl fun j _ => ?_) (Finset.sum_congr rfl fun j _ => ?_) <;> simp [path, hf]

/-! ## The result -/

/-- The result at an index: all devices' parts, and the shared expert's product. -/
theorem fin_apply (I : Dev nD → Ins Ideal) (d : Dev nD) (r : Fin 2048) (h : Fin 1024) :
    fin I d (ix2 r h) = (∑ c : Dev nD, devSum (I c) c r h) + ∑ k : Fin 512, (I d).x (ix2 r k) * (I d).sw (ix2 k h) := by
  unfold fin outC outB
  simp only [← ix2_eq_valueIdx]
  show combVal _ _ _ (ix2 _ h) = _
  rw [combVal_apply]
  have hr : (⟨128 * (r.val / 128) + r.val % 128, by omega⟩ : Fin 2048) = r := Fin.ext (by show 128 * (r.val / 128) + r.val % 128 = r.val; omega)
  congr 1
  · show joinB _ _ _ = _
    unfold joinB
    split
    · rename_i hh
      refine (congrArg (fv (prt I) _ 0) (ix2_eq_valueIdx (⟨r.val % 128, Nat.mod_lt _ (by decide)⟩ : Fin 128) (⟨h.val, hh⟩ : Fin 512)).symm).trans ?_
      rw [fv_apply]
      refine Finset.sum_congr rfl fun c _ => (prt_apply I c _ 0 _ _).trans ?_
      exact congrArg₂ (devSum (I c) c) hr (Fin.ext (by show 512 * 0 + h.val = h.val; omega))
    · rename_i hh
      replace hh : ¬ h.val < 512 := hh
      refine (congrArg (fv (prt I) _ 1) (ix2_eq_valueIdx (⟨r.val % 128, Nat.mod_lt _ (by decide)⟩ : Fin 128) (⟨h.val - 512, by omega⟩ : Fin 512)).symm).trans ?_
      rw [fv_apply]
      refine Finset.sum_congr rfl fun c _ => (prt_apply I c _ 1 _ _).trans ?_
      exact congrArg₂ (devSum (I c) c) hr (Fin.ext (by show 512 * 1 + (h.val - 512) = h.val; omega))
  · refine Finset.sum_congr rfl fun k _ => ?_
    rw [xB_apply]
    congr 3

end Cert.KernelIdeal.Moe
end
-- ==== Proof.RefValue.lean ====
/- The reference's result at an index, over the extended reals. -/
module

public import proofs.«01_k».proof.Proof.Gate
public import proofs.«01_k».proof.Proof.Gen.ReferenceIdeal.Run
public import Idealize.ShloMosaic.Lib.Pointwise

@[expose] public section

set_option maxRecDepth 16384

noncomputable section

open Idealize.ShloMosaic Idealize.ShloMosaic.TcCoe
open Cert.ReferenceIdeal Cert.ReferenceIdeal.Gen

namespace Cert.KernelIdeal.Moe

/-! ## The reference's operations, composed -/

section
variable {F : FTy → Type} [FloatOps F] (x : FVec F S2048x512 .f32) (rw : FVec F S512x128 .f32) (ri : IVec S2048x1 32) (ew : FVec F S128x512x1024 .f32) (sw : FVec F S512x1024 .f32)

/-- The router's scores. -/
def refScores : FVec F S2048x128 .f32 := Host.dotGeneral dot_S2048x512_S512x128_S2048x128_1_0_0_1_n_n none x rw
/-- Their exponentials, each row's largest score taken off. -/
def refExp : FVec F S2048x128 .f32 :=
  Host.exp (subf (refScores x rw) (broadcastInDim S2048x128 ![0, 1] bcast_S2048x1_S2048x128_0_1 (broadcastInDim S2048x1 ![0] bcast_S2048_S2048x1_0
    (Host.reduce FloatOps.maximumf (refScores x rw) (constant S_ .f32 0xFF800000#32) reducesTo_S2048x128_S2048_d1 h_S_))))
/-- The gate: a token's softmax weight at its own expert, zero at the others. -/
def refGate : FVec F S2048x128 .f32 :=
  select (cmpi .eq (iotaInDim S2048x128 32 1) (broadcastInDim S2048x128 ![0, 1] bcast_S2048x1_S2048x128_0_1 ri))
    (Host.divf (refExp x rw) (broadcastInDim S2048x128 ![0, 1] bcast_S2048x1_S2048x128_0_1 (broadcastInDim S2048x1 ![0] bcast_S2048_S2048x1_0
      (Host.reduceAdd (refExp x rw) (constant S_ .f32 0x00000000#32) reducesTo_S2048x128_S2048_d1 h_S_))))
    (broadcastInDim S2048x128 ![] bcast_S_S2048x128 (id (constant S_ .f32 0x00000000#32)))
/-- The result: the shared expert's product plus the gated sum of the experts' products. -/
def refOut : FVec F S2048x1024 .f32 :=
  addf (Host.dotGeneral dot_S2048x512_S512x1024_S2048x1024_1_0_0_1_n_n none x sw)
    (Host.reduceAdd (mulf (broadcastInDim S2048x128x1024 ![0, 1, 2] bcast_S2048x128x1_S2048x128x1024_0_1_2 (broadcastInDim S2048x128x1 ![0, 1] bcast_S2048x128_S2048x128x1_0_1 (refGate x rw ri)))
      (Host.dotGeneral dot_S2048x512_S128x512x1024_S2048x128x1024_1_1_0_02_n_n none x ew)) (constant S_ .f32 0x00000000#32) reducesTo_S2048x128x1024_S2048x1024_d1 h_S_)
end

variable (x : FVec Ideal S2048x512 .f32) (rw : FVec Ideal S512x128 .f32) (ri : IVec S2048x1 32) (ew : FVec Ideal S128x512x1024 .f32) (sw : FVec Ideal S512x1024 .f32)

/-- The reference's score at an index; -/
theorem refScores_apply (i : Fin 2048) (e : Fin 128) : refScores x rw (ix2 i e) = scoreRow x rw i e := by
  pointwise [refScores]
  rfl

/-- its exponential; -/
theorem refExp_apply (i : Fin 2048) (e : Fin 128) : refExp x rw (ix2 i e) = rowExp mInit (scoreRow x rw i) e := by
  pointwise [refExp]
  simp only [refScores_apply]
  rfl

/-- its gate. -/
theorem refGate_apply (i : Fin 2048) (e : Fin 128) :
    refGate x rw ri (ix2 i e) = if BitVec.ofNat 32 e.val = ri (ix2 i 0) then rowProb mInit (scoreRow x rw i) e else 0 := by
  pointwise [refGate, id_eq]
  simp only [refExp_apply, select_eq]
  rfl

/-- The reference's result at an index. -/
theorem refOut_apply (r : Fin 2048) (h : Fin 1024) :
    refOut x rw ri ew sw (ix2 r h) = (∑ k : Fin 512, x (ix2 r k) * sw (ix2 k h))
      + ∑ e : Fin 128, (if BitVec.ofNat 32 e.val = ri (ix2 r 0) then rowProb mInit (scoreRow x rw r) e else 0) * ∑ k : Fin 512, x (ix2 r k) * ew (ix3 e k h) := by
  pointwise [refOut]
  simp only [refGate_apply]

end Cert.KernelIdeal.Moe
end
-- ==== Proof.Result.lean ====
/- The result array over the extended reals: every device's is the reference's result of the whole arrays. -/
module

public import proofs.«01_k».proof.Pre_finite_scores_KernelIdeal
public import proofs.«01_k».proof.Proof.Run
public import proofs.«01_k».proof.Proof.Value
public import proofs.«01_k».proof.Proof.RefValue
public import Idealize.ShloMosaic.Lib.Pipeline.Value
public import Idealize.ShloMosaic.Lib.Layout

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Moe

section
variable {F : FTy → Type} [FloatOps F] (m : (ℓ : Loc nD τ sig) → Buf (Elt F) ℓ)

/-! ## The windows are the whole arrays -/

/-- The body's tokens are the first argument, -/
theorem blk_x (d : Dev nD) : (ins m d).x = m ((d : Thread nD τ).loc main_arg0) :=
  funext fun y => congrArg (m ((d : Thread nD τ).loc main_arg0)) (funext fun a => Fin.ext (by
    show win0_0.index t₀ a * win0_0.size a + 1 * (y a).val = (y a).val
    rw [show win0_0.index t₀ a * win0_0.size a = 0 by fin_cases a <;> rfl]; omega))
/-- its router the second, -/
theorem blk_rw (d : Dev nD) : (ins m d).rw = m ((d : Thread nD τ).loc main_arg1) :=
  funext fun y => congrArg (m ((d : Thread nD τ).loc main_arg1)) (funext fun a => Fin.ext (by
    show win0_1.index t₀ a * win0_1.size a + 1 * (y a).val = (y a).val
    rw [show win0_1.index t₀ a * win0_1.size a = 0 by fin_cases a <;> rfl]; omega))
/-- its experts' indices the third, -/
theorem blk_ri (d : Dev nD) : (ins m d).ri = m ((d : Thread nD τ).loc main_arg2) :=
  funext fun y => congrArg (m ((d : Thread nD τ).loc main_arg2)) (funext fun a => Fin.ext (by
    show win0_2.index t₀ a * win0_2.size a + 1 * (y a).val = (y a).val
    rw [show win0_2.index t₀ a * win0_2.size a = 0 by fin_cases a <;> rfl]; omega))
/-- its experts the fourth, -/
theorem blk_ew (d : Dev nD) : (ins m d).ew = m ((d : Thread nD τ).loc main_arg3) :=
  funext fun y => congrArg (m ((d : Thread nD τ).loc main_arg3)) (funext fun a => Fin.ext (by
    show win0_3.index t₀ a * win0_3.size a + 1 * (y a).val = (y a).val
    rw [show win0_3.index t₀ a * win0_3.size a = 0 by fin_cases a <;> rfl]; omega))
/-- its shared expert the fifth. -/
theorem blk_sw (d : Dev nD) : (ins m d).sw = m ((d : Thread nD τ).loc main_arg4) :=
  funext fun y => congrArg (m ((d : Thread nD τ).loc main_arg4)) (funext fun a => Fin.ext (by
    show win0_4.index t₀ a * win0_4.size a + 1 * (y a).val = (y a).val
    rw [show win0_4.index t₀ a * win0_4.size a = 0 by fin_cases a <;> rfl]; omega))

/-- The output's window at its point, at an index. -/
theorem out_emb (y : S2048x1024.Idx) : (win0_5.blk t₀).view.emb y = y :=
  funext fun a => Fin.ext (by
    show win0_5.index t₀ a * win0_5.size a + 1 * (y a).val = (y a).val
    rw [show win0_5.index t₀ a * win0_5.size a = 0 by fin_cases a <;> rfl]; omega)

/-- The result array ends at what the body computes. -/
theorem final_out (d : Dev nD) : finalA m d 5 = fin (ins m) d :=
  (dats m 0 d).arrAt_eq_of_cover 5 (fin (ins m) d)
    (fun t _ => by
      obtain rfl : t = t₀ := fin_N0 t
      show fin (ins m) d = _
      exact funext fun y => congrArg (fin (ins m) d) (out_emb y).symm)
    (fun i => ⟨t₀, flush0_5 t₀, by
      rw [← out_emb i]; exact Finset.mem_map_of_mem _ (Finset.mem_univ i)⟩)
end

/-! ## Kernel and reference -/

/-- Different experts have different words. -/
theorem word_inj (e e' : Fin 128) (w : BitVec 32) (h : BitVec.ofNat 32 e.val = w) (h' : BitVec.ofNat 32 e'.val = w) : e = e' := by
  have h := congrArg BitVec.toNat (h.trans h'.symm)
  simp only [BitVec.toNat_ofNat] at h
  exact Fin.ext (by omega)

/-- What the body computes from copies of the replicated arguments and blocks of the experts is the reference's result,
    where the router's scores are finite. -/
theorem fin_eq_ref (I : Dev nD → Ins Ideal) (d : Dev nD) (x : FVec Ideal S2048x512 .f32) (rw : FVec Ideal S512x128 .f32) (ri : IVec S2048x1 32)
    (ew : FVec Ideal Cert.ReferenceIdeal.S128x512x1024 .f32) (sw : FVec Ideal S512x1024 .f32)
    (hx : ∀ c, (I c).x = x) (hrw : ∀ c, (I c).rw = rw) (hri : ∀ c, (I c).ri = ri)
    (hew : ∀ c, (I c).ew = Layout.block ⟨3, ![8, 512, 1024]⟩ ⟨3, ![128, 512, 1024]⟩ 0 16 c ew) (hsw : ∀ c, (I c).sw = sw)
    (hs : ∀ r, RowFinite (scoreRow x rw r)) : fin I d = refOut x rw ri ew sw := by
  refine funext fun (y : S2048x1024.Idx) => ?_
  obtain ⟨r, h, rfl⟩ : ∃ (r : Fin 2048) (h : Fin 1024), y = ix2 r h := ⟨y 0, y 1, by idx_vars y⟩
  rw [fin_apply, refOut_apply, add_comm]
  congr 1
  · simp only [hx, hsw]
  · rw [← sum_experts]
    refine Finset.sum_congr rfl fun c _ => Finset.sum_congr rfl fun e _ => ?_
    rw [← gate_row mInit_ne_top (hs r) (fun j => BitVec.ofNat 32 j.val = ri (ix2 r 0)) (fun a b ha hb => word_inj a b _ ha hb)]
    refine Finset.sum_congr rfl fun k _ => ?_
    rw [hx, hri, show (I c).cf = coefVal (I c).x (I c).rw (I c).ri from rfl, hx, hrw, hri, coefVal_apply]
    have hw : (I c).ew (ix3 e k h) = ew (ix3 ⟨8 * c.val + e.val, by have := c.isLt; simp only [nD] at this; omega⟩ k h) := by
      rw [hew, Layout.block_apply]
      refine congrArg ew (funext fun a => Fin.ext ?_)
      rw [Layout.Tiles.idx_val]
      fin_cases a
      · show c.val * 8 + e.val = 8 * c.val + e.val
        omega
      · rfl
      · rfl
    rw [hw]
    exact if_congr eq_comm rfl rfl

/-! ## The precondition -/

/-- An absolute value below infinity is a finite number's. -/
theorem abs_lt_top (a : EReal) (h : max a (-a) < ⊤) : a ≠ ⊤ ∧ a ≠ ⊥ := by
  rw [max_lt_iff] at h
  exact ⟨h.1.ne, fun hb => h.2.ne (by rw [hb]; rfl)⟩

/-- A bit that is one is a true comparison. -/
theorem of_bool_one {b : Bool} (h : BitVec.ofBool b = 1#1) : b = true := by
  cases b
  · exact absurd h (by decide)
  · rfl

/-- The precondition says of every row that its scores are finite. -/
theorem rows_finite [Cert.Pre_finite_scores_KernelIdeal.Facts] (x : FVec Ideal S2048x512 .f32) (rw : FVec Ideal S512x128 .f32) (ri : IVec S2048x1 32)
    (ew : FVec Ideal S8x512x1024 .f32) (sw : FVec Ideal S512x1024 .f32)
    (h : Cert.Pre_finite_scores_KernelIdeal.fn (F := Ideal) x rw ri ew sw = fun _ => 1#1) (i : Fin 2048) : RowFinite (scoreRow x rw i) := fun e => by
  have h := congrFun h (ix2 i e)
  pointwise [Cert.Pre_finite_scores_KernelIdeal.fn] at h
  have h := of_decide_eq_true (of_bool_one h)
  rw [show Ideal.ofBits .f32 0x7F800000#32 = ⊤ by simp [Ideal.ofBits, Ideal.ieee]] at h
  exact abs_lt_top _ h

end Cert.KernelIdeal.Moe
end
-- ==== Proof.lean ====
/- The claims: on all devices the kernel ends with its inputs unchanged and every semaphore at zero, at its own float
   values and over the reals; so does the reference; the kernel over the reals is the kernel's own text; and where the
   router's scores are finite, every device of the kernel ends with the reference's result. -/
module

public import proofs.«01_k».proof.Defs
public import proofs.«01_k».proof.Proof.Run
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

variable {F : FTy → Type} [FloatOps F]

/-- The kernel's body table is that of the program it is proved through, the same text at any float values; -/
theorem table₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact rfl
  | ⟨_ + 1, h⟩, _ => exact absurd h (Nat.not_lt.2 (Nat.le_add_left _ _))
/-- with the region's. -/
theorem table : Cert.Kernel.defs (F := F) = Cert.KernelIdeal.defs (F := F) := by
  unfold Cert.Kernel.defs Cert.KernelIdeal.defs
  exact congrArg (Pipeline.defs Cert.KernelIdeal.pcfgs) (table₀ (F := F))

/-- The kernel ends, its inputs unchanged and every semaphore at zero; -/
theorem frame_kernel : Cert.quiescent_Kernel := fun m ρ _ => by
  have h := Cert.KernelIdeal.Moe.run_frame (F := Bits) m ρ
  rw [← table] at h
  exact h

/-- so does the kernel over the reals, -/
theorem frame_ideal : Cert.quiescent_KernelIdeal := fun m ρ _ => Cert.KernelIdeal.Moe.run_frame (F := Ideal) m ρ

/-- and the reference, which has no semaphore. -/
theorem frame_reference : Cert.quiescent_ReferenceIdeal := fun m ρ _ =>
  (θ_run Cert.ReferenceIdeal.defs _ _).mono (fun _ h => ⟨fun c => (h c).2, funext fun g => by
    rcases g with ⟨_, s | s⟩ <;> exact s.elim0⟩) (Cert.ReferenceIdeal.Value.run (F := Ideal) m ρ)

/-- The side conditions of the precondition's operations, at the kernel's shapes; -/
theorem pre_kernel : Cert.Pre_finite_scores_KernelIdeal.Facts := ⟨by decide, by decide⟩
/-- at the reference's. -/
theorem pre_reference : Cert.Pre_finite_scores_ReferenceIdeal.Facts := ⟨by decide, by decide⟩

/-- Of one array and blocks of the experts on each device, with finite scores, every device of the kernel ends with the
    result of the reference; -/
theorem same : Cert.algebraic_KernelIdeal_ReferenceIdeal_pre_finite_scores_KernelIdeal (hPre_finite_scores_KernelIdeal := pre_kernel) :=
  letI := pre_kernel
  fun m g m' g' hpre hin => ⟨_,
    (θ_run Cert.KernelIdeal.defs _ _).mono (fun r h c => by
      have hq := h.1
      refine ⟨(hq c 5).trans ((Cert.KernelIdeal.Moe.final_out m c).trans
        (Cert.KernelIdeal.Moe.fin_eq_ref (Cert.KernelIdeal.Moe.ins m) c _ _ _ _ _
          (fun c => (Cert.KernelIdeal.Moe.blk_x m c).trans (hin c).1) (fun c => (Cert.KernelIdeal.Moe.blk_rw m c).trans (hin c).2.1)
          (fun c => (Cert.KernelIdeal.Moe.blk_ri m c).trans (hin c).2.2.1) (fun c => (Cert.KernelIdeal.Moe.blk_ew m c).trans (hin c).2.2.2.1)
          (fun c => (Cert.KernelIdeal.Moe.blk_sw m c).trans (hin c).2.2.2.2)
          (fun i => by
            have := Cert.KernelIdeal.Moe.rows_finite _ _ _ _ _ (hpre 0) i
            rw [(hin 0).1, (hin 0).2.1] at this
            exact this))), ?_, ?_, ?_, ?_, ?_⟩
      · exact (hq c 0).trans ((Cert.KernelIdeal.Moe.dats m 0 c).arrAt_in 0 rfl _)
      · exact (hq c 1).trans ((Cert.KernelIdeal.Moe.dats m 0 c).arrAt_in 1 rfl _)
      · exact (hq c 2).trans ((Cert.KernelIdeal.Moe.dats m 0 c).arrAt_in 2 rfl _)
      · exact (hq c 3).trans ((Cert.KernelIdeal.Moe.dats m 0 c).arrAt_in 3 rfl _)
      · exact (hq c 4).trans ((Cert.KernelIdeal.Moe.dats m 0 c).arrAt_in 4 rfl _)) (Cert.KernelIdeal.Moe.run_main (F := Ideal) m g),
    (θ_run Cert.ReferenceIdeal.defs _ _).mono (fun r h => h 0) (Cert.ReferenceIdeal.Value.run (F := Ideal) m' g')⟩

/-- all the claims. -/
theorem claim : Cert.Claim := ⟨Cert.Kernel.Gen.facts, Cert.KernelIdeal.Gen.facts, Cert.ReferenceIdeal.Gen.facts, pre_kernel, pre_reference,
  frame_kernel, frame_ideal, fun m g _ => frame_ideal m g trivial, frame_reference, fun m g _ => frame_reference m g trivial, trivial, same⟩

end Cert.Proof

end
